-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 [hPre_on_core2_own : Cert.Pre_on_core2_own.Facts] (m : (ℓ : Loc Cert.Kernel12.nD Cert.Kernel12.τ Cert.Kernel12.sig) → Buf (Elt Bits) ℓ) : Prop :=
  ∀ c : Dev Cert.Kernel12.nD,
    (Cert.Pre_on_core2_own.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3))) = (fun _ => 1#1)

def Pre_Kernel12Ideal [hPre_on_core2_own : Cert.Pre_on_core2_own.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_on_core2_own.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_on_core2_own [hPre_on_core2_own : Cert.Pre_on_core2_own.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_on_core2_own.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 [hPre_on_core2_sib : Cert.Pre_on_core2_sib.Facts] (m : (ℓ : Loc Cert.Kernel13.nD Cert.Kernel13.τ Cert.Kernel13.sig) → Buf (Elt Bits) ℓ) : Prop :=
  ∀ c : Dev Cert.Kernel13.nD,
    (Cert.Pre_on_core2_sib.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2))) = (fun _ => 1#1)

def Pre_Kernel13Ideal [hPre_on_core2_sib : Cert.Pre_on_core2_sib.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_on_core2_sib.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_on_core2_sib [hPre_on_core2_sib : Cert.Pre_on_core2_sib.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_on_core2_sib.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 [hPre_on_core1_own : Cert.Pre_on_core1_own.Facts] (m : (ℓ : Loc Cert.Kernel14.nD Cert.Kernel14.τ Cert.Kernel14.sig) → Buf (Elt Bits) ℓ) : Prop :=
  ∀ c : Dev Cert.Kernel14.nD,
    (Cert.Pre_on_core1_own.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3))) = (fun _ => 1#1)

def Pre_Kernel14Ideal [hPre_on_core1_own : Cert.Pre_on_core1_own.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_on_core1_own.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_on_core1_own [hPre_on_core1_own : Cert.Pre_on_core1_own.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_on_core1_own.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 [hPre_on_core1_sib : Cert.Pre_on_core1_sib.Facts] (m : (ℓ : Loc Cert.Kernel15.nD Cert.Kernel15.τ Cert.Kernel15.sig) → Buf (Elt Bits) ℓ) : Prop :=
  ∀ c : Dev Cert.Kernel15.nD,
    (Cert.Pre_on_core1_sib.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2))) = (fun _ => 1#1)

def Pre_Kernel15Ideal [hPre_on_core1_sib : Cert.Pre_on_core1_sib.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_on_core1_sib.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_on_core1_sib [hPre_on_core1_sib : Cert.Pre_on_core1_sib.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_on_core1_sib.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] [hPre_on_core2_own : Cert.Pre_on_core2_own.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] [hPre_on_core2_own : Cert.Pre_on_core2_own.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_on_core2_own [hReference12Ideal : Cert.Reference12Ideal.Facts] [hPre_on_core2_own : Cert.Pre_on_core2_own.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_on_core2_own m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] [hPre_on_core2_sib : Cert.Pre_on_core2_sib.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] [hPre_on_core2_sib : Cert.Pre_on_core2_sib.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_on_core2_sib [hReference13Ideal : Cert.Reference13Ideal.Facts] [hPre_on_core2_sib : Cert.Pre_on_core2_sib.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_on_core2_sib m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] [hPre_on_core1_own : Cert.Pre_on_core1_own.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] [hPre_on_core1_own : Cert.Pre_on_core1_own.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_on_core1_own [hReference14Ideal : Cert.Reference14Ideal.Facts] [hPre_on_core1_own : Cert.Pre_on_core1_own.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_on_core1_own m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] [hPre_on_core1_sib : Cert.Pre_on_core1_sib.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] [hPre_on_core1_sib : Cert.Pre_on_core1_sib.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_on_core1_sib [hReference15Ideal : Cert.Reference15Ideal.Facts] [hPre_on_core1_sib : Cert.Pre_on_core1_sib.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_on_core1_sib m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)) (v6 : (c : Dev Cert.KernelIdeal.nD) → Buf (Elt Ideal) ((c.tc : Thread Cert.KernelIdeal.nD Cert.KernelIdeal.τ).loc Cert.KernelIdeal.main_v14_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_v14_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v196) = v2 c
          ∧ r.2.mem ((c.tc : Thread Cert.ReferenceIdeal.nD Cert.ReferenceIdeal.τ).loc Cert.ReferenceIdeal.main_v197) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_v130) = v5 c
          ∧ r.2.mem ((c.tc : Thread Cert.ReferenceIdeal.nD Cert.ReferenceIdeal.τ).loc Cert.ReferenceIdeal.main_v198) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] [hPre_on_core2_own : Cert.Pre_on_core2_own.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] [hPre_on_core2_sib : Cert.Pre_on_core2_sib.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] [hPre_on_core1_own : Cert.Pre_on_core1_own.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] [hPre_on_core1_sib : Cert.Pre_on_core1_sib.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v15) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v52) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v28) = v2 c
          ∧ r.2.mem ((c.tc : Thread Cert.Reference16Ideal.nD Cert.Reference16Ideal.τ).loc Cert.Reference16Ideal.main_v25) = v3 c
          ∧ r.2.mem ((c.tc : Thread Cert.Reference16Ideal.nD Cert.Reference16Ideal.τ).loc Cert.Reference16Ideal.main_v60) = v4 c
          ∧ r.2.mem ((c.tc : Thread Cert.Reference16Ideal.nD Cert.Reference16Ideal.τ).loc Cert.Reference16Ideal.main_v59) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v22) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v19) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v54) = v0 c
          ∧ r.2.mem ((c.tc : Thread Cert.Reference19Ideal.nD Cert.Reference19Ideal.τ).loc Cert.Reference19Ideal.main_v40) = v1 c
          ∧ r.2.mem ((c.tc : Thread Cert.Reference19Ideal.nD Cert.Reference19Ideal.τ).loc Cert.Reference19Ideal.main_v60) = v2 c
          ∧ r.2.mem ((c.tc : Thread Cert.Reference19Ideal.nD Cert.Reference19Ideal.τ).loc Cert.Reference19Ideal.main_v61) = v3 c
          ∧ r.2.mem ((c.tc : Thread Cert.Reference19Ideal.nD Cert.Reference19Ideal.τ).loc Cert.Reference19Ideal.main_v59) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite_inputs : Cert.Pre_finite_inputs.Facts) (hPre_on_core2_own : Cert.Pre_on_core2_own.Facts) (hPre_on_core2_sib : Cert.Pre_on_core2_sib.Facts) (hPre_on_core1_own : Cert.Pre_on_core1_own.Facts) (hPre_on_core1_sib : Cert.Pre_on_core1_sib.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12) (hPre_on_core2_own := hPre_on_core2_own)
    ∧ quiescent_Kernel12Ideal (hKernel12Ideal := hKernel12Ideal) (hPre_on_core2_own := hPre_on_core2_own)
    ∧ quiescent_Reference12Ideal (hReference12Ideal := hReference12Ideal)
    ∧ quiescent_Reference12Ideal_pre_on_core2_own (hReference12Ideal := hReference12Ideal) (hPre_on_core2_own := hPre_on_core2_own)
    ∧ quiescent_Kernel13 (hKernel13 := hKernel13) (hPre_on_core2_sib := hPre_on_core2_sib)
    ∧ quiescent_Kernel13Ideal (hKernel13Ideal := hKernel13Ideal) (hPre_on_core2_sib := hPre_on_core2_sib)
    ∧ quiescent_Reference13Ideal (hReference13Ideal := hReference13Ideal)
    ∧ quiescent_Reference13Ideal_pre_on_core2_sib (hReference13Ideal := hReference13Ideal) (hPre_on_core2_sib := hPre_on_core2_sib)
    ∧ quiescent_Kernel14 (hKernel14 := hKernel14) (hPre_on_core1_own := hPre_on_core1_own)
    ∧ quiescent_Kernel14Ideal (hKernel14Ideal := hKernel14Ideal) (hPre_on_core1_own := hPre_on_core1_own)
    ∧ quiescent_Reference14Ideal (hReference14Ideal := hReference14Ideal)
    ∧ quiescent_Reference14Ideal_pre_on_core1_own (hReference14Ideal := hReference14Ideal) (hPre_on_core1_own := hPre_on_core1_own)
    ∧ quiescent_Kernel15 (hKernel15 := hKernel15) (hPre_on_core1_sib := hPre_on_core1_sib)
    ∧ quiescent_Kernel15Ideal (hKernel15Ideal := hKernel15Ideal) (hPre_on_core1_sib := hPre_on_core1_sib)
    ∧ quiescent_Reference15Ideal (hReference15Ideal := hReference15Ideal)
    ∧ quiescent_Reference15Ideal_pre_on_core1_sib (hReference15Ideal := hReference15Ideal) (hPre_on_core1_sib := hPre_on_core1_sib)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal) (hPre_on_core2_own := hPre_on_core2_own)
    ∧ preserves_Kernel13_Kernel13Ideal
    ∧ algebraic_Kernel13Ideal_Reference13Ideal (hKernel13Ideal := hKernel13Ideal) (hReference13Ideal := hReference13Ideal) (hPre_on_core2_sib := hPre_on_core2_sib)
    ∧ preserves_Kernel14_Kernel14Ideal
    ∧ algebraic_Kernel14Ideal_Reference14Ideal (hKernel14Ideal := hKernel14Ideal) (hReference14Ideal := hReference14Ideal) (hPre_on_core1_own := hPre_on_core1_own)
    ∧ preserves_Kernel15_Kernel15Ideal
    ∧ algebraic_Kernel15Ideal_Reference15Ideal (hKernel15Ideal := hKernel15Ideal) (hReference15Ideal := hReference15Ideal) (hPre_on_core1_sib := hPre_on_core1_sib)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite_inputs.lean ====
abbrev S2x2048x4608 : Shape := ⟨3, ![2, 2048, 4608]⟩
abbrev S2x2048x2048 : Shape := ⟨3, ![2, 2048, 2048]⟩
abbrev S4x128 : Shape := ⟨2, ![4, 128]⟩
abbrev S4x128x128 : Shape := ⟨3, ![4, 128, 128]⟩
abbrev S512 : Shape := ⟨1, ![512]⟩
abbrev S_ : Shape := ⟨0, ![]⟩

class Facts : Prop where
  bcast_S_S2x2048x4608 : S_.BroadcastsInDim S2x2048x4608 (![] : Fin 0 → Fin S2x2048x4608.rank)
  reducesTo_S2x2048x4608_S_d0_1_2 : S2x2048x4608.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S4x128x128 .f32) (main_arg5 : FVec F S4x128 .f32) (main_arg6 : FVec F S512 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg4
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S2x2048x4608 .f32) (main_arg1 : FVec F S2x2048x2048 .bf16) (main_arg2 : FVec F S4x128 .f32) (main_arg3 : FVec F S4x128 .f32) (main_arg4 : FVec F S4x128x128 .f32) (main_arg5 : FVec F S4x128 .f32) (main_arg6 : FVec F S512 .f32) : IVec S_ 1 :=
  let main_v0 : FVec F S2x2048x4608 .f32 := Host.absf main_arg0
  let main_cst : FVec F S_ .f32 := constant S_ .f32 0x7F800000#32
  let main_v1 : FVec F S2x2048x4608 .f32 := broadcastInDim S2x2048x4608 ![] bcast_S_S2x2048x4608 main_cst
  let main_v2 : IVec S2x2048x4608 1 := cmpf .olt main_v0 main_v1
  let main_c : IVec S_ 1 := constantI S_ 1 1#1
  let main_v3 : IVec S_ 1 := (fun x v => Host.reduce IntOp.andi x v reducesTo_S2x2048x4608_S_d0_1_2 h_S_) main_v2 main_c
  let main_v4 : FVec F S2x2048x2048 .bf16 := Host.absf main_arg1
  let main_cst_0 : FVec F S_ .bf16 := constant S_ .bf16 0x7F80#16
  let main_v5 : FVec F S2x2048x2048 .bf16 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_v13 main_v16
-- ==== Pre_on_core1_own.lean ====
abbrev S4096x2048 : Shape := ⟨2, ![4096, 2048]⟩
abbrev S4096x8192 : Shape := ⟨2, ![4096, 8192]⟩
abbrev S4x2048x1024 : Shape := ⟨3, ![4, 2048, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x2048 .bf16) (main_arg1 : FVec F S4096x8192 .bf16) (main_arg2 : FVec F S4x2048x1024 .bf16) (main_arg3 : IVec S1 32) : IVec S_ 1 :=
  let main_v0 : IVec S_ 32 := shapeCast S_ main_arg3 shapeCasts_S1_S_
  let main_c : IVec S_ 32 := constantI S_ 32 0#32
  let main_v1 : IVec S_ 1 := cmpi .eq main_v0 main_c
  let main_v2 : IVec S_ 32 := shapeCast S_ main_arg3 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_on_core1_sib.lean ====
abbrev S4096x2048 : Shape := ⟨2, ![4096, 2048]⟩
abbrev S4096x8192 : Shape := ⟨2, ![4096, 8192]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x2048 .bf16) (main_arg1 : FVec F S4096x8192 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_on_core2_own.lean ====
abbrev S4096x8192 : Shape := ⟨2, ![4096, 8192]⟩
abbrev S4096x2048 : Shape := ⟨2, ![4096, 2048]⟩
abbrev S4x1024x2048 : Shape := ⟨3, ![4, 1024, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x8192 .bf16) (main_arg1 : FVec F S4096x2048 .bf16) (main_arg2 : FVec F S4x1024x2048 .bf16) (main_arg3 : IVec S1 32) : IVec S_ 1 :=
  let main_v0 : IVec S_ 32 := shapeCast S_ main_arg3 shapeCasts_S1_S_
  let main_c : IVec S_ 32 := constantI S_ 32 0#32
  let main_v1 : IVec S_ 1 := cmpi .eq main_v0 main_c
  let main_v2 : IVec S_ 32 := shapeCast S_ main_arg3 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_on_core2_sib.lean ====
abbrev S4096x8192 : Shape := ⟨2, ![4096, 8192]⟩
abbrev S4096x2048 : Shape := ⟨2, ![4096, 2048]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x8192 .bf16) (main_arg1 : FVec F S4096x2048 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Kernel.lean ====
abbrev S2x2048x4608 : Shape := ⟨3, ![2, 2048, 4608]⟩
abbrev S2x2048x2048 : Shape := ⟨3, ![2, 2048, 2048]⟩
abbrev S4x128 : Shape := ⟨2, ![4, 128]⟩
abbrev S4x128x128 : Shape := ⟨3, ![4, 128, 128]⟩
abbrev S512 : Shape := ⟨1, ![512]⟩
abbrev S_ : Shape := ⟨0, ![]⟩
abbrev S128x128 : Shape := ⟨2, ![128, 128]⟩
abbrev S1x128x128 : Shape := ⟨3, ![1, 128, 128]⟩
abbrev S1x512 : Shape := ⟨2, ![1, 512]⟩
abbrev S128x4 : Shape := ⟨2, ![128, 4]⟩
abbrev S128x4x128 : Shape := ⟨3, ![128, 4, 128]⟩
abbrev S128x512 : Shape := ⟨2, ![128, 512]⟩
abbrev S2x2048x512 : Shape := ⟨3, ![2, 2048, 512]⟩
abbrev S1x512x512 : Shape := ⟨3, ![1, 512, 512]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩
abbrev S128 : Shape := ⟨1, ![128]⟩

abbrev nBuf : Space → Nat
  | .hbm => 37
  | .vmem => 21
  | .smem => 0
  | _ => 0

abbrev bufTy : (tb : Table) → Fin (tcTables nBuf tb) → BufTy
  | .hbm, ⟨0, _⟩ => ⟨S2x2048x4608, .f32⟩
  | .hbm, ⟨1, _⟩ => ⟨S2x2048x2048, .bf16⟩
  | .hbm, ⟨2, _⟩ => ⟨S4x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S512, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S4x128x128, .f32⟩
  | .hbm, ⟨20, _⟩ => ⟨S4x128x128, .f32⟩
  | .hbm, ⟨21, _⟩ => ⟨S1x512, .f32⟩
  | .hbm, ⟨22, _⟩ => ⟨S1x512, .f32⟩
  | .hbm, ⟨23, _⟩ => ⟨S4x128x128, .bf16⟩
  | .hbm, ⟨24, _⟩ => ⟨S4x128x128, .f32⟩
  | .hbm, ⟨25, _⟩ => ⟨S4x128x128, .bf16⟩
  | .hbm, ⟨26, _⟩ => ⟨S128x4, .f32⟩
  | .hbm, ⟨27, _⟩ => ⟨S128x4x128, .f32⟩
  | .hbm, ⟨28, _⟩ => ⟨S128x512, .f32⟩
  | .hbm, ⟨29, _⟩ => ⟨S1x512, .f32⟩
  | .hbm, ⟨30, _⟩ => ⟨S2x2048x512, .bf16⟩
  | .hbm, ⟨31, _⟩ => ⟨S2x2048x512, .bf16⟩
  | .hbm, ⟨32, _⟩ => ⟨S1x512, .f32⟩
  | .hbm, ⟨33, _⟩ => ⟨S1x512, .f32⟩
  | .hbm, ⟨34, _⟩ => ⟨S4x128x128, .f32⟩
  | .hbm, ⟨35, _⟩ => ⟨S128x512, .f32⟩
  | .hbm, ⟨36, _⟩ => ⟨S1x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S4x128x128, .bf16⟩
  | .local _ .vmem, ⟨9, _⟩ => ⟨S4x128x128, .bf16⟩
  | .local _ .vmem, ⟨10, _⟩ => ⟨S128x512, .f32⟩
  | .local _ .vmem, ⟨11, _⟩ => ⟨S1x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512, .f32⟩
  | .local _ .vmem, ⟨17, _⟩ => ⟨S1x512, .f32⟩
  | .local _ .vmem, ⟨18, _⟩ => ⟨S4x128x128, .f32⟩
  | .local _ .vmem, ⟨19, _⟩ => ⟨S128x512, .f32⟩
  | .local _ .vmem, ⟨20, _⟩ => ⟨S1x512, .f32⟩
  | _, _ => ⟨S2x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v14_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S2x2048x4608 : Shape := ⟨3, ![2, 2048, 4608]⟩
abbrev S2x2048x2048 : Shape := ⟨3, ![2, 2048, 2048]⟩
abbrev S4x128 : Shape := ⟨2, ![4, 128]⟩
abbrev S4x128x128 : Shape := ⟨3, ![4, 128, 128]⟩
abbrev S512 : Shape := ⟨1, ![512]⟩
abbrev S2x2048x512 : Shape := ⟨3, ![2, 2048, 512]⟩
abbrev S128x4 : Shape := ⟨2, ![128, 4]⟩
abbrev S128x4x128 : Shape := ⟨3, ![128, 4, 128]⟩
abbrev S128x512 : Shape := ⟨2, ![128, 512]⟩
abbrev S_ : Shape := ⟨0, ![]⟩
abbrev S2x16x128x4x128 : Shape := ⟨5, ![2, 16, 128, 4, 128]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S1x1x4x128 : Shape := ⟨4, ![1, 1, 4, 128]⟩
abbrev S128x128 : Shape := ⟨2, ![128, 128]⟩
abbrev S4x2x16x128x128 : Shape := ⟨5, ![4, 2, 16, 128, 128]⟩
abbrev S1x1x128x4x128 : Shape := ⟨5, ![1, 1, 128, 4, 128]⟩
abbrev S2x2048 : Shape := ⟨2, ![2, 2048]⟩
abbrev S2x2048x1 : Shape := ⟨3, ![2, 2048, 1]⟩
abbrev S1x1x512 : Shape := ⟨3, ![1, 1, 512]⟩
abbrev S1x512 : Shape := ⟨2, ![1, 512]⟩

abbrev nBuf : Space → Nat
  | .hbm => 266
  | .vmem => 0
  | .smem => 0
  | _ => 0

abbrev hbmTy0_0 (i : Nat) : BufTy := match i % 128 with
  | 0 => ⟨S2x2048x4608, .f32⟩
  | 1 => ⟨S2x2048x2048, .bf16⟩
  | 2 => ⟨S4x128, .f32⟩
  | 3 => ⟨S4x128, .f32⟩
  | 4 => ⟨S4x128x128, .f32⟩
  | 5 => ⟨S4x128, .f32⟩
  | 6 => ⟨S512, .f32⟩
  | 7 => ⟨S2x2048x512, .f32⟩
  | 8 => ⟨S2x2048x512, .f32⟩
  | 9 => ⟨S2x2048x2048, .f32⟩
  | 10 => ⟨S2x2048x512, .f32⟩
  | 11 => ⟨S128x4, .f32⟩
  | 12 => ⟨S128x4x128, .f32⟩
  | 13 => ⟨S128x512, .f32⟩
  | 14 => ⟨S_, .f32⟩
  | 15 => ⟨S_, .f32⟩
  | 16 => ⟨S_, .f32⟩
  | 17 => ⟨S2x2048x512, .f32⟩
  | 18 => ⟨S2x2048x512, .f32⟩
  | 19 => ⟨S2x2048x512, .f32⟩
  | 20 => ⟨S_, .f32⟩
  | 21 => ⟨S2x2048x512, .f32⟩
  | 22 => ⟨S2x2048x512, .f32⟩
  | 23 => ⟨S2x2048x512, .f32⟩
  | 24 => ⟨S2x2048x512, .f32⟩
  | 25 => ⟨S2x2048x512, .f32⟩
  | 26 => ⟨S_, .f32⟩
  | 27 => ⟨S2x2048x512, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S2x2048x512, .f32⟩
  | 44 => ⟨S2x16x128x4x128, .f32⟩
  | 45 => ⟨S_, .f32⟩
  | 46 => ⟨S_, .f32⟩
  | 47 => ⟨S_, .f32⟩
  | 48 => ⟨S2x2048x512, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S2x2048x512, .f32⟩
  | 61 => ⟨S_, .f32⟩
  | 62 => ⟨S2x2048x512, .f32⟩
  | 63 => ⟨S2x2048x512, .f32⟩
  | 64 => ⟨S_, .f32⟩
  | 65 => ⟨S2x2048x512, .f32⟩
  | 66 => ⟨S2x2048x512, .f32⟩
  | 67 => ⟨S2x2048x512, .f32⟩
  | 68 => ⟨S_, .f32⟩
  | 69 => ⟨S2x2048x512, .f32⟩
  | 70 => ⟨S2x2048x512, .f32⟩
  | 71 => ⟨S_, .f32⟩
  | 72 => ⟨S2x2048x512, .f32⟩
  | 73 => ⟨S2x2048x512, .f32⟩
  | 74 => ⟨S2x2048x512, .f32⟩
  | 75 => ⟨S2x2048x4x128, .f32⟩
  | 76 => ⟨S_, .f32⟩
  | 77 => ⟨S2x2048x4, .f32⟩
  | 78 => ⟨S2x2048x4x1, .f32⟩
  | 79 => ⟨S_, .f32⟩
  | 80 => ⟨S2x2048x4x1, .f32⟩
  | 81 => ⟨S2x2048x4x1, .f32⟩
  | 82 => ⟨S2x2048x4x128, .f32⟩
  | 83 => ⟨S2x2048x4x128, .f32⟩
  | 84 => ⟨S2x2048x4x128, .f32⟩
  | 85 => ⟨S_, .f32⟩
  | 86 => ⟨S2x2048x4, .f32⟩
  | 87 => ⟨S2x2048x4x1, .f32⟩
  | 88 => ⟨S_, .f32⟩
  | 89 => ⟨S2x2048x4x1, .f32⟩
  | 90 => ⟨S2x2048x4x1, .f32⟩
  | 91 => ⟨S_, .f32⟩
  | 92 => ⟨S2x2048x4x1, .f32⟩
  | 93 => ⟨S2x2048x4x1, .f32⟩
  | 94 => ⟨S2x2048x4x1, .f32⟩
  | 95 => ⟨S2x2048x4x1, .f32⟩
  | 96 => ⟨S_, .f32⟩
  | 97 => ⟨S2x2048x4x1, .f32⟩
  | 98 => ⟨S2x2048x4x1, .f32⟩
  | 99 => ⟨S2x2048x4x128, .f32⟩
  | 100 => ⟨S2x2048x4x128, .f32⟩
  | 101 => ⟨S1x1x4x128, .f32⟩
  | 102 => ⟨S2x2048x4x128, .f32⟩
  | 103 => ⟨S2x2048x4x128, .f32⟩
  | 104 => ⟨S1x1x4x128, .f32⟩
  | 105 => ⟨S2x2048x4x128, .f32⟩
  | 106 => ⟨S2x2048x4x128, .f32⟩
  | 107 => ⟨S2x16x128x4x128, .f32⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S4x128x128, .i1⟩
  | 115 => ⟨S_, .f32⟩
  | 116 => ⟨S4x128x128, .f32⟩
  | 117 => ⟨S4x128x128, .f32⟩
  | 118 => ⟨S_, .f32⟩
  | 119 => ⟨S4x128x128, .f32⟩
  | 120 => ⟨S4x2x16x128x128, .f32⟩
  | 121 => ⟨S2x16x128x4x128, .f32⟩
  | 122 => ⟨S128x4x128, .f32⟩
  | 123 => ⟨S1x1x128x4x128, .f32⟩
  | 124 => ⟨S2x16x128x4x128, .f32⟩
  | 125 => ⟨S2x16x128x4x128, .f32⟩
  | 126 => ⟨S2x16x128x4x128, .f32⟩
  | 127 => ⟨S2x2048x512, .f32⟩
  | _ => ⟨S2x2048x4608, .f32⟩

abbrev hbmTy0_1 (i : Nat) : BufTy := match i % 128 with
  | 0 => ⟨S2x2048x512, .f32⟩
  | 1 => ⟨S_, .f32⟩
  | 2 => ⟨S2x2048, .f32⟩
  | 3 => ⟨S2x2048x1, .f32⟩
  | 4 => ⟨S_, .f32⟩
  | 5 => ⟨S2x2048x1, .f32⟩
  | 6 => ⟨S2x2048x1, .f32⟩
  | 7 => ⟨S_, .f32⟩
  | 8 => ⟨S2x2048x1, .f32⟩
  | 9 => ⟨S2x2048x1, .f32⟩
  | 10 => ⟨S2x2048x1, .f32⟩
  | 11 => ⟨S2x2048x1, .f32⟩
  | 12 => ⟨S_, .f32⟩
  | 13 => ⟨S2x2048x1, .f32⟩
  | 14 => ⟨S2x2048x1, .f32⟩
  | 15 => ⟨S2x2048x512, .f32⟩
  | 16 => ⟨S2x2048x512, .f32⟩
  | 17 => ⟨S1x1x512, .f32⟩
  | 18 => ⟨S2x2048x512, .f32⟩
  | 19 => ⟨S2x2048x512, .f32⟩
  | 20 => ⟨S2x2048x512, .f32⟩
  | 21 => ⟨S_, .f32⟩
  | 22 => ⟨S512, .f32⟩
  | 23 => ⟨S1x1x512, .f32⟩
  | 24 => ⟨S2x2048x512, .f32⟩
  | 25 => ⟨S2x2048x512, .f32⟩
  | 26 => ⟨S_, .f32⟩
  | 27 => ⟨S512, .f32⟩
  | 28 => ⟨S2x2048x512, .f32⟩
  | 29 => ⟨S_, .f32⟩
  | 30 => ⟨S2x2048, .f32⟩
  | 31 => ⟨S2x2048x1, .f32⟩
  | 32 => ⟨S2x2048x512, .f32⟩
  | 33 => ⟨S2x2048x512, .f32⟩
  | 34 => ⟨S2x2048x1, .f32⟩
  | 35 => ⟨S_, .f32⟩
  | 36 => ⟨S2x2048x1, .f32⟩
  | 37 => ⟨S2x2048x1, .f32⟩
  | 38 => ⟨S_, .f32⟩
  | 39 => ⟨S2x2048, .f32⟩
  | 40 => ⟨S2x2048x512, .f32⟩
  | 41 => ⟨S2x2048x512, .f32⟩
  | 42 => ⟨S2x2048x512, .f32⟩
  | 43 => ⟨S2x2048x512, .f32⟩
  | 44 => ⟨S2x2048x512, .f32⟩
  | 45 => ⟨S2x16x128x4x128, .f32⟩
  | 46 => ⟨S2x16x128x4x128, .f32⟩
  | 47 => ⟨S2x16x128x4x128, .f32⟩
  | 48 => ⟨S_, .f32⟩
  | 49 => ⟨S128x4x128, .f32⟩
  | 50 => ⟨S1x1x128x4x128, .f32⟩
  | 51 => ⟨S_, .f32⟩
  | 52 => ⟨S128x4x128, .f32⟩
  | 53 => ⟨S128x512, .f32⟩
  | 54 => ⟨S4x2x16x128x128, .f32⟩
  | 55 => ⟨S4x128x128, .f32⟩
  | 56 => ⟨S4x2x16x128x128, .f32⟩
  | 57 => ⟨S2x16x128x4x128, .f32⟩
  | 58 => ⟨S_, .f32⟩
  | 59 => ⟨S4x128x128, .f32⟩
  | 60 => ⟨S4x128x128, .f32⟩
  | 61 => ⟨S2x2048x4x128, .f32⟩
  | 62 => ⟨S_, .f32⟩
  | 63 => ⟨S4x128, .f32⟩
  | 64 => ⟨S1x1x4x128, .f32⟩
  | 65 => ⟨S_, .f32⟩
  | 66 => ⟨S4x128, .f32⟩
  | 67 => ⟨S2x2048x4x128, .f32⟩
  | 68 => ⟨S_, .f32⟩
  | 69 => ⟨S4x128, .f32⟩
  | 70 => ⟨S1x1x4x128, .f32⟩
  | 71 => ⟨S2x2048x4x128, .f32⟩
  | 72 => ⟨S2x2048x4x128, .f32⟩
  | 73 => ⟨S_, .f32⟩
  | 74 => ⟨S4x128, .f32⟩
  | 75 => ⟨S2x2048x4x128, .f32⟩
  | 76 => ⟨S_, .f32⟩
  | 77 => ⟨S2x2048x4, .f32⟩
  | 78 => ⟨S2x2048x4x1, .f32⟩
  | 79 => ⟨S2x2048x4x128, .f32⟩
  | 80 => ⟨S2x2048x4x128, .f32⟩
  | 81 => ⟨S2x2048x4x1, .f32⟩
  | 82 => ⟨S_, .f32⟩
  | 83 => ⟨S2x2048x4x1, .f32⟩
  | 84 => ⟨S2x2048x4x1, .f32⟩
  | 85 => ⟨S_, .f32⟩
  | 86 => ⟨S2x2048x4, .f32⟩
  | 87 => ⟨S2x2048x4x128, .f32⟩
  | 88 => ⟨S2x2048x4x128, .f32⟩
  | 89 => ⟨S2x2048x4x128, .f32⟩
  | 90 => ⟨S2x2048x4x128, .f32⟩
  | 91 => ⟨S2x2048x4x128, .f32⟩
  | 92 => ⟨S2x2048x4x128, .f32⟩
  | 93 => ⟨S_, .f32⟩
  | 94 => ⟨S2x2048x4, .f32⟩
  | 95 => ⟨S2x2048x4x1, .f32⟩
  | 96 => ⟨S_, .f32⟩
  | 97 => ⟨S2x2048x4x1, .f32⟩
  | 98 => ⟨S2x2048x4x1, .f32⟩
  | 99 => ⟨S_, .f32⟩
  | 100 => ⟨S2x2048x4, .f32⟩
  | 101 => ⟨S2x2048x4x128, .f32⟩
  | 102 => ⟨S2x2048x4x128, .f32⟩
  | 103 => ⟨S2x2048x512, .f32⟩
  | 104 => ⟨S2x2048x512, .f32⟩
  | 105 => ⟨S2x2048x512, .f32⟩
  | 106 => ⟨S_, .f32⟩
  | 107 => ⟨S2x2048x512, .f32⟩
  | 108 => ⟨S2x2048x512, .f32⟩
  | 109 => ⟨S2x2048x512, .f32⟩
  | 110 => ⟨S_, .f32⟩
  | 111 => ⟨S2x2048x512, .f32⟩
  | 112 => ⟨S2x2048x512, .f32⟩
  | 113 => ⟨S2x2048x512, .f32⟩
  | 114 => ⟨S2x2048x512, .f32⟩
  | 115 => ⟨S2x2048x512, .f32⟩
  | 116 => ⟨S2x2048x512, .f32⟩
  | 117 => ⟨S2x2048x512, .f32⟩
  | 118 => ⟨S2x2048x512, .f32⟩
  | 119 => ⟨S2x2048x512, .f32⟩
  | 120 => ⟨S2x2048x512, .f32⟩
  | 121 => ⟨S_, .f32⟩
  | 122 => ⟨S2x2048x512, .f32⟩
  | 123 => ⟨S2x2048x512, .f32⟩
  | 124 => ⟨S2x2048x512, .f32⟩
  | 125 => ⟨S_, .f32⟩
  | 126 => ⟨S2x2048x512, .f32⟩
  | 127 => ⟨S2x2048x512, .f32⟩
  | _ => ⟨S2x2048x4608, .f32⟩

abbrev hbmTy0_2 (i : Nat) : BufTy := match i % 128 with
  | 0 => ⟨S2x2048x512, .f32⟩
  | 1 => ⟨S2x2048x512, .f32⟩
  | 2 => ⟨S2x2048x512, .f32⟩
  | 3 => ⟨S2x2048x512, .f32⟩
  | 4 => ⟨S2x2048x512, .f32⟩
  | 5 => ⟨S2x2048x512, .bf16⟩
  | 6 => ⟨S2x2048x512, .bf16⟩
  | 7 => ⟨S1x512, .f32⟩
  | 8 => ⟨S1x512, .f32⟩
  | 9 => ⟨S1x512, .f32⟩
  | _ => ⟨S2x2048x4608, .f32⟩

abbrev hbmTy (i : Nat) : BufTy := match i / 128 with
  | 0 => hbmTy0_0 i
  | 1 => hbmTy0_1 i
  | 2 => hbmTy0_2 i
  | _ => ⟨S2x2048x4608, .f32⟩

abbrev bufTy : (tb : Table) → Fin (tcTables nBuf tb) → BufTy
  | .hbm, ⟨i, _⟩ => hbmTy i
  | _, _ => ⟨S2x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_cst_18 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_20 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_call0_v0 : Ref sig .tc := ⟨.hbm, 108, rfl⟩
abbrev main_call0_c : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_v79_1 : Ref sig .tc := ⟨.hbm, 114, rfl⟩
abbrev main_call0_cst : Ref sig .tc := ⟨.hbm, 115, rfl⟩
abbrev main_call0_v6 : Ref sig .tc := ⟨.hbm, 116, rfl⟩
abbrev main_v79_0 : Ref sig .tc := ⟨.hbm, 117, rfl⟩
abbrev main_call0_cst_0 : Ref sig .tc := ⟨.hbm, 118, rfl⟩
abbrev main_v79_2 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_21 : Ref sig .tc := ⟨.hbm, 129, rfl⟩
abbrev main_v89 : Ref sig .tc := ⟨.hbm, 130, rfl⟩
abbrev main_v90 : Ref sig .tc := ⟨.hbm, 131, rfl⟩
abbrev main_cst_22 : Ref sig .tc := ⟨.hbm, 132, rfl⟩
abbrev main_v91 : Ref sig .tc := ⟨.hbm, 133, rfl⟩
abbrev main_v92 : Ref sig .tc := ⟨.hbm, 134, rfl⟩
abbrev main_cst_23 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_24 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_25 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_26 : Ref sig .tc := ⟨.hbm, 154, rfl⟩
abbrev main_v109 : Ref sig .tc := ⟨.hbm, 155, rfl⟩
abbrev main_v110 : Ref sig .tc := ⟨.hbm, 156, rfl⟩
abbrev main_cst_27 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_28 : Ref sig .tc := ⟨.hbm, 163, rfl⟩
abbrev main_v116 : Ref sig .tc := ⟨.hbm, 164, rfl⟩
abbrev main_v117 : Ref sig .tc := ⟨.hbm, 165, rfl⟩
abbrev main_cst_29 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_30 : Ref sig .tc := ⟨.hbm, 176, rfl⟩
abbrev main_v127 : Ref sig .tc := ⟨.hbm, 177, rfl⟩
abbrev main_v128 : Ref sig .tc := ⟨.hbm, 178, rfl⟩
abbrev main_cst_31 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_call1_cst : Ref sig .tc := ⟨.hbm, 186, rfl⟩
abbrev main_call1_v0 : Ref sig .tc := ⟨.hbm, 187, rfl⟩
abbrev main_v135 : Ref sig .tc := ⟨.hbm, 188, rfl⟩
abbrev main_v136 : Ref sig .tc := ⟨.hbm, 189, rfl⟩
abbrev main_cst_32 : Ref sig .tc := ⟨.hbm, 190, rfl⟩
abbrev main_v137 : Ref sig .tc := ⟨.hbm, 191, rfl⟩
abbrev main_v138 : Ref sig .tc := ⟨.hbm, 192, rfl⟩
abbrev main_cst_33 : Ref sig .tc := ⟨.hbm, 193, rfl⟩
abbrev main_v139 : Ref sig .tc := ⟨.hbm, 194, rfl⟩
abbrev main_v140 : Ref sig .tc := ⟨.hbm, 195, rfl⟩
abbrev main_cst_34 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_35 : Ref sig .tc := ⟨.hbm, 201, rfl⟩
abbrev main_v145 : Ref sig .tc := ⟨.hbm, 202, rfl⟩
abbrev main_v146 : Ref sig .tc := ⟨.hbm, 203, rfl⟩
abbrev main_cst_36 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_37 : Ref sig .tc := ⟨.hbm, 210, rfl⟩
abbrev main_v152 : Ref sig .tc := ⟨.hbm, 211, rfl⟩
abbrev main_v153 : Ref sig .tc := ⟨.hbm, 212, rfl⟩
abbrev main_cst_38 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_39 : Ref sig .tc := ⟨.hbm, 221, rfl⟩
abbrev main_v161 : Ref sig .tc := ⟨.hbm, 222, rfl⟩
abbrev main_v162 : Ref sig .tc := ⟨.hbm, 223, rfl⟩
abbrev main_cst_40 : Ref sig .tc := ⟨.hbm, 224, rfl⟩
abbrev main_v163 : Ref sig .tc := ⟨.hbm, 225, rfl⟩
abbrev main_v164 : Ref sig .tc := ⟨.hbm, 226, rfl⟩
abbrev main_cst_41 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_42 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_cst_43 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_cst_44 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_cst_45 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩

abbrev nD : Nat := 1
abbrev τ : Topo := Topo.v7x

variable {F : FTy → Type} [FloatOps F]
-- ==== Kernel2.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x2048, .f32⟩
  | .hbm, ⟨4, _⟩ => ⟨S8192x2048, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S4096x8192 : Shape := ⟨2, ![4096, 8192]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x2048 : Shape := ⟨2, ![4096, 2048]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v27 : BitVec 1 := Scalar.cmpi .eq arg2 c1_i32
  let v28 : BitVec 32 := Scalar.extui v27
  let c0_i32_20 : BitVec 32 := 0#32
  let v29 : BitVec 1 := Scalar.cmpi .ne v28 c0_i32_20
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x8192, .f32⟩
  | .hbm, ⟨3, _⟩ => ⟨S2048x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4096x2048 : Shape := ⟨2, ![4096, 2048]⟩
abbrev S2048x4608 : Shape := ⟨2, ![2048, 4608]⟩
abbrev S4096x4608 : Shape := ⟨2, ![4096, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4608, .bf16⟩
  | .hbm, ⟨2, _⟩ => ⟨S4096x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x4608 : Shape := ⟨2, ![2048, 4608]⟩
abbrev S4096x4608 : Shape := ⟨2, ![4096, 4608]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4608, .bf16⟩
  | .hbm, ⟨2, _⟩ => ⟨S4096x2048, .f32⟩
  | .hbm, ⟨3, _⟩ => ⟨S2048x4608, .f32⟩
  | .hbm, ⟨4, _⟩ => ⟨S4096x4608, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S4096x4608 : Shape := ⟨2, ![4096, 4608]⟩
abbrev S2048x4608 : Shape := ⟨2, ![2048, 4608]⟩
abbrev S4096x1024 : Shape := ⟨2, ![4096, 1024]⟩
abbrev S4096x1536 : Shape := ⟨2, ![4096, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S2048x4608, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1536, .bf16⟩
  | .local _ .vmem, ⟨3, _⟩ => ⟨S4096x1536, .bf16⟩
  | .local _ .vmem, ⟨4, _⟩ => ⟨S1024x1536, .bf16⟩
  | .local _ .vmem, ⟨5, _⟩ => ⟨S1024x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x4608 : Shape := ⟨2, ![4096, 4608]⟩
abbrev S_ : Shape := ⟨0, ![]⟩
abbrev S2048x4608 : Shape := ⟨2, ![2048, 4608]⟩
abbrev S4608x2048 : Shape := ⟨2, ![4608, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S4096x4608, .f32⟩
  | .hbm, ⟨3, _⟩ => ⟨S4096x2048, .f32⟩
  | .hbm, ⟨4, _⟩ => ⟨S_, .f32⟩
  | .hbm, ⟨5, _⟩ => ⟨S2048x4608, .f32⟩
  | .hbm, ⟨6, _⟩ => ⟨S4096x4608, .f32⟩
  | .hbm, ⟨7, _⟩ => ⟨S4608x2048, .f32⟩
  | .hbm, ⟨8, _⟩ => ⟨S2048x4608, .f32⟩
  | .hbm, ⟨9, _⟩ => ⟨S2048x4608, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x4608 : Shape := ⟨2, ![4096, 4608]⟩
abbrev S2048x4608 : Shape := ⟨2, ![2048, 4608]⟩
abbrev S4096x2048 : Shape := ⟨2, ![4096, 2048]⟩
abbrev S1024x4608 : Shape := ⟨2, ![1024, 4608]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4608, .bf16⟩
  | .hbm, ⟨1, _⟩ => ⟨S2048x4608, .bf16⟩
  | .hbm, ⟨2, _⟩ => ⟨S4096x2048, .bf16⟩
  | .local _ .vmem, ⟨0, _⟩ => ⟨S1024x4608, .bf16⟩
  | .local _ .vmem, ⟨1, _⟩ => ⟨S1024x4608, .bf16⟩
  | .local _ .vmem, ⟨2, _⟩ => ⟨S1024x4608, .bf16⟩
  | .local _ .vmem, ⟨3, _⟩ => ⟨S1024x4608, .bf16⟩
  | .local _ .vmem, ⟨4, _⟩ => ⟨S1024x1024, .bf16⟩
  | .local _ .vmem, ⟨5, _⟩ => ⟨S1024x1024, .bf16⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4608 : Shape := ⟨2, ![4096, 4608]⟩
abbrev S2048x4608 : Shape := ⟨2, ![2048, 4608]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S2048x4608, .bf16⟩
  | .hbm, ⟨2, _⟩ => ⟨S4096x4608, .f32⟩
  | .hbm, ⟨3, _⟩ => ⟨S2048x4608, .f32⟩
  | .hbm, ⟨4, _⟩ => ⟨S_, .f32⟩
  | .hbm, ⟨5, _⟩ => ⟨S4096x2048, .f32⟩
  | .hbm, ⟨6, _⟩ => ⟨S4096x4608, .f32⟩
  | .hbm, ⟨7, _⟩ => ⟨S4096x2048, .f32⟩
  | .hbm, ⟨8, _⟩ => ⟨S4096x2048, .bf16⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x8192 : Shape := ⟨2, ![4096, 8192]⟩
abbrev S4096x2048 : Shape := ⟨2, ![4096, 2048]⟩
abbrev S4x1024x2048 : Shape := ⟨3, ![4, 1024, 2048]⟩
abbrev S1 : Shape := ⟨1, ![1]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 10
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x1024x2048, .bf16⟩
  | .hbm, ⟨3, _⟩ => ⟨S4x1024x2048, .bf16⟩
  | .hbm, ⟨4, _⟩ => ⟨S4x1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference12Ideal.lean ====
abbrev S4096x8192 : Shape := ⟨2, ![4096, 8192]⟩
abbrev S4096x2048 : Shape := ⟨2, ![4096, 2048]⟩
abbrev S4x1024x2048 : Shape := ⟨3, ![4, 1024, 2048]⟩
abbrev S1 : Shape := ⟨1, ![1]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S4x1x1024x2048 : Shape := ⟨4, ![4, 1, 1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x1024x2048, .bf16⟩
  | .hbm, ⟨3, _⟩ => ⟨S1, .i32⟩
  | .hbm, ⟨4, _⟩ => ⟨S4096x2048, .f32⟩
  | .hbm, ⟨5, _⟩ => ⟨S4096x8192, .f32⟩
  | .hbm, ⟨6, _⟩ => ⟨S_, .f32⟩
  | .hbm, ⟨7, _⟩ => ⟨S8192x2048, .f32⟩
  | .hbm, ⟨8, _⟩ => ⟨S4096x2048, .f32⟩
  | .hbm, ⟨9, _⟩ => ⟨S2048x8192, .f32⟩
  | .hbm, ⟨10, _⟩ => ⟨S8192x2048, .f32⟩
  | .hbm, ⟨11, _⟩ => ⟨S4x2x1024x2048, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S4x1x1024x2048, .f32⟩
  | .hbm, ⟨16, _⟩ => ⟨S4x1024x2048, .f32⟩
  | .hbm, ⟨17, _⟩ => ⟨S4x1x1024x2048, .f32⟩
  | .hbm, ⟨18, _⟩ => ⟨S4x1024x2048, .f32⟩
  | .hbm, ⟨19, _⟩ => ⟨S4x1024x2048, .f32⟩
  | .hbm, ⟨20, _⟩ => ⟨S4x1024x2048, .f32⟩
  | .hbm, ⟨21, _⟩ => ⟨S4x1024x2048, .f32⟩
  | .hbm, ⟨22, _⟩ => ⟨S4x1024x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel13.lean ====
abbrev S4096x8192 : Shape := ⟨2, ![4096, 8192]⟩
abbrev S4096x2048 : Shape := ⟨2, ![4096, 2048]⟩
abbrev S1 : Shape := ⟨1, ![1]⟩
abbrev S_ : Shape := ⟨0, ![]⟩
abbrev S4x1024x2048 : Shape := ⟨3, ![4, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S4x1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v2 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x8192 : Shape := ⟨2, ![4096, 8192]⟩
abbrev S4096x2048 : Shape := ⟨2, ![4096, 2048]⟩
abbrev S1 : Shape := ⟨1, ![1]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1, .i32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S8192x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S4x2x1024x2048, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S4x1x1024x2048, .f32⟩
  | .hbm, ⟨15, _⟩ => ⟨S4x1024x2048, .f32⟩
  | .hbm, ⟨16, _⟩ => ⟨S4x1x1024x2048, .f32⟩
  | .hbm, ⟨17, _⟩ => ⟨S4x1024x2048, .f32⟩
  | .hbm, ⟨18, _⟩ => ⟨S4x1024x2048, .f32⟩
  | .hbm, ⟨19, _⟩ => ⟨S4x1024x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel14.lean ====
abbrev S4096x2048 : Shape := ⟨2, ![4096, 2048]⟩
abbrev S4096x8192 : Shape := ⟨2, ![4096, 8192]⟩
abbrev S4x2048x1024 : Shape := ⟨3, ![4, 2048, 1024]⟩
abbrev S1 : Shape := ⟨1, ![1]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 10
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x1024, .bf16⟩
  | .hbm, ⟨3, _⟩ => ⟨S4x2048x1024, .bf16⟩
  | .hbm, ⟨4, _⟩ => ⟨S4x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 1], ![false, false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference14Ideal.lean ====
abbrev S4096x2048 : Shape := ⟨2, ![4096, 2048]⟩
abbrev S4096x8192 : Shape := ⟨2, ![4096, 8192]⟩
abbrev S4x2048x1024 : Shape := ⟨3, ![4, 2048, 1024]⟩
abbrev S1 : Shape := ⟨1, ![1]⟩
abbrev S_ : Shape := ⟨0, ![]⟩
abbrev S2048x8192 : Shape := ⟨2, ![2048, 8192]⟩
abbrev S8192x2048 : Shape := ⟨2, ![8192, 2048]⟩
abbrev S2048x4x2x1024 : Shape := ⟨4, ![2048, 4, 2, 1024]⟩
abbrev S4x2x2048x1024 : Shape := ⟨4, ![4, 2, 2048, 1024]⟩
abbrev S4x1x2048x1024 : Shape := ⟨4, ![4, 1, 2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x1024, .bf16⟩
  | .hbm, ⟨3, _⟩ => ⟨S1, .i32⟩
  | .hbm, ⟨4, _⟩ => ⟨S4096x8192, .f32⟩
  | .hbm, ⟨5, _⟩ => ⟨S4096x2048, .f32⟩
  | .hbm, ⟨6, _⟩ => ⟨S_, .f32⟩
  | .hbm, ⟨7, _⟩ => ⟨S2048x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x4x2x1024, .f32⟩
  | .hbm, ⟨12, _⟩ => ⟨S4x2x2048x1024, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S4x1x2048x1024, .f32⟩
  | .hbm, ⟨17, _⟩ => ⟨S4x2048x1024, .f32⟩
  | .hbm, ⟨18, _⟩ => ⟨S4x1x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel15.lean ====
abbrev S4096x2048 : Shape := ⟨2, ![4096, 2048]⟩
abbrev S4096x8192 : Shape := ⟨2, ![4096, 8192]⟩
abbrev S1 : Shape := ⟨1, ![1]⟩
abbrev S_ : Shape := ⟨0, ![]⟩
abbrev S4x2048x1024 : Shape := ⟨3, ![4, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S4x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v2 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S4096x8192 : Shape := ⟨2, ![4096, 8192]⟩
abbrev S1 : Shape := ⟨1, ![1]⟩
abbrev S_ : Shape := ⟨0, ![]⟩
abbrev S2048x8192 : Shape := ⟨2, ![2048, 8192]⟩
abbrev S8192x2048 : Shape := ⟨2, ![8192, 2048]⟩
abbrev S2048x4x2x1024 : Shape := ⟨4, ![2048, 4, 2, 1024]⟩
abbrev S4x2x2048x1024 : Shape := ⟨4, ![4, 2, 2048, 1024]⟩
abbrev S4x1x2048x1024 : Shape := ⟨4, ![4, 1, 2048, 1024]⟩
abbrev S4x2048x1024 : Shape := ⟨3, ![4, 2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1, .i32⟩
  | .hbm, ⟨3, _⟩ => ⟨S4096x8192, .f32⟩
  | .hbm, ⟨4, _⟩ => ⟨S4096x2048, .f32⟩
  | .hbm, ⟨5, _⟩ => ⟨S_, .f32⟩
  | .hbm, ⟨6, _⟩ => ⟨S2048x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S2048x4x2x1024, .f32⟩
  | .hbm, ⟨11, _⟩ => ⟨S4x2x2048x1024, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S4x1x2048x1024, .f32⟩
  | .hbm, ⟨16, _⟩ => ⟨S4x2048x1024, .f32⟩
  | .hbm, ⟨17, _⟩ => ⟨S4x1x2048x1024, .f32⟩
  | .hbm, ⟨18, _⟩ => ⟨S4x2048x1024, .f32⟩
  | .hbm, ⟨19, _⟩ => ⟨S4x2048x1024, .f32⟩
  | .hbm, ⟨20, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel16.lean ====
abbrev S2x2048x2048 : Shape := ⟨3, ![2, 2048, 2048]⟩
abbrev S1x2048 : Shape := ⟨2, ![1, 2048]⟩
abbrev S2x1x2048 : Shape := ⟨3, ![2, 1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 24
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x1x2048, .f32⟩
  | .hbm, ⟨3, _⟩ => ⟨S2x2048x2048, .bf16⟩
  | .hbm, ⟨4, _⟩ => ⟨S2x2048x2048, .f32⟩
  | .hbm, ⟨5, _⟩ => ⟨S2x2048x2048, .f32⟩
  | .hbm, ⟨6, _⟩ => ⟨S2x1x2048, .f32⟩
  | .hbm, ⟨7, _⟩ => ⟨S2x2048x2048, .f32⟩
  | .hbm, ⟨8, _⟩ => ⟨S1x2048, .f32⟩
  | .hbm, ⟨9, _⟩ => ⟨S2x1x2048, .f32⟩
  | .hbm, ⟨10, _⟩ => ⟨S2x1x2048, .f32⟩
  | .hbm, ⟨11, _⟩ => ⟨S2x2048x2048, .bf16⟩
  | .hbm, ⟨12, _⟩ => ⟨S2x1x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x256x2048, .bf16⟩
  | .local _ .vmem, ⟨21, _⟩ => ⟨S1x256x2048, .bf16⟩
  | .local _ .vmem, ⟨22, _⟩ => ⟨S1x1x2048, .f32⟩
  | .local _ .vmem, ⟨23, _⟩ => ⟨S1x1x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 8], ![false, false]⟩

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v46 : BitVec 32 := Scalar.extui v2
  let c0_i32_23 : BitVec 32 := 0#32
  let v47 : BitVec 1 := Scalar.cmpi .ne v46 c0_i32_23
  v47

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_24 : BitVec 1 := 1#1
  let v48 : BitVec 1 := Scalar.xori v2 true_24
  let v49 : BitVec 32 := Scalar.extui v48
  let c0_i32_25 : BitVec 32 := 0#32
  let v50 : BitVec 1 := Scalar.cmpi .ne v49 c0_i32_25
  v50

def k0_cond3 (i : grid0.Coords) : BitVec 1 :=
  let arg1 : BitVec 32 := BitVec.ofNat 32 (i 1).val
  let c0_i32_1 : BitVec 32 := 0#32
  let v3 : BitVec 1 := Scalar.cmpi .eq arg1 c0_i32_1
  let v32 : BitVec 32 := Scalar.extui v3
  let c0_i32_15 : BitVec 32 := 0#32
  let v33 : BitVec 1 := Scalar.cmpi .ne v32 c0_i32_15
  v33

def k0_cond4 (i : grid0.Coords) : BitVec 1 :=
  let arg1 : BitVec 32 := BitVec.ofNat 32 (i 1).val
  let c0_i32_1 : BitVec 32 := 0#32
  let v3 : BitVec 1 := Scalar.cmpi .eq arg1 c0_i32_1
  let true_16 : BitVec 1 := 1#1
  let v34 : BitVec 1 := Scalar.xori v3 true_16
  let v35 : BitVec 32 := Scalar.extui v34
  let c0_i32_17 : BitVec 32 := 0#32
  let v36 : BitVec 1 := Scalar.cmpi .ne v35 c0_i32_17
  v36

def k0_cond1 (i : grid0.Coords) : BitVec 1 :=
  let arg1 : BitVec 32 := BitVec.ofNat 32 (i 1).val
  let c0_i32_1 : BitVec 32 := 0#32
  let v3 : BitVec 1 := Scalar.cmpi .eq arg1 c0_i32_1
  let v22 : BitVec 32 := Scalar.extui v3
  let c0_i32_12 : BitVec 32 := 0#32
  let v23 : BitVec 1 := Scalar.cmpi .ne v22 c0_i32_12
  v23

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v_true : BitVec 1 := 1#1
  let v24 : BitVec 1 := Scalar.xori v3 v_true
  let v25 : BitVec 32 := Scalar.extui v24
  let c0_i32_13 : BitVec 32 := 0#32
  let v26 : BitVec 1 := Scalar.cmpi .ne v25 c0_i32_13
  v26

def k0_cond7 (i : grid0.Coords) : BitVec 1 :=
  let arg1 : BitVec 32 := BitVec.ofNat 32 (i 1).val
  let c0_i32_1 : BitVec 32 := 0#32
  let v3 : BitVec 1 := Scalar.cmpi .eq arg1 c0_i32_1
  let v82 : BitVec 32 := Scalar.extui v3
  let c0_i32_44 : BitVec 32 := 0#32
  let v83 : BitVec 1 := Scalar.cmpi .ne v82 c0_i32_44
  v83

def k0_cond8 (i : grid0.Coords) : BitVec 1 :=
  let arg1 : BitVec 32 := BitVec.ofNat 32 (i 1).val
  let c0_i32_1 : BitVec 32 := 0#32
  let v3 : BitVec 1 := Scalar.cmpi .eq arg1 c0_i32_1
  let true_45 : BitVec 1 := 1#1
  let v84 : BitVec 1 := Scalar.xori v3 true_45
  let v85 : BitVec 32 := Scalar.extui v84
  let c0_i32_46 : BitVec 32 := 0#32
  let v86 : BitVec 1 := Scalar.cmpi .ne v85 c0_i32_46
  v86

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference16Ideal.lean ====
abbrev S2x2048x2048 : Shape := ⟨3, ![2, 2048, 2048]⟩
abbrev S1x2048 : Shape := ⟨2, ![1, 2048]⟩
abbrev S2x1x2048 : Shape := ⟨3, ![2, 1, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2048 : Shape := ⟨1, ![2048]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x1x2048, .f32⟩
  | .hbm, ⟨3, _⟩ => ⟨S2x2048x2048, .bf16⟩
  | .hbm, ⟨4, _⟩ => ⟨S2x2048x2048, .f32⟩
  | .hbm, ⟨5, _⟩ => ⟨S2x2048x2048, .f32⟩
  | .hbm, ⟨6, _⟩ => ⟨S2x1x2048, .f32⟩
  | .hbm, ⟨7, _⟩ => ⟨S_, .f32⟩
  | .hbm, ⟨8, _⟩ => ⟨S2x1x2048, .f32⟩
  | .hbm, ⟨9, _⟩ => ⟨S2x2048x2048, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x2048, .f32⟩
  | .hbm, ⟨25, _⟩ => ⟨S2x2048x2048, .f32⟩
  | .hbm, ⟨26, _⟩ => ⟨S1x1x2048, .f32⟩
  | .hbm, ⟨27, _⟩ => ⟨S2x2048x2048, .f32⟩
  | .hbm, ⟨28, _⟩ => ⟨S2x2048x2048, .f32⟩
  | .hbm, ⟨29, _⟩ => ⟨S_, .f32⟩
  | .hbm, ⟨30, _⟩ => ⟨S2x1x2048, .f32⟩
  | .hbm, ⟨31, _⟩ => ⟨S2x1x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S2x2048x2048, .f32⟩
  | .hbm, ⟨36, _⟩ => ⟨S2x2048x2048, .f32⟩
  | .hbm, ⟨37, _⟩ => ⟨S_, .f32⟩
  | .hbm, ⟨38, _⟩ => ⟨S2x2048, .f32⟩
  | .hbm, ⟨39, _⟩ => ⟨S2x1x2048, .f32⟩
  | .hbm, ⟨40, _⟩ => ⟨S2x2048x2048, .f32⟩
  | .hbm, ⟨41, _⟩ => ⟨S_, .f32⟩
  | .hbm, ⟨42, _⟩ => ⟨S2x2048, .f32⟩
  | .hbm, ⟨43, _⟩ => ⟨S2x1x2048, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S_, .f32⟩
  | .hbm, ⟨48, _⟩ => ⟨S2048, .f32⟩
  | .hbm, ⟨49, _⟩ => ⟨S1x1x2048, .f32⟩
  | .hbm, ⟨50, _⟩ => ⟨S2x2048x2048, .f32⟩
  | .hbm, ⟨51, _⟩ => ⟨S2x2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2x2048x2048, .f32⟩
  | .hbm, ⟨56, _⟩ => ⟨S_, .f32⟩
  | .hbm, ⟨57, _⟩ => ⟨S2x2048, .f32⟩
  | .hbm, ⟨58, _⟩ => ⟨S2x2048x1, .f32⟩
  | .hbm, ⟨59, _⟩ => ⟨S2x2048x2048, .f32⟩
  | .hbm, ⟨60, _⟩ => ⟨S2x2048x2048, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048, .f32⟩
  | .hbm, ⟨67, _⟩ => ⟨S2x2048x2048, .f32⟩
  | .hbm, ⟨68, _⟩ => ⟨S2x2048x2048, .f32⟩
  | .hbm, ⟨69, _⟩ => ⟨S2x2048x2048, .f32⟩
  | .hbm, ⟨70, _⟩ => ⟨S2x2048x2048, .f32⟩
  | .hbm, ⟨71, _⟩ => ⟨S2x2048x2048, .f32⟩
  | .hbm, ⟨72, _⟩ => ⟨S2x2048x2048, .f32⟩
  | .hbm, ⟨73, _⟩ => ⟨S2x2048x2048, .f32⟩
  | .hbm, ⟨74, _⟩ => ⟨S2x2048x2048, .f32⟩
  | .hbm, ⟨75, _⟩ => ⟨S2x2048x2048, .f32⟩
  | .hbm, ⟨76, _⟩ => ⟨S2x2048x2048, .f32⟩
  | .hbm, ⟨77, _⟩ => ⟨S2x2048x2048, .f32⟩
  | .hbm, ⟨78, _⟩ => ⟨S_, .f32⟩
  | .hbm, ⟨79, _⟩ => ⟨S2x2048, .f32⟩
  | .hbm, ⟨80, _⟩ => ⟨S2x1x2048, .f32⟩
  | .hbm, ⟨81, _⟩ => ⟨S2x2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel17.lean ====
abbrev S2x2048x2048 : Shape := ⟨3, ![2, 2048, 2048]⟩
abbrev S2x1x2048 : Shape := ⟨3, ![2, 1, 2048]⟩
abbrev S1x2048 : Shape := ⟨2, ![1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x1x2048, .f32⟩
  | .hbm, ⟨3, _⟩ => ⟨S1x2048, .f32⟩
  | .hbm, ⟨4, _⟩ => ⟨S2x1x2048, .f32⟩
  | .hbm, ⟨5, _⟩ => ⟨S2x1x2048, .f32⟩
  | .hbm, ⟨6, _⟩ => ⟨S2x2048x2048, .f32⟩
  | .hbm, ⟨7, _⟩ => ⟨S2x2048x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .bf16⟩
  | .local _ .vmem, ⟨14, _⟩ => ⟨S1x256x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S2x2048x2048 : Shape := ⟨3, ![2, 2048, 2048]⟩
abbrev S2x1x2048 : Shape := ⟨3, ![2, 1, 2048]⟩
abbrev S1x2048 : Shape := ⟨2, ![1, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x1x2048, .f32⟩
  | .hbm, ⟨3, _⟩ => ⟨S1x2048, .f32⟩
  | .hbm, ⟨4, _⟩ => ⟨S2x1x2048, .f32⟩
  | .hbm, ⟨5, _⟩ => ⟨S2x1x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x2048, .f32⟩
  | .hbm, ⟨21, _⟩ => ⟨S2x2048x2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S2x2048x2048, .f32⟩
  | .hbm, ⟨32, _⟩ => ⟨S2x2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel18.lean ====
abbrev S2x2048x2048 : Shape := ⟨3, ![2, 2048, 2048]⟩
abbrev S1x2048 : Shape := ⟨2, ![1, 2048]⟩
abbrev S2x1x2048 : Shape := ⟨3, ![2, 1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S2x2048x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x256x2048, .bf16⟩
  | .local _ .vmem, ⟨8, _⟩ => ⟨S1x256x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S2x2048x2048 : Shape := ⟨3, ![2, 2048, 2048]⟩
abbrev S1x2048 : Shape := ⟨2, ![1, 2048]⟩
abbrev S2x1x2048 : Shape := ⟨3, ![2, 1, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S2x2048x2048, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x2048, .f32⟩
  | .hbm, ⟨16, _⟩ => ⟨S2x2048x2048, .f32⟩
  | .hbm, ⟨17, _⟩ => ⟨S1x1x2048, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S2x1x2048, .f32⟩
  | .hbm, ⟨22, _⟩ => ⟨S2x1x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S2x2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel19.lean ====
abbrev S2x2048x2048 : Shape := ⟨3, ![2, 2048, 2048]⟩
abbrev S1x2048 : Shape := ⟨2, ![1, 2048]⟩
abbrev S2x1x2048 : Shape := ⟨3, ![2, 1, 2048]⟩
abbrev S1x128 : Shape := ⟨2, ![1, 128]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 17
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x2048, .f32⟩
  | .hbm, ⟨3, _⟩ => ⟨S2x2048x2048, .f32⟩
  | .hbm, ⟨4, _⟩ => ⟨S2x1x2048, .f32⟩
  | .hbm, ⟨5, _⟩ => ⟨S2x2048x2048, .f32⟩
  | .hbm, ⟨6, _⟩ => ⟨S1x2048, .f32⟩
  | .hbm, ⟨7, _⟩ => ⟨S1x128, .f32⟩
  | .hbm, ⟨8, _⟩ => ⟨S2x2048x2048, .bf16⟩
  | .hbm, ⟨9, _⟩ => ⟨S2x1x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x2048, .f32⟩
  | .local _ .vmem, ⟨12, _⟩ => ⟨S1x128, .f32⟩
  | .local _ .vmem, ⟨13, _⟩ => ⟨S1x256x2048, .bf16⟩
  | .local _ .vmem, ⟨14, _⟩ => ⟨S1x256x2048, .bf16⟩
  | .local _ .vmem, ⟨15, _⟩ => ⟨S1x1x2048, .f32⟩
  | .local _ .vmem, ⟨16, _⟩ => ⟨S1x1x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v49 : BitVec 32 := Scalar.extui v2
  let c0_i32_25 : BitVec 32 := 0#32
  let v50 : BitVec 1 := Scalar.cmpi .ne v49 c0_i32_25
  v50

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_26 : BitVec 1 := 1#1
  let v51 : BitVec 1 := Scalar.xori v2 true_26
  let v52 : BitVec 32 := Scalar.extui v51
  let c0_i32_27 : BitVec 32 := 0#32
  let v53 : BitVec 1 := Scalar.cmpi .ne v52 c0_i32_27
  v53

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v39 : BitVec 32 := Scalar.extui v2
  let c0_i32_21 : BitVec 32 := 0#32
  let v40 : BitVec 1 := Scalar.cmpi .ne v39 c0_i32_21
  v40

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v41 : BitVec 1 := Scalar.xori v2 v_true
  let v42 : BitVec 32 := Scalar.extui v41
  let c0_i32_22 : BitVec 32 := 0#32
  let v43 : BitVec 1 := Scalar.cmpi .ne v42 c0_i32_22
  v43

def k0_cond5 (i : grid0.Coords) : BitVec 1 :=
  let arg1 : BitVec 32 := BitVec.ofNat 32 (i 1).val
  let c0_i32_1 : BitVec 32 := 0#32
  let v3 : BitVec 1 := Scalar.cmpi .eq arg1 c0_i32_1
  let v82 : BitVec 32 := Scalar.extui v3
  let c0_i32_43 : BitVec 32 := 0#32
  let v83 : BitVec 1 := Scalar.cmpi .ne v82 c0_i32_43
  v83

def k0_cond6 (i : grid0.Coords) : BitVec 1 :=
  let arg1 : BitVec 32 := BitVec.ofNat 32 (i 1).val
  let c0_i32_1 : BitVec 32 := 0#32
  let v3 : BitVec 1 := Scalar.cmpi .eq arg1 c0_i32_1
  let true_44 : BitVec 1 := 1#1
  let v84 : BitVec 1 := Scalar.xori v3 true_44
  let v85 : BitVec 32 := Scalar.extui v84
  let c0_i32_45 : BitVec 32 := 0#32
  let v86 : BitVec 1 := Scalar.cmpi .ne v85 c0_i32_45
  v86

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference19Ideal.lean ====
abbrev S2x2048x2048 : Shape := ⟨3, ![2, 2048, 2048]⟩
abbrev S1x2048 : Shape := ⟨2, ![1, 2048]⟩
abbrev S2x1x2048 : Shape := ⟨3, ![2, 1, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2048 : Shape := ⟨1, ![2048]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x2048, .f32⟩
  | .hbm, ⟨3, _⟩ => ⟨S2x2048x2048, .f32⟩
  | .hbm, ⟨4, _⟩ => ⟨S2x1x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x2048, .f32⟩
  | .hbm, ⟨24, _⟩ => ⟨S2x2048x2048, .f32⟩
  | .hbm, ⟨25, _⟩ => ⟨S1x1x2048, .f32⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S_, .f32⟩
  | .hbm, ⟨34, _⟩ => ⟨S2x2048, .f32⟩
  | .hbm, ⟨35, _⟩ => ⟨S_, .f32⟩
  | .hbm, ⟨36, _⟩ => ⟨S2x2048, .f32⟩
  | .hbm, ⟨37, _⟩ => ⟨S2x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S_, .f32⟩
  | .hbm, ⟨53, _⟩ => ⟨S2048, .f32⟩
  | .hbm, ⟨54, _⟩ => ⟨S1x1x2048, .f32⟩
  | .hbm, ⟨55, _⟩ => ⟨S2x2048x2048, .f32⟩
  | .hbm, ⟨56, _⟩ => ⟨S2x2048x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S2x2048x2048, .f32⟩
  | .hbm, ⟨61, _⟩ => ⟨S_, .f32⟩
  | .hbm, ⟨62, _⟩ => ⟨S2x2048, .f32⟩
  | .hbm, ⟨63, _⟩ => ⟨S2x2048x1, .f32⟩
  | .hbm, ⟨64, _⟩ => ⟨S2x2048x2048, .f32⟩
  | .hbm, ⟨65, _⟩ => ⟨S2x2048x2048, .f32⟩
  | .hbm, ⟨66, _⟩ => ⟨S2x2048x1, .f32⟩
  | .hbm, ⟨67, _⟩ => ⟨S_, .f32⟩
  | .hbm, ⟨68, _⟩ => ⟨S2x2048x1, .f32⟩
  | .hbm, ⟨69, _⟩ => ⟨S2x2048x1, .f32⟩
  | .hbm, ⟨70, _⟩ => ⟨S_, .f32⟩
  | .hbm, ⟨71, _⟩ => ⟨S2x2048, .f32⟩
  | .hbm, ⟨72, _⟩ => ⟨S2x2048x2048, .f32⟩
  | .hbm, ⟨73, _⟩ => ⟨S2x2048x2048, .f32⟩
  | .hbm, ⟨74, _⟩ => ⟨S2x2048x2048, .f32⟩
  | .hbm, ⟨75, _⟩ => ⟨S2x2048x2048, .f32⟩
  | .hbm, ⟨76, _⟩ => ⟨S2x2048x2048, .f32⟩
  | .hbm, ⟨77, _⟩ => ⟨S2x2048x2048, .f32⟩
  | .hbm, ⟨78, _⟩ => ⟨S2x2048x2048, .f32⟩
  | .hbm, ⟨79, _⟩ => ⟨S2x2048x2048, .f32⟩
  | .hbm, ⟨80, _⟩ => ⟨S_, .f32⟩
  | .hbm, ⟨81, _⟩ => ⟨S2x2048, .f32⟩
  | .hbm, ⟨82, _⟩ => ⟨S2x1x2048, .f32⟩
  | .hbm, ⟨83, _⟩ => ⟨S1x128, .f32⟩
  | .hbm, ⟨84, _⟩ => ⟨S2x2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Proof.Spec.lean ====
/- The gradient of the chunked spatial-gating mixer as formulas over the real numbers, and the equation between the form the
   kernel computes and the form differentiation gives. No program is mentioned here. -/
module

public import Idealize.ShloMosaic.PureOps.Ideal.Laws

@[expose] public section

noncomputable section

namespace Cert.Spec

/-- The factor of the gelu's argument, √(2/π) in single precision. -/
def cK : ℝ := 13386282 / 16777216
/-- The gelu's cubic coefficient, 0.044715. -/
def cC : ℝ := 8943 / 200000
/-- The layer norm's epsilon (1e-5 in single precision). -/
def eps5 : ℝ := 10995116 / 1099511627776
/-- The root-mean-square norm's epsilon (1e-6 in single precision). -/
def eps6 : ℝ := 8796093 / 8796093022208

theorem eps5_pos : 0 < eps5 := by unfold eps5; norm_num
theorem eps6_pos : 0 < eps6 := by unfold eps6; norm_num

/-- The gelu's inner hyperbolic tangent. -/
def th (x : ℝ) : ℝ := Real.tanh (cK * (x + cC * x * x * x))
/-- The gelu (its tanh form). -/
def gel (x : ℝ) : ℝ := 1 / 2 * x * (1 + th x)
/-- The gelu's derivative. -/
def dgel (x : ℝ) : ℝ := 1 / 2 * (1 + th x) + 1 / 2 * x * (1 - th x * th x) * cK * (1 + 3 * cC * x * x)

/-- The arrays the mixer reads, as real functions. A token row `n` numbers the 4096 tokens of the device (2048 per sequence),
    a channel `j` the 512 channels; head `j / 128` owns channel `j`. `D` is the incoming gradient, `g`, `b` the layer norm's
    scale and shift per channel, `og` the output norm's scale, `w h t s` head `h`'s mixing weight of token `s` of a chunk into
    token `t`, `bs t j` the bias. -/
structure Data where
  U : ℕ → ℕ → ℝ
  V : ℕ → ℕ → ℝ
  D : ℕ → ℕ → ℝ
  g : ℕ → ℝ
  b : ℕ → ℝ
  og : ℕ → ℝ
  w : ℕ → ℕ → ℕ → ℝ
  bs : ℕ → ℕ → ℝ

namespace Data
variable (X : Data)

/-! ## The forward pass -/

def ug (n j : ℕ) : ℝ := gel (X.U n j)
def vg (n j : ℕ) : ℝ := gel (X.V n j)
/-- The mean of head `h`'s 128 channels. -/
def mu (n h : ℕ) : ℝ := (∑ e : Fin 128, X.vg n (128 * h + e)) / 128
def xc (n j : ℕ) : ℝ := X.vg n j - X.mu n (j / 128)
def var (n h : ℕ) : ℝ := (∑ e : Fin 128, X.xc n (128 * h + e) * X.xc n (128 * h + e)) / 128
def rstd (n h : ℕ) : ℝ := (Real.sqrt (X.var n h + eps5))⁻¹
def xh (n j : ℕ) : ℝ := X.xc n j * X.rstd n (j / 128)
def vn (n j : ℕ) : ℝ := X.xh n j * X.g j + X.b j
/-- The causal mask applied to the mixing weights. -/
def wm (h t s : ℕ) : ℝ := if s ≤ t then X.w h t s else 0
/-- Token `n`'s gate: the mix of its chunk's normalised rows, plus the bias. -/
def gate (n j : ℕ) : ℝ := (∑ s : Fin 128, X.wm (j / 128) (n % 128) s * X.vn (128 * (n / 128) + s) j) + X.bs (n % 128) j
def y (n j : ℕ) : ℝ := X.ug n j * X.gate n j
def ms (n : ℕ) : ℝ := (∑ j : Fin 512, X.y n j * X.y n j) / 512
def rr (n : ℕ) : ℝ := (Real.sqrt (X.ms n + eps6))⁻¹
def yn (n j : ℕ) : ℝ := X.y n j * X.rr n

/-! ## The backward pass -/

def dyn (n j : ℕ) : ℝ := X.D n j * X.og j
def m2 (n : ℕ) : ℝ := (∑ j : Fin 512, X.dyn n j * X.yn n j) / 512
/-- The gradient that reaches `y`. -/
def dy (n j : ℕ) : ℝ := X.rr n * (X.dyn n j - X.yn n j * X.m2 n)
def du (n j : ℕ) : ℝ := X.dy n j * X.gate n j * dgel (X.U n j)
/-- The gradient that reaches the gate. -/
def dg (n j : ℕ) : ℝ := X.dy n j * X.ug n j
/-- The gradient that reaches the normalised rows: the transposed mix of the chunk's gate gradients. -/
def dvn (n j : ℕ) : ℝ := ∑ t : Fin 128, X.wm (j / 128) t (n % 128) * X.dg (128 * (n / 128) + t) j
def dxh (n j : ℕ) : ℝ := X.dvn n j * X.g j
def m3 (n h : ℕ) : ℝ := (∑ e : Fin 128, X.dxh n (128 * h + e)) / 128
def m4 (n h : ℕ) : ℝ := (∑ e : Fin 128, X.dxh n (128 * h + e) * X.xh n (128 * h + e)) / 128
def dvg (n j : ℕ) : ℝ := X.rstd n (j / 128) * (X.dxh n j - X.m3 n (j / 128) - X.xh n j * X.m4 n (j / 128))
def dv (n j : ℕ) : ℝ := X.dvg n j * dgel (X.V n j)

/-! ## The parameters' gradients, block by block: block `p` is the 512 token rows from `512 p` -/

def dogB (p j : ℕ) : ℝ := ∑ r : Fin 512, X.D (512 * p + r) j * X.yn (512 * p + r) j
def dlngB (p j : ℕ) : ℝ := ∑ r : Fin 512, X.dvn (512 * p + r) j * X.xh (512 * p + r) j
def dlnbB (p j : ℕ) : ℝ := ∑ r : Fin 512, X.dvn (512 * p + r) j
def dbsB (p t j : ℕ) : ℝ := ∑ c : Fin 4, X.dg (512 * p + 128 * c + t) j
def dwsB (p h t s : ℕ) : ℝ :=
  if s ≤ t then ∑ c : Fin 4, ∑ e : Fin 128, X.dg (512 * p + 128 * c + t) (128 * h + e) * X.vn (512 * p + 128 * c + s) (128 * h + e) else 0

/-! ## The forms differentiation gives -/

theorem var_nonneg (n h : ℕ) : 0 ≤ X.var n h :=
  div_nonneg (Finset.sum_nonneg fun _ _ => mul_self_nonneg _) (by norm_num)

theorem ms_nonneg (n : ℕ) : 0 ≤ X.ms n :=
  div_nonneg (Finset.sum_nonneg fun _ _ => mul_self_nonneg _) (by norm_num)

theorem var_pos (n h : ℕ) : 0 < X.var n h + eps5 := add_pos_of_nonneg_of_pos (X.var_nonneg n h) eps5_pos
theorem ms_pos (n : ℕ) : 0 < X.ms n + eps6 := add_pos_of_nonneg_of_pos (X.ms_nonneg n) eps6_pos

/-- The derivative of an inverse square root: `r / x = r³` where `r = 1 / √x`. -/
theorem inv_sqrt_div {x : ℝ} (hx : 0 < x) : (Real.sqrt x)⁻¹ / x = (Real.sqrt x)⁻¹ * ((Real.sqrt x)⁻¹ * (Real.sqrt x)⁻¹) := by
  rw [← mul_inv, Real.mul_self_sqrt hx.le, div_eq_mul_inv]

/-- The output norm's gradient as differentiation writes it: the direct term, and twice half the term through the mean square. -/
def dyRef (n j : ℕ) : ℝ :=
  X.dyn n j * X.rr n + X.y n j * ((∑ k : Fin 512, X.y n k * X.dyn n k) * (-(1 / 2) * (X.rr n / (X.ms n + eps6))) / 512)
    + (∑ k : Fin 512, X.y n k * X.dyn n k) * (-(1 / 2) * (X.rr n / (X.ms n + eps6))) / 512 * X.y n j

theorem dyRef_eq (n j : ℕ) : X.dyRef n j = X.dy n j := by
  have hm : X.m2 n = (∑ k : Fin 512, X.y n k * X.dyn n k) * X.rr n / 512 := by
    rw [m2, Finset.sum_mul]
    exact congrArg (· / 512) (Finset.sum_congr rfl fun k _ => by rw [yn]; ring)
  rw [dyRef, dy, hm, yn, show X.rr n / (X.ms n + eps6) = X.rr n * (X.rr n * X.rr n) from inv_sqrt_div (X.ms_pos n)]
  ring

/-- The centred values of a head sum to zero. -/
theorem sum_xc (n h : ℕ) : ∑ e : Fin 128, X.xc n (128 * h + e) = 0 := by
  have hh : ∀ e : Fin 128, (128 * h + e.val) / 128 = h := fun e => by omega
  simp only [xc, hh, Finset.sum_sub_distrib, mu]
  simp
  ring

/-- The layer norm's gradient as differentiation writes it, before the term through the mean. -/
def dxcRef (n j : ℕ) : ℝ :=
  let c := (∑ e : Fin 128, X.xc n (128 * (j / 128) + e) * X.dxh n (128 * (j / 128) + e)) * (-(1 / 2) * (X.rstd n (j / 128) / (X.var n (j / 128) + eps5))) / 128
  X.dxh n j * X.rstd n (j / 128) + X.xc n j * c + c * X.xc n j

theorem dxcRef_eq (n j : ℕ) :
    X.dxcRef n j = X.rstd n (j / 128) * X.dxh n j - X.rstd n (j / 128) * X.xh n j * X.m4 n (j / 128) := by
  have hm : X.m4 n (j / 128) = (∑ e : Fin 128, X.xc n (128 * (j / 128) + e) * X.dxh n (128 * (j / 128) + e)) * X.rstd n (j / 128) / 128 := by
    rw [m4, Finset.sum_mul]
    refine congrArg (· / 128) (Finset.sum_congr rfl fun e _ => ?_)
    rw [xh, show (128 * (j / 128) + e.val) / 128 = j / 128 by omega]; ring
  rw [dxcRef, hm, xh, show X.rstd n (j / 128) / (X.var n (j / 128) + eps5) = _ from inv_sqrt_div (X.var_pos n (j / 128))]
  rw [show (Real.sqrt (X.var n (j / 128) + eps5))⁻¹ = X.rstd n (j / 128) from rfl]
  ring

/-- The layer norm's gradient as differentiation writes it. -/
def dvgRef (n j : ℕ) : ℝ := X.dxcRef n j + (∑ e : Fin 128, -X.dxcRef n (128 * (j / 128) + e)) / 128

theorem dvgRef_eq (n j : ℕ) : X.dvgRef n j = X.dvg n j := by
  have hs : ∑ e : Fin 128, X.xh n (128 * (j / 128) + e) = 0 := by
    have h : ∀ e : Fin 128, X.xh n (128 * (j / 128) + e) = X.xc n (128 * (j / 128) + e) * X.rstd n (j / 128) := fun e => by
      rw [xh, show (128 * (j / 128) + e.val) / 128 = j / 128 by omega]
    rw [Finset.sum_congr rfl fun e _ => h e, ← Finset.sum_mul, sum_xc, zero_mul]
  have hsum : ∑ e : Fin 128, -X.dxcRef n (128 * (j / 128) + e) = -(X.rstd n (j / 128) * ∑ e : Fin 128, X.dxh n (128 * (j / 128) + e)) := by
    have h : ∀ e : Fin 128, -X.dxcRef n (128 * (j / 128) + e)
        = X.rstd n (j / 128) * X.m4 n (j / 128) * X.xh n (128 * (j / 128) + e) - X.rstd n (j / 128) * X.dxh n (128 * (j / 128) + e) := fun e => by
      rw [dxcRef_eq, show (128 * (j / 128) + e.val) / 128 = j / 128 by omega]; ring
    rw [Finset.sum_congr rfl fun e _ => h e, Finset.sum_sub_distrib, ← Finset.mul_sum, ← Finset.mul_sum, hs]; ring
  rw [dvgRef, hsum, dxcRef_eq, dvg, m3]; ring

/-- The gelu as the reference writes it. -/
theorem gel_ref (x : ℝ) : x * (1 / 2 * (1 + Real.tanh (cK * (x + cC * (x * x * x))))) = gel x := by
  rw [gel, th, show cC * x * x * x = cC * (x * x * x) by ring]; ring

/-- The gelu's gradient as differentiation writes it. -/
theorem dgel_ref (x d : ℝ) :
    d * (1 / 2 * (1 + th x)) + cK * (1 / 2 * (x * d) * ((1 + th x) * (1 - th x)))
      + cC * (cK * (1 / 2 * (x * d) * ((1 + th x) * (1 - th x)))) * (3 * (x * x)) = d * dgel x := by
  rw [dgel]; ring

end Data
end Cert.Spec

end
-- ==== Proof.Lift.lean ====
/- Operations of the extended reals at real arguments, and the literals of the two programs as real numbers. -/
module

public import proofs.«01_k».proof.Proof.Spec
public import Idealize.ShloMosaic.Lib.Pointwise

@[expose] public section

noncomputable section

namespace Cert.Lift

open Idealize.ShloMosaic Cert.Spec

/-- A sum of reals, taken in the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, EReal.coe_add, ih]

/-- A quotient of reals with a non-zero divisor. -/
theorem div_coe {y : ℝ} (h : y ≠ 0) (x : ℝ) : Ideal.div (x : EReal) (y : EReal) = ((x / y : ℝ) : EReal) := by
  rw [Ideal.div_coe h, ← EReal.coe_mul, mul_one_div]

theorem div128 (x : ℝ) : Ideal.div (x : EReal) ((128 : ℝ) : EReal) = ((x / 128 : ℝ) : EReal) := div_coe (by norm_num) x
theorem div512 (x : ℝ) : Ideal.div (x : EReal) ((512 : ℝ) : EReal) = ((x / 512 : ℝ) : EReal) := div_coe (by norm_num) x

/-- An inverse square root of a positive real. -/
theorem rsqrt_coe {x : ℝ} (h : 0 < x) : Ideal.rsqrt (x : EReal) = (((Real.sqrt x)⁻¹ : ℝ) : EReal) := by
  rw [Ideal.rsqrt_coe, if_neg h.not_gt, if_neg h.ne']

/-! ## Literals -/

theorem lit_half : Ideal.ofBits .f32 0x3F000000#32 = ((1 / 2 : ℝ) : EReal) := by
  simp [Ideal.ofBits, Ideal.ieee, -EReal.coe_mul] <;> norm_num
theorem lit_one : Ideal.ofBits .f32 0x3F800000#32 = ((1 : ℝ) : EReal) := by
  simp [Ideal.ofBits, Ideal.ieee, -EReal.coe_mul] <;> norm_num
theorem lit_zero : Ideal.ofBits .f32 0x00000000#32 = ((0 : ℝ) : EReal) := by
  simp [Ideal.ofBits, Ideal.ieee, -EReal.coe_mul] <;> norm_num
theorem lit_128 : Ideal.ofBits .f32 0x43000000#32 = ((128 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_K : Ideal.ofBits .f32 0x3F4C422A#32 = ((cK : ℝ) : EReal) := by
  simp [Ideal.ofBits, Ideal.ieee, -EReal.coe_mul, cK]; norm_num
theorem lit_eps5 : Ideal.ofBits .f32 0x3727C5AC#32 = ((eps5 : ℝ) : EReal) := by
  simp [Ideal.ofBits, Ideal.ieee, -EReal.coe_mul, eps5]; norm_num
theorem lit_eps6 : Ideal.ofBits .f32 0x358637BD#32 = ((eps6 : ℝ) : EReal) := by
  simp [Ideal.ofBits, Ideal.ieee, -EReal.coe_mul, eps6]; norm_num

end Cert.Lift

end
-- ==== Proof.Blk.lean ====
/- What one grid point of the kernel computes, stage by stage, at real arguments: each array a stage holds is, at every
   index, the real number of `Spec.lean`'s formula of the same name. Grid point `p` holds the token rows from `512 p`. -/
module

public import proofs.«01_k».proof.Proof.Lift
public import proofs.«01_k».proof.Proof.Gen.KernelIdeal.Skeleton

@[expose] public section

set_option maxRecDepth 16384

noncomputable section

namespace Cert.KernelIdeal.Blk

open Idealize.ShloMosaic Cert.KernelIdeal Cert.KernelIdeal.Gen Cert.Spec Cert.Lift

theorem named_c : (Named.named (F := Ideal) κ "gelu_c" (φ := .f32) 0x3D372713#32) = ((cC : ℝ) : EReal) :=
  IdealRules.named_const.ideal_named_scalar _ _ _ _ rfl
theorem named_3c : (Named.named (F := Ideal) κ "gelu_3c" (φ := .f32) 0x3E095D4F#32) = ((3 * cC : ℝ) : EReal) := by
  rw [show (3 * cC : ℝ) = 26829 / 200000 by unfold cC; norm_num]
  exact IdealRules.named_const.ideal_named_scalar _ _ _ _ rfl

/-- The gelu of a block. -/
theorem gel_at (f : Fin 512 → Fin 512 → ℝ) (x : Vec Ideal S1x512x512 .f32) (hx : ∀ a j, x (ix3 0 a j) = ((f a j : ℝ) : EReal)) (a j : Fin 512) :
    k0_pay10 x (ix2 a j) = ((gel (f a j) : ℝ) : EReal) := by
  pointwise [k0_pay10, k0_pay7]
  simp only [hx, named_c, lit_half, lit_K, ← EReal.coe_mul, ← EReal.coe_add, ← EReal.coe_one, Ideal.tanh_coe]
  rfl

theorem pay11_eq (x : Vec Ideal S1x512x512 .f32) : k0_pay11 x = k0_pay10 x := rfl

/-- The product of a gradient with the gelu's derivative, the stored block. -/
theorem dgel_at (f d : Fin 512 → Fin 512 → ℝ) (x : Vec Ideal S1x512x512 .f32) (g : FVec Ideal S512x512 .f32)
    (hx : ∀ a j, x (ix3 0 a j) = ((f a j : ℝ) : EReal)) (hg : ∀ a j, g (ix2 a j) = ((d a j : ℝ) : EReal)) (a j : Fin 512) :
    k0_pay55 (k0_pay7 x) g (k0_pay52 (k0_pay7 x)) (k0_pay53 (k0_pay7 x)) (k0_pay54 (k0_pay7 x)) (ix3 0 a j) = ((d a j * dgel (f a j) : ℝ) : EReal) := by
  pointwise [k0_pay55, k0_pay52, k0_pay53, k0_pay54, k0_pay51, k0_pay7]
  simp only [hx, hg, named_c, named_3c, lit_half, lit_K, ← EReal.coe_mul, ← EReal.coe_add, ← EReal.coe_sub, ← EReal.coe_one, Ideal.tanh_coe]
  rfl

variable (X : Data) (p : ℕ)

/-! ## The layer norm of each head -/

/-- The centred head columns. -/
def XC (v36 : FVec Ideal S512x512 .f32) : Fin 4 → FVec Ideal S512x128 .f32 :=
  ![k0_pay13 v36, k0_pay17 v36, k0_pay22 (k0_pay21 v36), k0_pay26 v36]
/-- The inverse standard deviations. -/
def RS (v36 : FVec Ideal S512x512 .f32) : Fin 4 → FVec Ideal S512x1 .f32 :=
  ![k0_pay14 v36, k0_pay18 v36, k0_pay23 (k0_pay21 v36), k0_pay27 v36]
/-- The normalised head columns. -/
def XH (v36 : FVec Ideal S512x512 .f32) : Fin 4 → FVec Ideal S512x128 .f32 :=
  ![k0_pay15 v36, k0_pay19 v36, k0_pay24 (k0_pay21 v36), k0_pay28 v36]
/-- The head columns, normalised, scaled and shifted. -/
def VN (v36 : FVec Ideal S512x512 .f32) (x3 x4 : Vec Ideal S1x512 .f32) : Fin 4 → FVec Ideal S512x128 .f32 :=
  ![k0_pay16 (k0_pay9 x3) v36 x4, k0_pay20 (k0_pay9 x3) v36 x4, k0_pay25 (k0_pay9 x3) (k0_pay12 x4) (k0_pay21 v36), k0_pay29 (k0_pay9 x3) v36 (k0_pay12 x4)]

theorem head_div (h : ℕ) (e : Fin 128) : (128 * h + e.val) / 128 = h := by omega

theorem xc_spec (n h : ℕ) (e : Fin 128) :
    X.xc n (128 * h + e) = X.vg n (128 * h + e) - (∑ k : Fin 128, X.vg n (128 * h + k)) / 128 := by
  rw [Data.xc, head_div]; rfl

variable {X p}
variable {v36 : FVec Ideal S512x512 .f32} {x3 x4 : Vec Ideal S1x512 .f32}

theorem xc_at (hv : ∀ a j : Fin 512, v36 (ix2 a j) = ((X.vg (512 * p + a) j : ℝ) : EReal)) (h : Fin 4) (a : Fin 512) (e : Fin 128) :
    XC v36 h (ix2 a e) = ((X.xc (512 * p + a) (128 * h + e) : ℝ) : EReal) := by
  rw [xc_spec]
  fin_cases h <;> pointwise [XC, k0_pay13, k0_pay17, k0_pay22, k0_pay21, k0_pay26]
  all_goals simp only [hv, lit_128, sum_coe, div128, ← EReal.coe_sub]

theorem RS_apply (h : Fin 4) (a : Fin 512) : RS v36 h (ix2 a 0)
    = Ideal.rsqrt (Ideal.div (∑ e : Fin 128, XC v36 h (ix2 a e) * XC v36 h (ix2 a e)) (Ideal.ofBits .f32 0x43000000#32) + Ideal.ofBits .f32 0x3727C5AC#32) := by
  fin_cases h <;> pointwise [RS, k0_pay14, k0_pay18, k0_pay23, k0_pay27] <;> rfl

theorem rs_at (hv : ∀ a j : Fin 512, v36 (ix2 a j) = ((X.vg (512 * p + a) j : ℝ) : EReal)) (h : Fin 4) (a : Fin 512) :
    RS v36 h (ix2 a 0) = ((X.rstd (512 * p + a) h : ℝ) : EReal) := by
  rw [RS_apply]
  simp only [xc_at hv, lit_128, lit_eps5, sum_coe, div128, ← EReal.coe_add, ← EReal.coe_mul]
  exact rsqrt_coe (X.var_pos _ _)

theorem XH_apply (h : Fin 4) (a : Fin 512) (e : Fin 128) : XH v36 h (ix2 a e) = XC v36 h (ix2 a e) * RS v36 h (ix2 a 0) := by
  fin_cases h <;> pointwise [XH, k0_pay15, k0_pay19, k0_pay24, k0_pay28] <;> rfl

theorem xh_at (hv : ∀ a j : Fin 512, v36 (ix2 a j) = ((X.vg (512 * p + a) j : ℝ) : EReal)) (h : Fin 4) (a : Fin 512) (e : Fin 128) :
    XH v36 h (ix2 a e) = ((X.xh (512 * p + a) (128 * h + e) : ℝ) : EReal) := by
  rw [XH_apply, xc_at hv, rs_at hv, ← EReal.coe_mul, Data.xh, head_div]

/-- Channel `e` of head `h`. -/
abbrev ch (h : Fin 4) (e : Fin 128) : Fin 512 := ⟨128 * h.val + e.val, by omega⟩

/-- What holds of every channel of every head holds of all 512 (and likewise of the rows, chunk by chunk). -/
theorem by_ch {P : Fin 512 → Prop} (H : ∀ (h : Fin 4) (e : Fin 128), P (ch h e)) (a : Fin 512) : P a := by
  have h := H ⟨a / 128, by omega⟩ ⟨a % 128, by omega⟩
  rwa [show ch ⟨a / 128, by omega⟩ ⟨a % 128, by omega⟩ = a from Fin.ext (by simp only [ch]; omega)] at h

theorem VN_apply (h : Fin 4) (a : Fin 512) (e : Fin 128) :
    VN v36 x3 x4 h (ix2 a e) = XH v36 h (ix2 a e) * x3 (ix2 0 (ch h e)) + x4 (ix2 0 (ch h e)) := by
  fin_cases h <;> pointwise [VN, k0_pay16, k0_pay20, k0_pay25, k0_pay29, k0_pay9, k0_pay12] <;> simp [XH, ch]

theorem vn_at (hv : ∀ a j : Fin 512, v36 (ix2 a j) = ((X.vg (512 * p + a) j : ℝ) : EReal))
    (hg : ∀ j : Fin 512, x3 (ix2 0 j) = ((X.g j : ℝ) : EReal)) (hb : ∀ j : Fin 512, x4 (ix2 0 j) = ((X.b j : ℝ) : EReal))
    (h : Fin 4) (a : Fin 512) (e : Fin 128) :
    VN v36 x3 x4 h (ix2 a e) = ((X.vn (512 * p + a) (128 * h + e) : ℝ) : EReal) := by
  rw [VN_apply, xh_at hv, hg, hb, ← EReal.coe_mul, ← EReal.coe_add]; rfl

/-! ## The gate -/

/-- Head `h`'s 128 × 128 weights, cut from the array of all heads. -/
abbrev slab {φ : EltTy} (x : Vec Ideal S4x128x128 φ) : Fin 4 → Vec Ideal S1x128x128 φ :=
  ![View.ld x (Rect.unit ![0, 0, 0] ![1, 128, 128] inb_S4x128x128_S1x128x128_0_0_0),
    View.ld x (Rect.unit ![1, 0, 0] ![1, 128, 128] inb_S4x128x128_S1x128x128_1_0_0),
    View.ld x (Rect.unit ![2, 0, 0] ![1, 128, 128] inb_S4x128x128_S1x128x128_2_0_0),
    View.ld x (Rect.unit ![3, 0, 0] ![1, 128, 128] inb_S4x128x128_S1x128x128_3_0_0)]

theorem slab_apply {φ : EltTy} (x : Vec Ideal S4x128x128 φ) (h : Fin 4) (t s : Fin 128) : slab x h (ix3 0 t s) = x (ix3 h t s) := by
  fin_cases h <;> pointwise [slab]

/-! ## Tiles: four chunks of 128 rows, four heads of 128 columns -/

/-- Chunk `c`'s rows. -/
def rows {φ : FTy} (x : FVec Ideal S512x128 φ) : Fin 4 → FVec Ideal S128x128 φ
  | 0 => extractStridedSlice S128x128 ![0, 0] x slices_S512x128_o0_0_S128x128
  | 1 => extractStridedSlice S128x128 ![128, 0] x slices_S512x128_o128_0_S128x128
  | 2 => extractStridedSlice S128x128 ![256, 0] x slices_S512x128_o256_0_S128x128
  | 3 => extractStridedSlice S128x128 ![384, 0] x slices_S512x128_o384_0_S128x128

theorem rows_apply {φ : FTy} (x : FVec Ideal S512x128 φ) (c : Fin 4) (t e : Fin 128) : rows x c (ix2 t e) = x (ix2 (ch c t) e) := by
  fin_cases c <;> pointwise [rows] <;> first | rfl | simp [ch]

/-- Head `h`'s columns of the bias. -/
def cols (x : FVec Ideal S128x512 .f32) : Fin 4 → FVec Ideal S128x128 .f32
  | 0 => extractStridedSlice S128x128 ![0, 0] x slices_S128x512_o0_0_S128x128
  | 1 => extractStridedSlice S128x128 ![0, 128] x slices_S128x512_o0_128_S128x128
  | 2 => extractStridedSlice S128x128 ![0, 256] x slices_S128x512_o0_256_S128x128
  | 3 => extractStridedSlice S128x128 ![0, 384] x slices_S128x512_o0_384_S128x128

theorem cols_apply (x : FVec Ideal S128x512 .f32) (h : Fin 4) (t e : Fin 128) : cols x h (ix2 t e) = x (ix2 t (ch h e)) := by
  fin_cases h <;> pointwise [cols] <;> first | rfl | simp [ch]

/-- Four chunks of rows, one below the other. -/
def stack (q : Fin 4 → FVec Ideal S128x128 .f32) : FVec Ideal S512x128 .f32 :=
  concatenate S512x128 0 [⟨S128x128, q 0⟩, ⟨S128x128, q 1⟩, ⟨S128x128, q 2⟩, ⟨S128x128, q 3⟩] concatenates_S128x128_S128x128_S128x128_S128x128_S512x128_d0

theorem stack_apply (q : Fin 4 → FVec Ideal S128x128 .f32) (c : Fin 4) (t e : Fin 128) : stack q (ix2 (ch c t) e) = q c (ix2 t e) := by
  have ht := t.isLt
  pointwise [stack]
  fin_cases c <;> simp [ht] <;> split_ifs <;> first | omega | (congr 2; ext; simp; omega)

/-- Four heads of columns, side by side. -/
def side (q : Fin 4 → FVec Ideal S512x128 .f32) : FVec Ideal S512x512 .f32 :=
  concatenate S512x512 1 [⟨S512x128, q 0⟩, ⟨S512x128, q 1⟩, ⟨S512x128, q 2⟩, ⟨S512x128, q 3⟩] concatenates_S512x128_S512x128_S512x128_S512x128_S512x512_d1

theorem side_apply (q : Fin 4 → FVec Ideal S512x128 .f32) (h : Fin 4) (a : Fin 512) (e : Fin 128) : side q (ix2 a (ch h e)) = q h (ix2 a e) := by
  have he := e.isLt
  pointwise [side]
  fin_cases h <;> simp [he] <;> split_ifs <;> first | omega | (congr 2; ext; simp; omega)

/-- The product of a head's weights with a chunk's rows. -/
def wprod (w : Vec Ideal S1x128x128 .bf16) (q : FVec Ideal S128x128 .bf16) : FVec Ideal S128x128 .f32 :=
  matmul (φ₁ := .bf16) (φ₂ := .bf16) dot_S128x128_S128x128_S128x128_1_0_0_1_n_n none (shapeCast S128x128 w shapeCasts_S1x128x128_S128x128) q (constant S128x128 .f32 0x00000000#32)

theorem wprod_apply (w : Vec Ideal S1x128x128 .bf16) (q : FVec Ideal S128x128 .bf16) (t e : Fin 128) :
    wprod w q (ix2 t e) = ∑ s : Fin 128, w (ix3 0 t s) * q (ix2 s e) := by
  pointwise [wprod]

/-! ## The gate -/

/-- The gate as the kernel assembles it, from the bias, the heads' normalised rows and the heads' weights: per head and chunk one
    product of the weights with the rows, plus the bias. -/
def gateOf (b : FVec Ideal S128x512 .f32) (n : Fin 4 → FVec Ideal S512x128 .f32) (w : Fin 4 → Vec Ideal S1x128x128 .bf16) :
    FVec Ideal S512x512 .f32 :=
  k0_pay43 (n 3) b (k0_pay32 b (k0_pay31 (n 0)) (w 0) (w 0) (w 0) (w 0))
    (k0_pay36 b (k0_pay33 (n 1)) (k0_pay34 (n 1) b (w 1)) (k0_pay35 (n 1) (w 1)) (w 1) (w 1))
    (k0_pay38 (n 2) b (w 2)) (k0_pay39 (n 2) b (w 2)) (k0_pay40 (n 2) b (w 2)) (k0_pay41 (w 2)) (k0_pay42 (n 2)) (w 3) (w 3) (w 3) (w 3)

theorem gateOf_eq (b : FVec Ideal S128x512 .f32) (n : Fin 4 → FVec Ideal S512x128 .f32) (w : Fin 4 → Vec Ideal S1x128x128 .bf16) :
    gateOf b n w = side fun h => stack fun c => addf (wprod (w h) (rows (truncf .bf16 (n h) bitsLt_bf16_f32) c)) (cols b h) := rfl

theorem gate_spec (X : Data) (p : ℕ) (h c : Fin 4) (t e : Fin 128) :
    X.gate (512 * p + ch c t) (ch h e) = (∑ s : Fin 128, X.wm h t s * X.vn (512 * p + ch c s) (128 * h + e)) + X.bs t (ch h e) := by
  have h1 : (512 * p + (128 * c.val + t.val)) % 128 = t := by omega
  have h2 : ∀ s : Fin 128, 128 * ((512 * p + (128 * c.val + t.val)) / 128) + s.val = 512 * p + (128 * c.val + s.val) := fun s => by omega
  simp only [Data.gate, head_div, h1, h2]

theorem gate_at {b : FVec Ideal S128x512 .f32} {n : Fin 4 → FVec Ideal S512x128 .f32} {w : Fin 4 → Vec Ideal S1x128x128 .bf16}
    (hn : ∀ (h : Fin 4) (a : Fin 512) (e : Fin 128), n h (ix2 a e) = ((X.vn (512 * p + a) (128 * h + e) : ℝ) : EReal))
    (hw : ∀ (h : Fin 4) (t s : Fin 128), w h (ix3 0 t s) = ((X.wm h t s : ℝ) : EReal))
    (hb : ∀ (t : Fin 128) (j : Fin 512), b (ix2 t j) = ((X.bs t j : ℝ) : EReal)) (h c : Fin 4) (t e : Fin 128) :
    gateOf b n w (ix2 (ch c t) (ch h e)) = ((X.gate (512 * p + ch c t) (ch h e) : ℝ) : EReal) := by
  rw [gateOf_eq, side_apply, stack_apply, gate_spec]
  pointwise
  simp only [wprod_apply, rows_apply, cols_apply, hw, hb]
  pointwise
  simp only [hn, ← EReal.coe_mul, ← EReal.coe_add, sum_coe]

end Cert.KernelIdeal.Blk
end
-- ==== Proof.Back.lean ====
/- What one grid point of the kernel computes, from its nine input blocks to the blocks it stores: the backward pass, stage by
   stage, at real arguments. Grid point `p` holds the token rows from `512 p`. -/
module

public import proofs.«01_k».proof.Proof.Blk
public import Idealize.ShloMosaic.Lib.WordCmp

@[expose] public section

set_option maxRecDepth 16384

noncomputable section

namespace Cert.KernelIdeal.Blk

open Idealize.ShloMosaic Cert.KernelIdeal Cert.KernelIdeal.Gen Cert.Spec Cert.Lift

/-- What a grid point reads: seven blocks, and of the mixing weights and their transposes one matrix per head. -/
structure Ins where
  x0 : Vec Ideal S1x512x512 .f32
  x1 : Vec Ideal S1x512x512 .f32
  x2 : Vec Ideal S1x512x512 .bf16
  x3 : Vec Ideal S1x512 .f32
  x4 : Vec Ideal S1x512 .f32
  w : Fin 4 → Vec Ideal S1x128x128 .bf16
  wT : Fin 4 → Vec Ideal S1x128x128 .bf16
  x7 : Vec Ideal S128x512 .f32
  x8 : Vec Ideal S1x512 .f32

namespace Ins
variable (I : Ins)

/-! ## The stages -/

def ug : FVec Ideal S512x512 .f32 := k0_pay10 I.x0
def vg : FVec Ideal S512x512 .f32 := k0_pay11 I.x1
def vn : Fin 4 → FVec Ideal S512x128 .f32 := VN I.vg I.x3 I.x4
def bias : FVec Ideal S128x512 .f32 := k0_pay30 I.x7
def gate : FVec Ideal S512x512 .f32 := gateOf I.bias I.vn I.w
def y : FVec Ideal S512x512 .f32 := mulf I.ug I.gate
/-- The output norm's inverse root mean square, row by row. -/
def r : FVec Ideal S512x1 .f32 :=
  k0_pay45 I.ug (I.vn 3) I.bias
    (k0_pay32 I.bias (k0_pay31 (I.vn 0)) (I.w 0) (I.w 0) (I.w 0) (I.w 0))
    (k0_pay36 I.bias (k0_pay33 (I.vn 1)) (k0_pay34 (I.vn 1) I.bias (I.w 1)) (k0_pay35 (I.vn 1) (I.w 1)) (I.w 1) (I.w 1))
    (k0_pay38 (I.vn 2) I.bias (I.w 2)) (k0_pay39 (I.vn 2) I.bias (I.w 2)) (k0_pay40 (I.vn 2) I.bias (I.w 2))
    (k0_pay41 (I.w 2)) (k0_pay42 (I.vn 2)) (I.w 3) (I.w 3) (I.w 3) (I.w 3)
/-- The gradient that reaches the gated product. -/
def dy : FVec Ideal S512x512 .f32 := k0_pay49 I.y I.r I.x2 I.x8
/-- The gradient that reaches the gate. -/
def dg : FVec Ideal S512x512 .f32 := k0_pay56 I.ug I.dy
/-- The gradient that reaches the normalised rows, head by head. -/
def dvn : Fin 4 → FVec Ideal S512x128 .f32
  | 0 => k0_pay64 (k0_pay60 I.ug I.dy) (k0_pay61 I.ug I.dy (I.wT 0)) (I.wT 0) (I.wT 0) (I.wT 0)
  | 1 => k0_pay79 (k0_pay73 I.dg) (I.wT 1) (I.wT 1) (I.wT 1) (I.wT 1)
  | 2 => k0_pay96 (k0_pay90 I.dg) (k0_pay91 I.dg (I.wT 2)) (k0_pay92 I.dg (I.wT 2)) (k0_pay95 (I.wT 2)) (I.wT 2)
  | 3 => k0_pay109 (k0_pay104 I.dg) (k0_pay106 I.dg (I.wT 3)) (I.wT 3) (I.wT 3) (I.wT 3)
/-- The gradient that reaches the layer norm's input. -/
def dvg : FVec Ideal S512x512 .f32 :=
  k0_pay115 (k0_pay9 I.x3) (RS I.vg 3) (XH I.vg 3) (k0_pay70 (k0_pay9 I.x3) (RS I.vg 0) (XH I.vg 0) (I.dvn 0))
    (k0_pay87 (RS I.vg 1) (XH I.vg 1) (k0_pay85 (k0_pay9 I.x3) (I.dvn 1)) (k0_pay86 (k0_pay9 I.x3) (XH I.vg 1) (I.dvn 1)))
    (k0_pay101 (k0_pay9 I.x3) (RS I.vg 2) (XH I.vg 2) (I.dvn 2)) (I.dvn 3)

/-- The stored block of the gradient of u. -/
def duBlk : FVec Ideal S1x512x512 .bf16 :=
  k0_pay55 (k0_pay7 I.x0) (k0_pay50 I.gate I.y I.r I.x2 I.x8) (k0_pay52 (k0_pay7 I.x0)) (k0_pay53 (k0_pay7 I.x0)) (k0_pay54 (k0_pay7 I.x0))
/-- The stored block of the gradient of v. -/
def dvBlk : FVec Ideal S1x512x512 .bf16 := k0_pay1 (k0_pay8 I.x1) I.dvg (k0_pay116 (k0_pay8 I.x1))

/-! The parameters' gradients: what a grid point adds to what the points before it left, head by head. -/

def dog (o : Vec Ideal S1x512 .f32) : FVec Ideal S1x512 .f32 := k0_pay48 I.y I.r I.x2 o
def dlng (o : Vec Ideal S1x128 .f32) : Fin 4 → FVec Ideal S1x128 .f32
  | 0 => k0_pay68 (XH I.vg 0) (I.dvn 0) o
  | 1 => k0_pay82 (XH I.vg 1) (I.dvn 1) o
  | 2 => k0_pay99 (XH I.vg 2) (k0_pay90 I.dg) (k0_pay91 I.dg (I.wT 2)) (k0_pay92 I.dg (I.wT 2)) (k0_pay95 (I.wT 2)) (I.wT 2) o
  | 3 => k0_pay113 (XH I.vg 3) (I.dvn 3) o
def dlnb (o : Vec Ideal S1x128 .f32) : Fin 4 → FVec Ideal S1x128 .f32
  | 0 => k0_pay69 (I.dvn 0) o
  | 1 => k0_pay83 (I.dvn 1) o
  | 2 => k0_pay100 (I.dvn 2) o
  | 3 => k0_pay114 (I.dvn 3) o
def dbs (o : Vec Ideal S128x128 .f32) : Fin 4 → FVec Ideal S128x128 .f32
  | 0 => k0_pay65 (k0_pay59 I.ug I.dy) (k0_pay62 I.ug I.dy) o
  | 1 => k0_pay80 (k0_pay77 (k0_pay72 I.dg) (k0_pay75 I.dg)) o
  | 2 => k0_pay97 (k0_pay89 I.dg) (k0_pay93 I.dg) o
  | 3 => k0_pay110 (k0_pay103 I.dg) (k0_pay107 I.dg) o
def dws (o : Vec Ideal S1x128x128 .f32) : Fin 4 → FVec Ideal S1x128x128 .f32
  | 0 => k0_pay67 (k0_pay66 k0_pay57 (k0_pay58 (I.vn 0)) (k0_pay60 I.ug I.dy) (k0_pay63 I.ug (I.vn 0) I.dy) o)
  | 1 => k0_pay81 k0_pay57 (k0_pay78 (k0_pay71 (I.vn 1)) (k0_pay73 I.dg) k0_pay74 (k0_pay76 I.dg)) o
  | 2 => k0_pay98 k0_pay57 (k0_pay88 (I.vn 2)) (k0_pay90 I.dg) (k0_pay94 (I.vn 2) I.dg) o
  | 3 => k0_pay112 (k0_pay111 k0_pay57 (k0_pay102 (I.vn 3)) (k0_pay104 I.dg) (k0_pay105 (I.vn 3) I.dg) (k0_pay108 (I.vn 3) I.dg) o)

/-- The stages under their names: the payloads' terms over the blocks, read from the leaves up. -/
theorem folds :
    k0_pay10 I.x0 = I.ug ∧ k0_pay11 I.x1 = I.vg
    ∧ k0_pay16 (k0_pay9 I.x3) I.vg I.x4 = I.vn 0 ∧ k0_pay20 (k0_pay9 I.x3) I.vg I.x4 = I.vn 1
    ∧ k0_pay25 (k0_pay9 I.x3) (k0_pay12 I.x4) (k0_pay21 I.vg) = I.vn 2 ∧ k0_pay29 (k0_pay9 I.x3) I.vg (k0_pay12 I.x4) = I.vn 3
    ∧ k0_pay14 I.vg = RS I.vg 0 ∧ k0_pay18 I.vg = RS I.vg 1 ∧ k0_pay23 (k0_pay21 I.vg) = RS I.vg 2 ∧ k0_pay27 I.vg = RS I.vg 3
    ∧ k0_pay15 I.vg = XH I.vg 0 ∧ k0_pay19 I.vg = XH I.vg 1 ∧ k0_pay24 (k0_pay21 I.vg) = XH I.vg 2 ∧ k0_pay28 I.vg = XH I.vg 3
    ∧ k0_pay30 I.x7 = I.bias :=
  ⟨rfl, rfl, rfl, rfl, rfl, rfl, rfl, rfl, rfl, rfl, rfl, rfl, rfl, rfl, rfl⟩

theorem fold_gate : k0_pay43 (I.vn 3) I.bias
    (k0_pay32 I.bias (k0_pay31 (I.vn 0)) (I.w 0) (I.w 0) (I.w 0) (I.w 0))
    (k0_pay36 I.bias (k0_pay33 (I.vn 1)) (k0_pay34 (I.vn 1) I.bias (I.w 1)) (k0_pay35 (I.vn 1) (I.w 1)) (I.w 1) (I.w 1))
    (k0_pay38 (I.vn 2) I.bias (I.w 2)) (k0_pay39 (I.vn 2) I.bias (I.w 2)) (k0_pay40 (I.vn 2) I.bias (I.w 2))
    (k0_pay41 (I.w 2)) (k0_pay42 (I.vn 2)) (I.w 3) (I.w 3) (I.w 3) (I.w 3) = I.gate := rfl

theorem fold_y : k0_pay44 I.ug (I.vn 3) I.bias
    (k0_pay32 I.bias (k0_pay31 (I.vn 0)) (I.w 0) (I.w 0) (I.w 0) (I.w 0))
    (k0_pay36 I.bias (k0_pay33 (I.vn 1)) (k0_pay34 (I.vn 1) I.bias (I.w 1)) (k0_pay35 (I.vn 1) (I.w 1)) (I.w 1) (I.w 1))
    (k0_pay38 (I.vn 2) I.bias (I.w 2)) (k0_pay39 (I.vn 2) I.bias (I.w 2)) (k0_pay40 (I.vn 2) I.bias (I.w 2))
    (k0_pay41 (I.w 2)) (k0_pay42 (I.vn 2)) (I.w 3) (I.w 3) (I.w 3) (I.w 3) = I.y := rfl

theorem fold_r : k0_pay45 I.ug (I.vn 3) I.bias
    (k0_pay32 I.bias (k0_pay31 (I.vn 0)) (I.w 0) (I.w 0) (I.w 0) (I.w 0))
    (k0_pay36 I.bias (k0_pay33 (I.vn 1)) (k0_pay34 (I.vn 1) I.bias (I.w 1)) (k0_pay35 (I.vn 1) (I.w 1)) (I.w 1) (I.w 1))
    (k0_pay38 (I.vn 2) I.bias (I.w 2)) (k0_pay39 (I.vn 2) I.bias (I.w 2)) (k0_pay40 (I.vn 2) I.bias (I.w 2))
    (k0_pay41 (I.w 2)) (k0_pay42 (I.vn 2)) (I.w 3) (I.w 3) (I.w 3) (I.w 3) = I.r := rfl

theorem fold_back : k0_pay49 I.y I.r I.x2 I.x8 = I.dy ∧ k0_pay56 I.ug I.dy = I.dg
    ∧ k0_pay64 (k0_pay60 I.ug I.dy) (k0_pay61 I.ug I.dy (I.wT 0)) (I.wT 0) (I.wT 0) (I.wT 0) = I.dvn 0
    ∧ k0_pay79 (k0_pay73 I.dg) (I.wT 1) (I.wT 1) (I.wT 1) (I.wT 1) = I.dvn 1
    ∧ k0_pay96 (k0_pay90 I.dg) (k0_pay91 I.dg (I.wT 2)) (k0_pay92 I.dg (I.wT 2)) (k0_pay95 (I.wT 2)) (I.wT 2) = I.dvn 2
    ∧ k0_pay109 (k0_pay104 I.dg) (k0_pay106 I.dg (I.wT 3)) (I.wT 3) (I.wT 3) (I.wT 3) = I.dvn 3 := ⟨rfl, rfl, rfl, rfl, rfl, rfl⟩

theorem fold_dvg : k0_pay115 (k0_pay9 I.x3) (RS I.vg 3) (XH I.vg 3) (k0_pay70 (k0_pay9 I.x3) (RS I.vg 0) (XH I.vg 0) (I.dvn 0))
    (k0_pay87 (RS I.vg 1) (XH I.vg 1) (k0_pay85 (k0_pay9 I.x3) (I.dvn 1)) (k0_pay86 (k0_pay9 I.x3) (XH I.vg 1) (I.dvn 1)))
    (k0_pay101 (k0_pay9 I.x3) (RS I.vg 2) (XH I.vg 2) (I.dvn 2)) (I.dvn 3) = I.dvg := rfl

end Ins

/-- The blocks hold the rows from `512 p` of the real arrays `X`. -/
structure Reads (X : Data) (p : ℕ) (I : Ins) : Prop where
  u : ∀ a j : Fin 512, I.x0 (ix3 0 a j) = ((X.U (512 * p + a) j : ℝ) : EReal)
  v : ∀ a j : Fin 512, I.x1 (ix3 0 a j) = ((X.V (512 * p + a) j : ℝ) : EReal)
  d : ∀ a j : Fin 512, I.x2 (ix3 0 a j) = ((X.D (512 * p + a) j : ℝ) : EReal)
  g : ∀ j : Fin 512, I.x3 (ix2 0 j) = ((X.g j : ℝ) : EReal)
  b : ∀ j : Fin 512, I.x4 (ix2 0 j) = ((X.b j : ℝ) : EReal)
  w : ∀ (h : Fin 4) (t s : Fin 128), I.w h (ix3 0 t s) = ((X.wm h t s : ℝ) : EReal)
  wT : ∀ (h : Fin 4) (s t : Fin 128), I.wT h (ix3 0 s t) = ((X.wm h t s : ℝ) : EReal)
  bs : ∀ (t : Fin 128) (j : Fin 512), I.x7 (ix2 t j) = ((X.bs t j : ℝ) : EReal)
  og : ∀ j : Fin 512, I.x8 (ix2 0 j) = ((X.og j : ℝ) : EReal)

/-! ## Head columns, and the closed forms of the per-head stages -/

/-- Head `h`'s columns of a block. -/
def heads (x : FVec Ideal S512x512 .f32) : Fin 4 → FVec Ideal S512x128 .f32
  | 0 => extractStridedSlice S512x128 ![0, 0] x slices_S512x512_o0_0_S512x128
  | 1 => extractStridedSlice S512x128 ![0, 128] x slices_S512x512_o0_128_S512x128
  | 2 => extractStridedSlice S512x128 ![0, 256] x slices_S512x512_o0_256_S512x128
  | 3 => extractStridedSlice S512x128 ![0, 384] x slices_S512x512_o0_384_S512x128

theorem heads_apply (x : FVec Ideal S512x512 .f32) (h : Fin 4) (a : Fin 512) (e : Fin 128) : heads x h (ix2 a e) = x (ix2 a (ch h e)) := by
  fin_cases h <;> pointwise [heads] <;> first | rfl | simp [ch]

/-- A head's chunk of the gate gradient times the same chunk of the normalised rows, contracted over the head's channels. -/
def gprod (q n : FVec Ideal S128x128 .bf16) : FVec Ideal S128x128 .f32 :=
  matmul (φ₁ := .bf16) (φ₂ := .bf16) dot_S128x128_S128x128_S128x128_1_1_0_0_n_n none q n (constant S128x128 .f32 0x00000000#32)

theorem gprod_apply (q n : FVec Ideal S128x128 .bf16) (t s : Fin 128) : gprod q n (ix2 t s) = ∑ e : Fin 128, q (ix2 t e) * n (ix2 s e) := by
  pointwise [gprod]

/-- Four chunks added up, from zero. -/
def add4 (q : Fin 4 → FVec Ideal S128x128 .f32) : FVec Ideal S128x128 .f32 :=
  addf (addf (addf (addf (broadcast S128x128 (Scalar.ofBits .f32 0x00000000#32)) (q 0)) (q 1)) (q 2)) (q 3)

theorem add4_apply (q : Fin 4 → FVec Ideal S128x128 .f32) (t s : Fin 128) : add4 q (ix2 t s) = ∑ c : Fin 4, q c (ix2 t s) := by
  pointwise [add4]
  rw [Fin.sum_univ_four]

namespace Ins
variable (I : Ins)

theorem r_apply (a : Fin 512) : I.r (ix2 a 0)
    = Ideal.rsqrt (Ideal.div (∑ j : Fin 512, I.y (ix2 a j) * I.y (ix2 a j)) (Ideal.ofBits .f32 0x44000000#32) + Ideal.ofBits .f32 0x358637BD#32) := by
  pointwise [r, k0_pay45]
  rfl

theorem dvn_eq (h : Fin 4) : I.dvn h = stack fun c => wprod (I.wT h) (rows (truncf .bf16 (heads I.dg h) bitsLt_bf16_f32) c) := by
  fin_cases h <;> rfl

theorem dbs_eq (o : Vec Ideal S128x128 .f32) (h : Fin 4) : I.dbs o h = addf (shapeCast S128x128 o shapeCasts_S128x128_S128x128) (add4 (rows (heads I.dg h))) := by
  fin_cases h <;> rfl

theorem dws_eq (o : Vec Ideal S1x128x128 .f32) (h : Fin 4) : I.dws o h = shapeCast S1x128x128
    (addf (shapeCast S128x128 o shapeCasts_S1x128x128_S128x128) (select k0_pay57
      (add4 fun c => gprod (rows (truncf .bf16 (heads I.dg h) bitsLt_bf16_f32) c) (rows (truncf .bf16 (I.vn h) bitsLt_bf16_f32) c))
      (broadcast S128x128 (Scalar.ofBits .f32 0x00000000#32)))) shapeCasts_S128x128_S1x128x128 := by
  fin_cases h <;> rfl

/-- Head `h`'s columns of the scale. -/
def gcols (x : FVec Ideal S1x512 .f32) : Fin 4 → FVec Ideal S1x128 .f32
  | 0 => extractStridedSlice S1x128 ![0, 0] x slices_S1x512_o0_0_S1x128
  | 1 => extractStridedSlice S1x128 ![0, 128] x slices_S1x512_o0_128_S1x128
  | 2 => extractStridedSlice S1x128 ![0, 256] x slices_S1x512_o0_256_S1x128
  | 3 => extractStridedSlice S1x128 ![0, 384] x slices_S1x512_o0_384_S1x128

theorem gcols_apply (x : FVec Ideal S1x512 .f32) (h : Fin 4) (e : Fin 128) : gcols x h (ix2 0 e) = x (ix2 0 (ch h e)) := by
  fin_cases h <;> pointwise [gcols] <;> first | rfl | simp [ch]

/-- A head's row means, spread over its columns. -/
def mean (q : FVec Ideal S512x128 .f32) : FVec Ideal S512x128 .f32 :=
  broadcastTo S512x128 (divf (shapeCast S512x1 (multiReduction .add [1] S512 q 0x00000000#32 reduces_S512x128_S512 (.inl rfl) rfl) shapeCasts_S512_S512x1)
    (broadcast S512x1 (Scalar.ofBits .f32 0x43000000#32))) broadcasts_S512x1_S512x128

theorem mean_apply (q : FVec Ideal S512x128 .f32) (a : Fin 512) (e : Fin 128) :
    mean q (ix2 a e) = Ideal.div (∑ k : Fin 128, q (ix2 a k)) (Ideal.ofBits .f32 0x43000000#32) := by
  pointwise [mean]

/-- One head of the layer norm's gradient, from the scaled gradient `d` of the normalised rows. -/
def lnB (rs : FVec Ideal S512x1 .f32) (xh d : FVec Ideal S512x128 .f32) : FVec Ideal S512x128 .f32 :=
  mulf (broadcastTo S512x128 rs broadcasts_S512x1_S512x128) (subf (subf d (mean d)) (mulf xh (mean (mulf d xh))))

theorem dvg_eq : I.dvg = side fun h => lnB (RS I.vg h) (XH I.vg h)
    (mulf (I.dvn h) (broadcastTo S512x128 (gcols (k0_pay9 I.x3) h) broadcasts_S1x128_S512x128)) := rfl

/-! ## The stages at real arguments -/

variable {I} {X : Data} {p : ℕ} (H : Reads X p I)
include H

theorem ug_at (a j : Fin 512) : I.ug (ix2 a j) = ((X.ug (512 * p + a) j : ℝ) : EReal) := gel_at (fun a j => X.U (512 * p + a) j) I.x0 H.u a j
theorem vg_at (a j : Fin 512) : I.vg (ix2 a j) = ((X.vg (512 * p + a) j : ℝ) : EReal) := gel_at (fun a j => X.V (512 * p + a) j) I.x1 H.v a j
theorem vn_at (h : Fin 4) (a : Fin 512) (e : Fin 128) : I.vn h (ix2 a e) = ((X.vn (512 * p + a) (128 * h + e) : ℝ) : EReal) :=
  Blk.vn_at (vg_at H) H.g H.b h a e
theorem bias_at (t : Fin 128) (j : Fin 512) : I.bias (ix2 t j) = ((X.bs t j : ℝ) : EReal) := by
  pointwise [bias, k0_pay30]; exact H.bs t j

theorem gate_at (a j : Fin 512) : I.gate (ix2 a j) = ((X.gate (512 * p + a) j : ℝ) : EReal) := by
  induction a using by_ch with | H c t => ?_
  induction j using by_ch with | H h e => ?_
  exact Blk.gate_at (vn_at H) H.w (bias_at H) h c t e

theorem y_at (a j : Fin 512) : I.y (ix2 a j) = ((X.y (512 * p + a) j : ℝ) : EReal) := by
  pointwise [y]
  rw [ug_at H, gate_at H, ← EReal.coe_mul]; rfl

theorem r_at (a : Fin 512) : I.r (ix2 a 0) = ((X.rr (512 * p + a) : ℝ) : EReal) := by
  rw [r_apply]
  simp only [y_at H, lit_512, lit_eps6, sum_coe, div512, ← EReal.coe_add, ← EReal.coe_mul]
  exact rsqrt_coe (X.ms_pos _)

theorem yn_at (a j : Fin 512) : k0_pay46 I.y I.r (ix2 a j) = ((X.yn (512 * p + a) j : ℝ) : EReal) := by
  pointwise [k0_pay46]
  rw [y_at H, r_at H, ← EReal.coe_mul]; rfl

theorem dy_at (a j : Fin 512) : I.dy (ix2 a j) = ((X.dy (512 * p + a) j : ℝ) : EReal) := by
  pointwise [dy, k0_pay49, k0_pay47]
  simp only [yn_at H, r_at H, H.d, H.og, lit_512, sum_coe, div512, ← EReal.coe_sub, ← EReal.coe_mul]
  rfl

theorem dg_at (a j : Fin 512) : I.dg (ix2 a j) = ((X.dg (512 * p + a) j : ℝ) : EReal) := by
  pointwise [dg, k0_pay56]
  rw [dy_at H, ug_at H, ← EReal.coe_mul]; rfl

/-- The block of the gradient of u. -/
theorem du_at (a j : Fin 512) : I.duBlk (ix3 0 a j) = ((X.du (512 * p + a) j : ℝ) : EReal) := by
  refine dgel_at (fun a j => X.U (512 * p + a) j) (fun a j => X.dy (512 * p + a) j * X.gate (512 * p + a) j) I.x0 _ H.u (fun a j => ?_) a j
  pointwise [k0_pay50]
  rw [← dy, dy_at H, gate_at H, ← EReal.coe_mul]

theorem heads_at (h : Fin 4) (a : Fin 512) (e : Fin 128) : heads I.dg h (ix2 a e) = ((X.dg (512 * p + a) (ch h e) : ℝ) : EReal) := by
  rw [heads_apply, dg_at H]

theorem dvn_at (h : Fin 4) (a : Fin 512) (e : Fin 128) : I.dvn h (ix2 a e) = ((X.dvn (512 * p + a) (ch h e) : ℝ) : EReal) := by
  induction a using by_ch with | H c t => ?_
  have h1 : (512 * p + (128 * c.val + t.val)) % 128 = t := by omega
  have h2 : ∀ s : Fin 128, 128 * ((512 * p + (128 * c.val + t.val)) / 128) + s.val = 512 * p + (128 * c.val + s.val) := fun s => by omega
  rw [dvn_eq, stack_apply, wprod_apply]
  simp only [rows_apply, H.wT]
  pointwise
  simp only [heads_at H, ← EReal.coe_mul, sum_coe, Data.dvn, head_div, h1, h2]

theorem xh_at (h : Fin 4) (a : Fin 512) (e : Fin 128) : XH I.vg h (ix2 a e) = ((X.xh (512 * p + a) (ch h e) : ℝ) : EReal) :=
  Blk.xh_at (vg_at H) h a e

theorem dvg_at (a j : Fin 512) : I.dvg (ix2 a j) = ((X.dvg (512 * p + a) j : ℝ) : EReal) := by
  induction j using by_ch with | H h e => ?_
  have hd : ∀ k : Fin 128, I.dvn h (ix2 a k) * gcols (k0_pay9 I.x3) h (ix2 0 k) = ((X.dxh (512 * p + a) (ch h k) : ℝ) : EReal) := fun k => by
    rw [dvn_at H, gcols_apply]
    pointwise [k0_pay9]
    rw [H.g, ← EReal.coe_mul]; rfl
  rw [dvg_eq, side_apply]
  pointwise [lnB]
  simp only [mean_apply]
  pointwise
  simp only [hd, xh_at H, rs_at (vg_at H), lit_128, sum_coe, div128, ← EReal.coe_sub, ← EReal.coe_mul]
  simp only [Data.dvg, Data.m3, Data.m4, head_div]

/-- The block of the gradient of v. -/
theorem dv_at (a j : Fin 512) : I.dvBlk (ix3 0 a j) = ((X.dv (512 * p + a) j : ℝ) : EReal) :=
  dgel_at (fun a j => X.V (512 * p + a) j) (fun a j => X.dvg (512 * p + a) j) I.x1 I.dvg H.v (dvg_at H) a j

/-! ## What a grid point adds to the parameters' gradients -/

theorem dog_at (o : Vec Ideal S1x512 .f32) (j : Fin 512) : I.dog o (ix2 0 j) = o (ix2 0 j) + ((X.dogB p j : ℝ) : EReal) := by
  pointwise [dog, k0_pay48, k0_pay47]
  simp only [yn_at H, H.d, ← EReal.coe_mul, sum_coe]
  rfl

theorem dlng_at (o : Vec Ideal S1x128 .f32) (h : Fin 4) (e : Fin 128) : I.dlng o h (ix2 0 e) = o (ix2 0 e) + ((X.dlngB p (ch h e) : ℝ) : EReal) := by
  have hs : ∑ r : Fin 512, I.dvn h (ix2 r e) * XH I.vg h (ix2 r e) = ((X.dlngB p (ch h e) : ℝ) : EReal) := by
    simp only [dvn_at H, xh_at H, ← EReal.coe_mul, sum_coe]; rfl
  rw [← hs]
  fin_cases h <;> pointwise [dlng, k0_pay68, k0_pay82, k0_pay99, k0_pay113] <;> rfl

theorem dlnb_at (o : Vec Ideal S1x128 .f32) (h : Fin 4) (e : Fin 128) : I.dlnb o h (ix2 0 e) = o (ix2 0 e) + ((X.dlnbB p (ch h e) : ℝ) : EReal) := by
  have hs : ∑ r : Fin 512, I.dvn h (ix2 r e) = ((X.dlnbB p (ch h e) : ℝ) : EReal) := by
    simp only [dvn_at H, sum_coe]; rfl
  rw [← hs]
  fin_cases h <;> pointwise [dlnb, k0_pay69, k0_pay83, k0_pay100, k0_pay114] <;> rfl

theorem dbs_at (o : Vec Ideal S128x128 .f32) (h : Fin 4) (t e : Fin 128) :
    I.dbs o h (ix2 t e) = o (ix2 t e) + ((X.dbsB p t (ch h e) : ℝ) : EReal) := by
  rw [dbs_eq]
  pointwise
  simp only [add4_apply, rows_apply, heads_at H, sum_coe, Data.dbsB, ← Nat.add_assoc]

omit H in
theorem mask_apply (t s : Fin 128) : (k0_pay57 (ix2 t s) = 1#1) ↔ s.val ≤ t.val := by
  pointwise [k0_pay57]
  exact WordCmp.cmpi_sge_ofNat_eq_one_iff (by omega) (by omega)

theorem dws_at (o : Vec Ideal S1x128x128 .f32) (h : Fin 4) (t s : Fin 128) :
    I.dws o h (ix3 0 t s) = o (ix3 0 t s) + ((X.dwsB p h t s : ℝ) : EReal) := by
  rw [dws_eq]
  pointwise
  simp only [add4_apply, gprod_apply, rows_apply]
  pointwise
  simp only [heads_at H, vn_at H, ← EReal.coe_mul, sum_coe, Data.dwsB, ← Nat.add_assoc]
  congr 1
  by_cases hm : s.val ≤ t.val
  · rw [(mask_apply t s).mpr hm, if_pos hm]; rfl
  · rw [if_neg hm, show k0_pay57 (ix2 t s) = 0#1 from (by have h := mt (mask_apply t s).mp hm; revert h; generalize k0_pay57 (ix2 t s) = b; revert b; decide)]; rfl

end Ins
end Cert.KernelIdeal.Blk
end
-- ==== Proof.Out.lean ====
/- What the kernel's grid leaves in each output window's buffer after a point, in terms of `Back.lean`'s blocks. -/
module

public import proofs.«01_k».proof.Proof.Back
public import Idealize.ShloMosaic.Lib.Pipeline.ValueKit
public import proofs.«01_k».proof.Proof.Gen.KernelIdeal.Value

@[expose] public section

set_option maxRecDepth 16384
set_option maxHeartbeats 4000000

noncomputable section

namespace Cert.KernelIdeal.Blk

open Idealize.ShloMosaic Cert.KernelIdeal Cert.KernelIdeal.Gen Cert.Spec Cert.Lift
open Idealize.ShloMosaic.TcCoe Idealize.SL.Sem
open Idealize.ShloMosaic.Pipeline (Dat)

variable (m : (ℓ : Loc nD τ sig) → Buf (Elt Ideal) ℓ) (c : Dev nD)

/-- What point `t` reads. -/
def ins (t : Fin cfg0.N) : Ins :=
  ⟨iblk m c 0 t, iblk m c 1 t, iblk m c 2 t, iblk m c 3 t, iblk m c 4 t, slab (iblk m c 5 t), slab (iblk m c 6 t), iblk m c 7 t, iblk m c 8 t⟩

/-- The blocks of point `t` under their names. -/
theorem leaves (t : Fin cfg0.N) : iblk m c 0 t = (ins m c t).x0 ∧ iblk m c 1 t = (ins m c t).x1 ∧ iblk m c 2 t = (ins m c t).x2
    ∧ iblk m c 3 t = (ins m c t).x3 ∧ iblk m c 4 t = (ins m c t).x4 ∧ iblk m c 7 t = (ins m c t).x7 ∧ iblk m c 8 t = (ins m c t).x8
    ∧ View.ld (iblk m c 5 t) (Rect.unit ![0, 0, 0] ![1, 128, 128] inb_S4x128x128_S1x128x128_0_0_0) = (ins m c t).w 0
    ∧ View.ld (iblk m c 5 t) (Rect.unit ![1, 0, 0] ![1, 128, 128] inb_S4x128x128_S1x128x128_1_0_0) = (ins m c t).w 1
    ∧ View.ld (iblk m c 5 t) (Rect.unit ![2, 0, 0] ![1, 128, 128] inb_S4x128x128_S1x128x128_2_0_0) = (ins m c t).w 2
    ∧ View.ld (iblk m c 5 t) (Rect.unit ![3, 0, 0] ![1, 128, 128] inb_S4x128x128_S1x128x128_3_0_0) = (ins m c t).w 3
    ∧ View.ld (iblk m c 6 t) (Rect.unit ![0, 0, 0] ![1, 128, 128] inb_S4x128x128_S1x128x128_0_0_0) = (ins m c t).wT 0
    ∧ View.ld (iblk m c 6 t) (Rect.unit ![1, 0, 0] ![1, 128, 128] inb_S4x128x128_S1x128x128_1_0_0) = (ins m c t).wT 1
    ∧ View.ld (iblk m c 6 t) (Rect.unit ![2, 0, 0] ![1, 128, 128] inb_S4x128x128_S1x128x128_2_0_0) = (ins m c t).wT 2
    ∧ View.ld (iblk m c 6 t) (Rect.unit ![3, 0, 0] ![1, 128, 128] inb_S4x128x128_S1x128x128_3_0_0) = (ins m c t).wT 3 :=
  ⟨rfl, rfl, rfl, rfl, rfl, rfl, rfl, rfl, rfl, rfl, rfl, rfl, rfl, rfl, rfl⟩

open Ins

theorem out_du (t : Fin cfg0.N) : (outsAt0 m c t.val t.isLt).1 = (ins m c t).duBlk := by
  by_cases h : t.val % 8 = 0
  · rw [outsAt0_A m c t h]; frame_out; simp only [leaves, folds, fold_gate, fold_y, fold_r]; rfl
  · rw [outsAt0_B m c t h]; frame_out; simp only [leaves, folds, fold_gate, fold_y, fold_r]; rfl

theorem out_dv (t : Fin cfg0.N) : (outsAt0 m c t.val t.isLt).2.1 = (ins m c t).dvBlk := by
  by_cases h : t.val % 8 = 0
  · rw [outsAt0_A m c t h]; frame_out; simp only [leaves, folds, fold_gate, fold_y, fold_r, fold_back, fold_dvg]; rfl
  · rw [outsAt0_B m c t h]; frame_out; simp only [leaves, folds, fold_gate, fold_y, fold_r, fold_back, fold_dvg]; rfl

theorem out_dog_A (t : Fin cfg0.N) (h : t.val % 8 = 0) : (outsAt0 m c t.val t.isLt).2.2.2.2.2.2 = (ins m c t).dog (k0_pay6 (F := Ideal)) := by
  rw [outsAt0_A m c t h]; frame_out; simp only [leaves, folds, fold_gate, fold_y, fold_r]; rfl

theorem out_dog_B (t : Fin cfg0.N) (h : ¬t.val % 8 = 0) :
    (outsAt0 m c t.val t.isLt).2.2.2.2.2.2 = (ins m c t).dog (outsAt0 m c (t.val - 1) (by omega)).2.2.2.2.2.2 := by
  rw [outsAt0_B m c t h]; frame_out; simp only [leaves, folds, fold_gate, fold_y, fold_r]; rfl

end Cert.KernelIdeal.Blk
end
-- ==== Proof.Tiles.lean ====
/- The parameters' gradients are stored head by head; what a grid point leaves in the blocks that hold them. -/
module

public import proofs.«01_k».proof.Proof.Out
public import Idealize.ShloMosaic.Lib.Pipeline.ValueKit
public import Idealize.ShloMosaic.Lib.Pipeline.ReadBack
public import proofs.«01_k».proof.Proof.Gen.KernelIdeal.Value

@[expose] public section

set_option maxRecDepth 16384
set_option maxHeartbeats 4000000

noncomputable section

namespace Cert.KernelIdeal.Blk

open Idealize.ShloMosaic Cert.KernelIdeal Cert.KernelIdeal.Gen Cert.Spec Cert.Lift
open Idealize.ShloMosaic.TcCoe Idealize.SL.Sem
open Idealize.ShloMosaic.Pipeline (Dat)

variable (m : (ℓ : Loc nD τ sig) → Buf (Elt Ideal) ℓ) (c : Dev nD)

/-! ## Four tiles of a block -/

/-- The four heads' columns of a row. -/
abbrev rowTile (o : Vec Ideal S1x512 .f32) : Fin 4 → Vec Ideal S1x128 .f32 :=
  ![View.ld o (Rect.unit ![0, 0] ![1, 128] inb_S1x512_S1x128_0_0), View.ld o (Rect.unit ![0, 128] ![1, 128] inb_S1x512_S1x128_0_128),
    View.ld o (Rect.unit ![0, 256] ![1, 128] inb_S1x512_S1x128_0_256), View.ld o (Rect.unit ![0, 384] ![1, 128] inb_S1x512_S1x128_0_384)]

theorem rowTile_apply (o : Vec Ideal S1x512 .f32) (h : Fin 4) (e : Fin 128) : rowTile o h (ix2 0 e) = o (ix2 0 (ch h e)) := by
  fin_cases h <;> pointwise [rowTile] <;> first | rfl | simp [ch]

/-- The four heads' columns of a matrix. -/
abbrev colTile (o : Vec Ideal S128x512 .f32) : Fin 4 → Vec Ideal S128x128 .f32 :=
  ![View.ld o (Rect.unit ![0, 0] ![128, 128] inb_S128x512_S128x128_0_0), View.ld o (Rect.unit ![0, 128] ![128, 128] inb_S128x512_S128x128_0_128),
    View.ld o (Rect.unit ![0, 256] ![128, 128] inb_S128x512_S128x128_0_256), View.ld o (Rect.unit ![0, 384] ![128, 128] inb_S128x512_S128x128_0_384)]

theorem colTile_apply (o : Vec Ideal S128x512 .f32) (h : Fin 4) (t e : Fin 128) : colTile o h (ix2 t e) = o (ix2 t (ch h e)) := by
  fin_cases h <;> pointwise [colTile] <;> first | rfl | simp [ch]

/-- Off the last piece the earlier ones show; `a` is an axis that separates them. -/
theorem canon_off {S : Shape} {off size : Fin S.rank → ℕ} (inb : ∀ a, off a + size a ≤ S.size a)
    (w : (Rect.unit off size inb).shape.Idx → Elt Ideal .f32) (L : List (View.Piece (Elt Ideal) S .f32)) (y : S.Idx) (a : Fin S.rank)
    (h : (y a : ℕ) < off a) : View.canon ((⟨Rect.unit off size inb, w⟩ : View.Piece (Elt Ideal) S .f32) :: L) y = View.canon L y :=
  View.canon_cons_of_not_mem _ _ fun hm => by have := (Rect.mem_set_unit (inb := inb)).mp hm a; omega

/-- On the last piece it shows. -/
theorem canon_on {S : Shape} {off size : Fin S.rank → ℕ} (inb : ∀ a, off a + size a ≤ S.size a)
    (w : (Rect.unit off size inb).shape.Idx → Elt Ideal .f32) (L : List (View.Piece (Elt Ideal) S .f32)) (y : S.Idx)
    (x : (Rect.unit off size inb).shape.Idx) (h : ∀ a, (y a : ℕ) = off a + x a) :
    View.canon ((⟨Rect.unit off size inb, w⟩ : View.Piece (Elt Ideal) S .f32) :: L) y = w x := by
  have : y = (Rect.unit off size inb).emb x := by
    funext a; ext; rw [h a, Rect.emb_apply]; show _ = off a + 1 * (x a : ℕ); omega
  rw [this]; exact View.canon_cons_emb _ _ _ _

theorem canon_row (f : Fin 4 → Vec Ideal S1x128 .f32) (L : List (View.Piece (Elt Ideal) S1x512 .f32)) (h : Fin 4) (e : Fin 128) :
    View.canon ((⟨Rect.unit ![0, 384] ![1, 128] inb_S1x512_S1x128_0_384, f 3⟩ : View.Piece (Elt Ideal) S1x512 .f32)
      :: ⟨Rect.unit ![0, 256] ![1, 128] inb_S1x512_S1x128_0_256, f 2⟩ :: ⟨Rect.unit ![0, 128] ![1, 128] inb_S1x512_S1x128_0_128, f 1⟩
      :: ⟨Rect.unit ![0, 0] ![1, 128] inb_S1x512_S1x128_0_0, f 0⟩ :: L) (ix2 0 (ch h e)) = f h (ix2 0 e) := by
  have he := e.isLt
  fin_cases h
  · rw [canon_off _ _ _ _ 1 (by show 128 * 0 + e.val < 384; omega), canon_off _ _ _ _ 1 (by show 128 * 0 + e.val < 256; omega),
      canon_off _ _ _ _ 1 (by show 128 * 0 + e.val < 128; omega)]
    refine canon_on _ _ _ _ _ fun a => ?_; fin_cases a <;> first | rfl | exact (Nat.zero_add _).symm
  · rw [canon_off _ _ _ _ 1 (by show 128 * 1 + e.val < 384; omega), canon_off _ _ _ _ 1 (by show 128 * 1 + e.val < 256; omega)]
    refine canon_on _ _ _ _ _ fun a => ?_; fin_cases a <;> first | rfl | exact (Nat.zero_add _).symm
  · rw [canon_off _ _ _ _ 1 (by show 128 * 2 + e.val < 384; omega)]
    refine canon_on _ _ _ _ _ fun a => ?_; fin_cases a <;> first | rfl | exact (Nat.zero_add _).symm
  · refine canon_on _ _ _ _ _ fun a => ?_; fin_cases a <;> first | rfl | exact (Nat.zero_add _).symm

theorem canon_col (f : Fin 4 → Vec Ideal S128x128 .f32) (L : List (View.Piece (Elt Ideal) S128x512 .f32)) (h : Fin 4) (t e : Fin 128) :
    View.canon ((⟨Rect.unit ![0, 384] ![128, 128] inb_S128x512_S128x128_0_384, f 3⟩ : View.Piece (Elt Ideal) S128x512 .f32)
      :: ⟨Rect.unit ![0, 256] ![128, 128] inb_S128x512_S128x128_0_256, f 2⟩ :: ⟨Rect.unit ![0, 128] ![128, 128] inb_S128x512_S128x128_0_128, f 1⟩
      :: ⟨Rect.unit ![0, 0] ![128, 128] inb_S128x512_S128x128_0_0, f 0⟩ :: L) (ix2 t (ch h e)) = f h (ix2 t e) := by
  have he := e.isLt
  fin_cases h
  · rw [canon_off _ _ _ _ 1 (by show 128 * 0 + e.val < 384; omega), canon_off _ _ _ _ 1 (by show 128 * 0 + e.val < 256; omega),
      canon_off _ _ _ _ 1 (by show 128 * 0 + e.val < 128; omega)]
    refine canon_on _ _ _ _ _ fun a => ?_; fin_cases a <;> first | rfl | exact (Nat.zero_add _).symm
  · rw [canon_off _ _ _ _ 1 (by show 128 * 1 + e.val < 384; omega), canon_off _ _ _ _ 1 (by show 128 * 1 + e.val < 256; omega)]
    refine canon_on _ _ _ _ _ fun a => ?_; fin_cases a <;> first | rfl | exact (Nat.zero_add _).symm
  · rw [canon_off _ _ _ _ 1 (by show 128 * 2 + e.val < 384; omega)]
    refine canon_on _ _ _ _ _ fun a => ?_; fin_cases a <;> first | rfl | exact (Nat.zero_add _).symm
  · refine canon_on _ _ _ _ _ fun a => ?_; fin_cases a <;> first | rfl | exact (Nat.zero_add _).symm

theorem canon_slab (f : Fin 4 → Vec Ideal S1x128x128 .f32) (L : List (View.Piece (Elt Ideal) S4x128x128 .f32)) (h : Fin 4) (t s : Fin 128) :
    View.canon ((⟨Rect.unit ![3, 0, 0] ![1, 128, 128] inb_S4x128x128_S1x128x128_3_0_0, f 3⟩ : View.Piece (Elt Ideal) S4x128x128 .f32)
      :: ⟨Rect.unit ![2, 0, 0] ![1, 128, 128] inb_S4x128x128_S1x128x128_2_0_0, f 2⟩
      :: ⟨Rect.unit ![1, 0, 0] ![1, 128, 128] inb_S4x128x128_S1x128x128_1_0_0, f 1⟩
      :: ⟨Rect.unit ![0, 0, 0] ![1, 128, 128] inb_S4x128x128_S1x128x128_0_0_0, f 0⟩ :: L) (ix3 h t s) = f h (ix3 0 t s) := by
  fin_cases h
  · rw [canon_off _ _ _ _ 0 (by show 0 < 3; omega), canon_off _ _ _ _ 0 (by show 0 < 2; omega), canon_off _ _ _ _ 0 (by show 0 < 1; omega)]
    refine canon_on _ _ _ _ _ fun a => ?_; fin_cases a <;> first | rfl | exact (Nat.zero_add _).symm
  · rw [canon_off _ _ _ _ 0 (by show 1 < 3; omega), canon_off _ _ _ _ 0 (by show 1 < 2; omega)]
    refine canon_on _ _ _ _ _ fun a => ?_; fin_cases a <;> first | rfl | exact (Nat.zero_add _).symm
  · rw [canon_off _ _ _ _ 0 (by show 2 < 3; omega)]
    refine canon_on _ _ _ _ _ fun a => ?_; fin_cases a <;> first | rfl | exact (Nat.zero_add _).symm
  · refine canon_on _ _ _ _ _ fun a => ?_; fin_cases a <;> first | rfl | exact (Nat.zero_add _).symm

/-! ## What a point leaves: over a zero block at the first, over the point before's at the others -/

open Ins

theorem out_dlng_A (t : Fin cfg0.N) (h : t.val % 8 = 0) (k : Fin 4) (e : Fin 128) :
    (outsAt0 m c t.val t.isLt).2.2.1 (ix2 0 (ch k e)) = (ins m c t).dlng (rowTile (k0_pay2 (F := Ideal)) k) k (ix2 0 e) := by
  rw [outsAt0_A m c t h]; frame_out
  simp (disch := decide) only [↓ View.readCov_skip, ↓ View.readCov_cons_toLoadRect, ↓ View.readCov_fill]
  simp only [leaves, folds, fold_gate, fold_y, fold_r, fold_back]
  exact canon_row (fun k => (ins m c t).dlng (rowTile (k0_pay2 (F := Ideal)) k) k) _ k e

theorem out_dlng_B (t : Fin cfg0.N) (h : ¬t.val % 8 = 0) (k : Fin 4) (e : Fin 128) :
    (outsAt0 m c t.val t.isLt).2.2.1 (ix2 0 (ch k e))
      = (ins m c t).dlng (rowTile (outsAt0 m c (t.val - 1) (by omega)).2.2.1 k) k (ix2 0 e) := by
  rw [outsAt0_B m c t h]; frame_out
  simp only [leaves, folds, fold_gate, fold_y, fold_r, fold_back]
  exact canon_row (fun k => (ins m c t).dlng (rowTile (outsAt0 m c (t.val - 1) (by omega)).2.2.1 k) k) [] k e

theorem out_dlnb_A (t : Fin cfg0.N) (h : t.val % 8 = 0) (k : Fin 4) (e : Fin 128) :
    (outsAt0 m c t.val t.isLt).2.2.2.1 (ix2 0 (ch k e)) = (ins m c t).dlnb (rowTile (k0_pay3 (F := Ideal)) k) k (ix2 0 e) := by
  rw [outsAt0_A m c t h]; frame_out
  simp (disch := decide) only [↓ View.readCov_skip, ↓ View.readCov_cons_toLoadRect, ↓ View.readCov_fill]
  simp only [leaves, folds, fold_gate, fold_y, fold_r, fold_back]
  exact canon_row (fun k => (ins m c t).dlnb (rowTile (k0_pay3 (F := Ideal)) k) k) _ k e

theorem out_dlnb_B (t : Fin cfg0.N) (h : ¬t.val % 8 = 0) (k : Fin 4) (e : Fin 128) :
    (outsAt0 m c t.val t.isLt).2.2.2.1 (ix2 0 (ch k e))
      = (ins m c t).dlnb (rowTile (outsAt0 m c (t.val - 1) (by omega)).2.2.2.1 k) k (ix2 0 e) := by
  rw [outsAt0_B m c t h]; frame_out
  simp only [leaves, folds, fold_gate, fold_y, fold_r, fold_back]
  exact canon_row (fun k => (ins m c t).dlnb (rowTile (outsAt0 m c (t.val - 1) (by omega)).2.2.2.1 k) k) [] k e

theorem out_dws_A (t : Fin cfg0.N) (h : t.val % 8 = 0) (k : Fin 4) (a e : Fin 128) :
    (outsAt0 m c t.val t.isLt).2.2.2.2.1 (ix3 k a e) = (ins m c t).dws (slab (k0_pay4 (F := Ideal)) k) k (ix3 0 a e) := by
  rw [outsAt0_A m c t h]; frame_out
  simp (disch := decide) only [↓ View.readCov_skip, ↓ View.readCov_cons_toLoadRect, ↓ View.readCov_fill]
  simp only [leaves, folds, fold_gate, fold_y, fold_r, fold_back]
  exact canon_slab (fun k => (ins m c t).dws (slab (k0_pay4 (F := Ideal)) k) k) _ k a e

theorem out_dws_B (t : Fin cfg0.N) (h : ¬t.val % 8 = 0) (k : Fin 4) (a e : Fin 128) :
    (outsAt0 m c t.val t.isLt).2.2.2.2.1 (ix3 k a e)
      = (ins m c t).dws (slab (outsAt0 m c (t.val - 1) (by omega)).2.2.2.2.1 k) k (ix3 0 a e) := by
  rw [outsAt0_B m c t h]; frame_out
  simp only [leaves, folds, fold_gate, fold_y, fold_r, fold_back]
  exact canon_slab (fun k => (ins m c t).dws (slab (outsAt0 m c (t.val - 1) (by omega)).2.2.2.2.1 k) k) [] k a e

theorem out_dbs_A (t : Fin cfg0.N) (h : t.val % 8 = 0) (k : Fin 4) (a e : Fin 128) :
    (outsAt0 m c t.val t.isLt).2.2.2.2.2.1 (ix2 a (ch k e)) = (ins m c t).dbs (colTile (k0_pay5 (F := Ideal)) k) k (ix2 a e) := by
  rw [outsAt0_A m c t h]; frame_out
  simp (disch := decide) only [↓ View.readCov_skip, ↓ View.readCov_cons_toLoadRect, ↓ View.readCov_fill]
  simp only [leaves, folds, fold_gate, fold_y, fold_r, fold_back]
  exact canon_col (fun k => (ins m c t).dbs (colTile (k0_pay5 (F := Ideal)) k) k) _ k a e

theorem out_dbs_B (t : Fin cfg0.N) (h : ¬t.val % 8 = 0) (k : Fin 4) (a e : Fin 128) :
    (outsAt0 m c t.val t.isLt).2.2.2.2.2.1 (ix2 a (ch k e))
      = (ins m c t).dbs (colTile (outsAt0 m c (t.val - 1) (by omega)).2.2.2.2.2.1 k) k (ix2 a e) := by
  rw [outsAt0_B m c t h]; frame_out
  simp only [leaves, folds, fold_gate, fold_y, fold_r, fold_back]
  exact canon_col (fun k => (ins m c t).dbs (colTile (outsAt0 m c (t.val - 1) (by omega)).2.2.2.2.2.1 k) k) [] k a e

end Cert.KernelIdeal.Blk
end
-- ==== Proof.Args.lean ====
/- The launch arguments as real arrays: which real array each of the seven arguments holds. -/
module

public import proofs.«01_k».proof.Proof.Spec

@[expose] public section

noncomputable section

namespace Cert.Spec

/-- The arguments hold the real arrays `X`: `p` has u and v in its first two groups of 512 channels, `d` the incoming gradient
    in its first; token `s` of sequence `b` is row `2048 b + s`. -/
structure Holds (X : Data) (p : Fin 2 → Fin 2048 → Fin 4608 → EReal) (d : Fin 2 → Fin 2048 → Fin 2048 → EReal)
    (g b : Fin 4 → Fin 128 → EReal) (w : Fin 4 → Fin 128 → Fin 128 → EReal) (bs : Fin 4 → Fin 128 → EReal) (og : Fin 512 → EReal) : Prop where
  u : ∀ (q : Fin 2) (s : Fin 2048) (j : Fin 512), p q s ⟨j, by omega⟩ = ((X.U (2048 * q + s) j : ℝ) : EReal)
  v : ∀ (q : Fin 2) (s : Fin 2048) (j : Fin 512), p q s ⟨512 + j, by omega⟩ = ((X.V (2048 * q + s) j : ℝ) : EReal)
  d : ∀ (q : Fin 2) (s : Fin 2048) (j : Fin 512), d q s ⟨j, by omega⟩ = ((X.D (2048 * q + s) j : ℝ) : EReal)
  g : ∀ (h : Fin 4) (e : Fin 128), g h e = ((X.g (128 * h + e) : ℝ) : EReal)
  b : ∀ (h : Fin 4) (e : Fin 128), b h e = ((X.b (128 * h + e) : ℝ) : EReal)
  w : ∀ (h : Fin 4) (t s : Fin 128), w h t s = ((X.w h t s : ℝ) : EReal)
  bs : ∀ (h : Fin 4) (t e : Fin 128), bs h t = ((X.bs t (128 * h + e) : ℝ) : EReal)
  og : ∀ j : Fin 512, og j = ((X.og j : ℝ) : EReal)

end Cert.Spec
end
-- ==== Proof.Arr.lean ====
/- What the kernel's grid points read of the launch arguments. -/
module

public import proofs.«01_k».proof.Proof.Tiles
public import proofs.«01_k».proof.Proof.Args
public import Idealize.ShloMosaic.Lib.Claim

@[expose] public section

set_option maxRecDepth 16384
set_option maxHeartbeats 4000000

noncomputable section

namespace Cert.KernelIdeal.Blk

open Idealize.ShloMosaic Cert.KernelIdeal Cert.KernelIdeal.Gen Cert.Spec Cert.Lift
open Idealize.ShloMosaic.TcCoe Idealize.SL.Sem
open Idealize.ShloMosaic.Pipeline (Dat)

variable (m : (ℓ : Loc nD τ sig) → Buf (Elt Ideal) ℓ) (c : Dev nD)

/-- The kernel's arguments hold the real arrays `X`. -/
abbrev KHolds (X : Data) : Prop :=
  Holds X (fun q s j => m ((c : Thread nD τ).loc main_arg0) (ix3 q s j)) (fun q s j => m ((c : Thread nD τ).loc main_arg1) (ix3 q s j))
    (fun h e => m ((c : Thread nD τ).loc main_arg2) (ix2 h e)) (fun h e => m ((c : Thread nD τ).loc main_arg3) (ix2 h e))
    (fun h t s => m ((c : Thread nD τ).loc main_arg4) (ix3 h t s)) (fun h t => m ((c : Thread nD τ).loc main_arg5) (ix2 h t))
    (fun j => m ((c : Thread nD τ).loc main_arg6) (ix1 j))

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 1] := (by decide +kernel : ∀ t : Fin grid0.N, _)
theorem idx2 : ∀ t : Fin cfg0.N, win0_2.index t = ![t.val / 4, t.val % 4, 0] := (by decide +kernel : ∀ t : Fin grid0.N, _)
theorem lt8 (t : Fin cfg0.N) : t.val < 8 := t.isLt

variable {m c} {X : Data} (H : KHolds m c X) (t : Fin cfg0.N)

theorem read_u (a j : Fin 512) : iblk m c 0 t (ix3 0 a j)
    = m ((c : Thread nD τ).loc main_arg0) (ix3 ⟨t.val / 4, by have := lt8 t; omega⟩ ⟨512 * (t.val % 4) + a.val, by omega⟩ ⟨j, by omega⟩) := by
  blk_point [iblk, V, idx0 t]

theorem read_v (a j : Fin 512) : iblk m c 1 t (ix3 0 a j)
    = m ((c : Thread nD τ).loc main_arg0) (ix3 ⟨t.val / 4, by have := lt8 t; omega⟩ ⟨512 * (t.val % 4) + a.val, by omega⟩ ⟨512 + j, by omega⟩) := by
  blk_point [iblk, V, idx1 t]

theorem read_d (a j : Fin 512) : iblk m c 2 t (ix3 0 a j)
    = m ((c : Thread nD τ).loc main_arg1) (ix3 ⟨t.val / 4, by have := lt8 t; omega⟩ ⟨512 * (t.val % 4) + a.val, by omega⟩ ⟨j, by omega⟩) := by
  blk_point [iblk, V, idx2 t]

/-! ## The operands the host prepares -/

/-- The lower triangle of ones. -/
def tri : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant S_ FTy.f32 0x3F800000#32))
    (broadcastInDim S128x128 ![] bcast_S_S128x128 (constant S_ FTy.f32 0x00000000#32))

theorem tri_apply (a s : Fin 128) : tri (ix2 a s) = ((if s.val ≤ a.val then 1 else 0 : ℝ) : EReal) := by
  have hc : (IntOp.cmpi CmpIPredicate.sge (IntOp.addi (BitVec.ofNat 32 a.val) 0#32) (BitVec.ofNat 32 s.val) = 1#1) ↔ s.val ≤ a.val := by
    rw [show IntOp.addi (BitVec.ofNat 32 a.val) 0#32 = BitVec.ofNat 32 a.val from BitVec.add_zero _]
    exact WordCmp.cmpi_sge_ofNat_eq_one_iff (by omega) (by omega)
  pointwise [tri]
  by_cases h : s.val ≤ a.val
  · rw [show IntOp.cmpi CmpIPredicate.sge (IntOp.addi (BitVec.ofNat 32 a.val) 0#32) (BitVec.ofNat 32 s.val) = 1#1 from hc.mpr h, if_pos h]; rfl
  · rw [if_neg h]; exact if_neg (mt hc.mp h)

variable (m c) in
theorem V_g (h : Fin 4) (e : Fin 128) : V m c main_v5 (ix2 0 (ch h e)) = m ((c : Thread nD τ).loc main_arg2) (ix2 h e) := by
  rw [show V m c main_v5 = StableHlo.after [hostOps0, hostOps0_1, hostOps0_2].flatten (fun b => m (c, b)) (Proc.devRef .tc main_v5) from rfl]
  simp only [hostOps0, hostOps0_1, hostOps0_2, List.flatten_cons, List.flatten_nil, List.append_nil, List.cons_append, List.nil_append]
  entry_read
  pointwise
  exact congrArg _ (by ext k; fin_cases k <;> simp [ch] <;> omega)

variable (m c) in
theorem V_b (h : Fin 4) (e : Fin 128) : V m c main_v6 (ix2 0 (ch h e)) = m ((c : Thread nD τ).loc main_arg3) (ix2 h e) := by
  rw [show V m c main_v6 = StableHlo.after [hostOps0, hostOps0_1, hostOps0_2].flatten (fun b => m (c, b)) (Proc.devRef .tc main_v6) from rfl]
  simp only [hostOps0, hostOps0_1, hostOps0_2, List.flatten_cons, List.flatten_nil, List.append_nil, List.cons_append, List.nil_append]
  entry_read
  pointwise
  exact congrArg _ (by ext k; fin_cases k <;> simp [ch] <;> omega)

variable (m c) in
theorem V_w (h : Fin 4) (a s : Fin 128) (x : ℝ) (hx : m ((c : Thread nD τ).loc main_arg4) (ix3 h a s) = ((x : ℝ) : EReal)) :
    V m c main_v7 (ix3 h a s) = ((if s.val ≤ a.val then x else 0 : ℝ) : EReal) := by
  rw [show V m c main_v7 = StableHlo.after [hostOps0, hostOps0_1, hostOps0_2].flatten (fun b => m (c, b)) (Proc.devRef .tc main_v7) from rfl]
  simp only [hostOps0, hostOps0_1, hostOps0_2, List.flatten_cons, List.flatten_nil, List.append_nil, List.cons_append, List.nil_append]
  entry_read
  pointwise
  change @HMul.hMul EReal EReal EReal _ (m ((c : Thread nD τ).loc main_arg4) (ix3 h a s)) (tri (ix2 a s)) = _
  rw [hx, tri_apply, ← EReal.coe_mul]
  split_ifs <;> simp

variable (m c) in
theorem V_wT (h : Fin 4) (a s : Fin 128) (x : ℝ) (hx : m ((c : Thread nD τ).loc main_arg4) (ix3 h a s) = ((x : ℝ) : EReal)) :
    V m c main_v9 (ix3 h s a) = ((if s.val ≤ a.val then x else 0 : ℝ) : EReal) := by
  rw [show V m c main_v9 = StableHlo.after [hostOps0, hostOps0_1, hostOps0_2].flatten (fun b => m (c, b)) (Proc.devRef .tc main_v9) from rfl]
  simp only [hostOps0, hostOps0_1, hostOps0_2, List.flatten_cons, List.flatten_nil, List.append_nil, List.cons_append, List.nil_append]
  entry_read
  pointwise
  change @HMul.hMul EReal EReal EReal _ (m ((c : Thread nD τ).loc main_arg4) (ix3 h a s)) (tri (ix2 a s)) = _
  rw [hx, tri_apply, ← EReal.coe_mul]
  split_ifs <;> simp

variable (m c) in
theorem V_bs (h : Fin 4) (a e : Fin 128) : V m c main_v12 (ix2 a (ch h e)) = m ((c : Thread nD τ).loc main_arg5) (ix2 h a) := by
  rw [show V m c main_v12 = StableHlo.after [hostOps0, hostOps0_1, hostOps0_2].flatten (fun b => m (c, b)) (Proc.devRef .tc main_v12) from rfl]
  simp only [hostOps0, hostOps0_1, hostOps0_2, List.flatten_cons, List.flatten_nil, List.append_nil, List.cons_append, List.nil_append]
  entry_read
  pointwise
  exact congrArg (fun q : Fin 4 => m ((c : Thread nD τ).loc main_arg5) (ix2 q a)) (Fin.ext (head_div h e))

variable (m c) in
theorem V_og (j : Fin 512) : V m c main_v13 (ix2 0 j) = m ((c : Thread nD τ).loc main_arg6) (ix1 j) := by
  rw [show V m c main_v13 = StableHlo.after [hostOps0, hostOps0_1, hostOps0_2].flatten (fun b => m (c, b)) (Proc.devRef .tc main_v13) from rfl]
  simp only [hostOps0, hostOps0_1, hostOps0_2, List.flatten_cons, List.flatten_nil, List.append_nil, List.cons_append, List.nil_append]
  entry_read
  pointwise

/-! ## What a point reads of them -/

theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

theorem read3 (i : S1x512.Idx) : iblk m c 3 t i = V m c main_v5 i :=
  congrArg (V m c main_v5) (by blk_ext [idx3 t])

theorem read4 (i : S1x512.Idx) : iblk m c 4 t i = V m c main_v6 i :=
  congrArg (V m c main_v6) (by blk_ext [idx4 t])

theorem read5 (i : S4x128x128.Idx) : iblk m c 5 t i = V m c main_v7 i :=
  congrArg (V m c main_v7) (by blk_ext [idx5 t])

theorem read6 (i : S4x128x128.Idx) : iblk m c 6 t i = V m c main_v9 i :=
  congrArg (V m c main_v9) (by blk_ext [idx6 t])

theorem read7 (i : S128x512.Idx) : iblk m c 7 t i = V m c main_v12 i :=
  congrArg (V m c main_v12) (by blk_ext [idx7 t])

theorem read8 (i : S1x512.Idx) : iblk m c 8 t i = V m c main_v13 i :=
  congrArg (V m c main_v13) (by blk_ext [idx8 t])

end Cert.KernelIdeal.Blk
end
-- ==== Proof.Last.lean ====
/- The kernel's seven result arrays, in closed form. -/
module

public import proofs.«01_k».proof.Proof.Arr
public import Idealize.ShloMosaic.Lib.Claim

@[expose] public section

set_option maxRecDepth 16384
set_option maxHeartbeats 4000000

noncomputable section

namespace Cert.KernelIdeal.Blk

open Idealize.ShloMosaic Cert.KernelIdeal Cert.KernelIdeal.Gen Cert.Spec Cert.Lift
open Idealize.ShloMosaic.TcCoe Idealize.SL.Sem
open Idealize.ShloMosaic.Pipeline (Dat)

variable (m : (ℓ : Loc nD τ sig) → Buf (Elt Ideal) ℓ) (c : Dev nD)

variable {m c} {X : Data} (H : KHolds m c X)

include H in
/-- Point `t` reads rows from `512 t`. -/
theorem reads (t : Fin cfg0.N) : Reads X t.val (ins m c t) where
  u a j := (read_u t a j).trans ((H.u _ _ j).trans (by
    congr 2; show 2048 * (t.val / 4) + (512 * (t.val % 4) + a.val) = _; omega))
  v a j := (read_v t a j).trans ((H.v _ _ j).trans (by
    congr 2; show 2048 * (t.val / 4) + (512 * (t.val % 4) + a.val) = _; omega))
  d a j := (read_d t a j).trans ((H.d _ _ j).trans (by
    congr 2; show 2048 * (t.val / 4) + (512 * (t.val % 4) + a.val) = _; omega))
  g j := by
    induction j using by_ch with | H h e => exact (read3 t _).trans ((V_g m c h e).trans (H.g h e))
  b j := by
    induction j using by_ch with | H h e => exact (read4 t _).trans ((V_b m c h e).trans (H.b h e))
  w h a s := (slab_apply _ h a s).trans ((read5 t _).trans (V_w m c h a s _ (H.w h a s)))
  wT h s a := (slab_apply _ h s a).trans ((read6 t _).trans (V_wT m c h a s _ (H.w h a s)))
  bs a j := by
    induction j using by_ch with | H h e => exact (read7 t _).trans ((V_bs m c h a e).trans (H.bs h a e))
  og j := (read8 t _).trans ((V_og m c j).trans (H.og j))

/-! ## The two gradients stored block by block -/

theorem idx9 : ∀ t : Fin cfg0.N, win0_9.index t = ![t.val / 4, t.val % 4, 0] := (by decide +kernel : ∀ t : Fin grid0.N, _)
theorem idx10 : ∀ t : Fin cfg0.N, win0_10.index t = ![t.val / 4, t.val % 4, 0] := (by decide +kernel : ∀ t : Fin grid0.N, _)

theorem blk_eta (y : S1x512x512.Idx) : y = ix3 0 (y 1) (y 2) := by
  funext a; fin_cases a
  · exact Subsingleton.elim (α := Fin 1) _ _
  · rfl
  · rfl

include H in
theorem final_du (q : Fin 2) (s : Fin 2048) (j : Fin 512) :
    (dats m 0 c).arrAt 9 cfg0.N (ix3 q s j) = ((X.du (2048 * q + s) j : ℝ) : EReal) := by
  have : (dats m 0 c).arrAt 9 cfg0.N = fun i : S2x2048x512.Idx => ((X.du (2048 * (i 0).val + (i 1).val) (i 2).val : ℝ) : EReal) := by
    refine (dats m 0 c).arrAt_eq_of_covers 9 _ (by decide +kernel) fun t _ y => ?_
    blk_simp
    rw [after0_9, out_du, idx9 t]
    refine (congrArg (ins m c t).duBlk (blk_eta y)).trans ((Ins.du_at (reads H t) (y 1) (y 2)).trans ?_)
    refine congrArg Real.toEReal (congrArg₂ X.du ?_ ?_)
    · show 512 * t.val + (y 1).val = 2048 * (t.val / 4) + (t.val % 4 * 512 + (y 1).val); omega
    · show (y 2).val = 0 * 512 + (y 2).val; omega
  rw [this]
  rfl

include H in
theorem final_dv (q : Fin 2) (s : Fin 2048) (j : Fin 512) :
    (dats m 0 c).arrAt 10 cfg0.N (ix3 q s j) = ((X.dv (2048 * q + s) j : ℝ) : EReal) := by
  have : (dats m 0 c).arrAt 10 cfg0.N = fun i : S2x2048x512.Idx => ((X.dv (2048 * (i 0).val + (i 1).val) (i 2).val : ℝ) : EReal) := by
    refine (dats m 0 c).arrAt_eq_of_covers 10 _ (by decide +kernel) fun t _ y => ?_
    blk_simp
    rw [after0_10, out_dv, idx10 t]
    refine (congrArg (ins m c t).dvBlk (blk_eta y)).trans ((Ins.dv_at (reads H t) (y 1) (y 2)).trans ?_)
    refine congrArg Real.toEReal (congrArg₂ X.dv ?_ ?_)
    · show 512 * t.val + (y 1).val = 2048 * (t.val / 4) + (t.val % 4 * 512 + (y 1).val); omega
    · show (y 2).val = 0 * 512 + (y 2).val; omega
  rw [this]
  rfl

/-! ## The five gradients summed over the points -/

/-- A quantity that starts at the first point's share and adds each later point's is the sum of the shares. -/
theorem total (f : (n : ℕ) → n < cfg0.N → EReal) (B : ℕ → ℝ)
    (h0 : ∀ t : Fin cfg0.N, t.val % 8 = 0 → f t.val t.isLt = ((B t.val : ℝ) : EReal))
    (hs : ∀ t : Fin cfg0.N, ¬t.val % 8 = 0 → f t.val t.isLt = f (t.val - 1) (by omega) + ((B t.val : ℝ) : EReal)) :
    ∀ (n : ℕ) (hn : n < cfg0.N), f n hn = ((∑ p ∈ Finset.range (n + 1), B p : ℝ) : EReal)
  | 0, hn => by rw [h0 ⟨0, hn⟩ rfl]; simp
  | n + 1, hn => by
    have h8 : n + 1 < 8 := hn
    have := hs ⟨n + 1, hn⟩ (by show ¬(n + 1) % 8 = 0; omega)
    refine this.trans ?_
    rw [Finset.sum_range_succ, EReal.coe_add]
    exact congrArg (· + _) (total f B h0 hs n _)

/-- The last point. -/
abbrev t7 : Fin cfg0.N := ⟨7, by decide⟩

theorem last_dlng : (dats m 0 c).arrAt 11 cfg0.N = (outsAt0 m c 7 t7.isLt).2.2.1 :=
  (dats m 0 c).arrAt_eq_of_after_last 11 t7 (by decide +kernel) _ fun j => by blk_simp; rw [after0_11]

include H in
theorem final_dlng (k : Fin 4) (e : Fin 128) :
    (dats m 0 c).arrAt 11 cfg0.N (ix2 0 (ch k e)) = ((∑ p : Fin 8, X.dlngB p (ch k e) : ℝ) : EReal) := by
  rw [last_dlng, ← Finset.sum_range (fun p => X.dlngB p (ch k e))]
  refine total (fun n hn => (outsAt0 m c n hn).2.2.1 (ix2 0 (ch k e))) (fun p => X.dlngB p (ch k e)) (fun t h => ?_) (fun t h => ?_) 7 _
  · refine (out_dlng_A m c t h k e).trans ((Ins.dlng_at (reads H t) _ k e).trans ?_)
    rw [rowTile_apply]
    pointwise [k0_pay2]
  · refine (out_dlng_B m c t h k e).trans ((Ins.dlng_at (reads H t) _ k e).trans ?_)
    rw [rowTile_apply]

theorem last_dlnb : (dats m 0 c).arrAt 12 cfg0.N = (outsAt0 m c 7 t7.isLt).2.2.2.1 :=
  (dats m 0 c).arrAt_eq_of_after_last 12 t7 (by decide +kernel) _ fun j => by blk_simp; rw [after0_12]

include H in
theorem final_dlnb (k : Fin 4) (e : Fin 128) :
    (dats m 0 c).arrAt 12 cfg0.N (ix2 0 (ch k e)) = ((∑ p : Fin 8, X.dlnbB p (ch k e) : ℝ) : EReal) := by
  rw [last_dlnb, ← Finset.sum_range (fun p => X.dlnbB p (ch k e))]
  refine total (fun n hn => (outsAt0 m c n hn).2.2.2.1 (ix2 0 (ch k e))) (fun p => X.dlnbB p (ch k e)) (fun t h => ?_) (fun t h => ?_) 7 _
  · refine (out_dlnb_A m c t h k e).trans ((Ins.dlnb_at (reads H t) _ k e).trans ?_)
    rw [rowTile_apply]
    pointwise [k0_pay3]
  · refine (out_dlnb_B m c t h k e).trans ((Ins.dlnb_at (reads H t) _ k e).trans ?_)
    rw [rowTile_apply]

theorem last_dws : (dats m 0 c).arrAt 13 cfg0.N = (outsAt0 m c 7 t7.isLt).2.2.2.2.1 :=
  (dats m 0 c).arrAt_eq_of_after_last 13 t7 (by decide +kernel) _ fun j => by blk_simp; rw [after0_13]

include H in
theorem final_dws (k : Fin 4) (a e : Fin 128) :
    (dats m 0 c).arrAt 13 cfg0.N (ix3 k a e) = ((∑ p : Fin 8, X.dwsB p k a e : ℝ) : EReal) := by
  rw [last_dws, ← Finset.sum_range (fun p => X.dwsB p k a e)]
  refine total (fun n hn => (outsAt0 m c n hn).2.2.2.2.1 (ix3 k a e)) (fun p => X.dwsB p k a e) (fun t h => ?_) (fun t h => ?_) 7 _
  · refine (out_dws_A m c t h k a e).trans ((Ins.dws_at (reads H t) _ k a e).trans ?_)
    rw [slab_apply]
    pointwise [k0_pay4]
  · refine (out_dws_B m c t h k a e).trans ((Ins.dws_at (reads H t) _ k a e).trans ?_)
    rw [slab_apply]

theorem last_dbs : (dats m 0 c).arrAt 14 cfg0.N = (outsAt0 m c 7 t7.isLt).2.2.2.2.2.1 :=
  (dats m 0 c).arrAt_eq_of_after_last 14 t7 (by decide +kernel) _ fun j => by blk_simp; rw [after0_14]

include H in
theorem final_dbs (k : Fin 4) (a e : Fin 128) :
    (dats m 0 c).arrAt 14 cfg0.N (ix2 a (ch k e)) = ((∑ p : Fin 8, X.dbsB p a (ch k e) : ℝ) : EReal) := by
  rw [last_dbs, ← Finset.sum_range (fun p => X.dbsB p a (ch k e))]
  refine total (fun n hn => (outsAt0 m c n hn).2.2.2.2.2.1 (ix2 a (ch k e))) (fun p => X.dbsB p a (ch k e)) (fun t h => ?_) (fun t h => ?_) 7 _
  · refine (out_dbs_A m c t h k a e).trans ((Ins.dbs_at (reads H t) _ k a e).trans ?_)
    rw [colTile_apply]
    pointwise [k0_pay5]
  · refine (out_dbs_B m c t h k a e).trans ((Ins.dbs_at (reads H t) _ k a e).trans ?_)
    rw [colTile_apply]

theorem last_dog : (dats m 0 c).arrAt 15 cfg0.N = (outsAt0 m c 7 t7.isLt).2.2.2.2.2.2 :=
  (dats m 0 c).arrAt_eq_of_after_last 15 t7 (by decide +kernel) _ fun j => by blk_simp; rw [after0_15]

include H in
theorem final_dog (j : Fin 512) : (dats m 0 c).arrAt 15 cfg0.N (ix2 0 j) = ((∑ p : Fin 8, X.dogB p j : ℝ) : EReal) := by
  rw [last_dog, ← Finset.sum_range (fun p => X.dogB p j)]
  refine total (fun n hn => (outsAt0 m c n hn).2.2.2.2.2.2 (ix2 0 j)) (fun p => X.dogB p j) (fun t h => ?_) (fun t h => ?_) 7 _
  · show (outsAt0 m c t.val t.isLt).2.2.2.2.2.2 (ix2 0 j) = _
    rw [out_dog_A m c t h, Ins.dog_at (reads H t)]
    pointwise [k0_pay6]
  · show (outsAt0 m c t.val t.isLt).2.2.2.2.2.2 (ix2 0 j) = _
    rw [out_dog_B m c t h, Ins.dog_at (reads H t)]

end Cert.KernelIdeal.Blk
end
-- ==== Proof.RefFwd.lean ====
/- The reference's forward values at real arguments: each is the real formula's value. -/
module

public import proofs.«01_k».proof.Proof.Gen.ReferenceIdeal.Read
public import proofs.«01_k».proof.Proof.Lift
public import proofs.«01_k».proof.Proof.Args
public import Idealize.ShloMosaic.Lib.Pointwise
public import Idealize.ShloMosaic.Lib.WordCmp

@[expose] public section

set_option maxRecDepth 16384
set_option maxHeartbeats 1000000

noncomputable section

namespace Cert.ReferenceIdeal.Ref

open Idealize.ShloMosaic Cert.ReferenceIdeal Cert.ReferenceIdeal.Read Cert.Spec Cert.Lift

variable {X : Data}
variable {x0 : (⟨S2x2048x4608, .f32⟩ : BufTy).Contents (Elt Ideal)} {x1 : (⟨S2x2048x2048, .bf16⟩ : BufTy).Contents (Elt Ideal)}
  {x2 x3 : (⟨S4x128, .f32⟩ : BufTy).Contents (Elt Ideal)} {x4 : (⟨S4x128x128, .f32⟩ : BufTy).Contents (Elt Ideal)}
  {x5 : (⟨S4x128, .f32⟩ : BufTy).Contents (Elt Ideal)} {x6 : (⟨S512, .f32⟩ : BufTy).Contents (Elt Ideal)}

/-- The reference's arguments hold the real arrays `X`. -/
abbrev RHolds (X : Data) (x0 : (⟨S2x2048x4608, .f32⟩ : BufTy).Contents (Elt Ideal)) (x1 : (⟨S2x2048x2048, .bf16⟩ : BufTy).Contents (Elt Ideal))
    (x2 x3 : (⟨S4x128, .f32⟩ : BufTy).Contents (Elt Ideal)) (x4 : (⟨S4x128x128, .f32⟩ : BufTy).Contents (Elt Ideal))
    (x5 : (⟨S4x128, .f32⟩ : BufTy).Contents (Elt Ideal)) (x6 : (⟨S512, .f32⟩ : BufTy).Contents (Elt Ideal)) : Prop :=
  Holds X (fun q s j => x0 (ix3 q s j)) (fun q s j => x1 (ix3 q s j)) (fun h e => x2 (ix2 h e)) (fun h e => x3 (ix2 h e))
    (fun h t s => x4 (ix3 h t s)) (fun h t => x5 (ix2 h t)) (fun j => x6 (ix1 j))

/-! ## Literals -/

theorem lit_3 : Ideal.ofBits .f32 0x40400000#32 = ((3 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_num : Ideal.ofBits .f32 0x460BBC00#32 = ((8943 : ℝ) : EReal) := by
  simp [Ideal.ofBits, Ideal.ieee, -EReal.coe_mul]; norm_num
theorem lit_den : Ideal.ofBits .f32 0x48435000#32 = ((200000 : ℝ) : EReal) := by
  simp [Ideal.ofBits, Ideal.ieee, -EReal.coe_mul]; norm_num
/-- The gelu's cubic coefficient, a quotient of two exact literals. -/
theorem coeff : Ideal.div ((8943 : ℝ) : EReal) ((200000 : ℝ) : EReal) = ((cC : ℝ) : EReal) := div_coe (by norm_num) _

/-- The causal mask's word at a pair of token numbers. -/
theorem tri (t s : Fin 128) {α : Type} (a b : α) :
    Scalar.select (IntOp.cmpi CmpIPredicate.sge (IntOp.addi (BitVec.ofNat 32 t) 0#32) (BitVec.ofNat 32 s)) a b = if s.val ≤ t.val then a else b := by
  have hc : (IntOp.cmpi CmpIPredicate.sge (IntOp.addi (BitVec.ofNat 32 t.val) 0#32) (BitVec.ofNat 32 s.val) = 1#1) ↔ s.val ≤ t.val := by
    rw [show IntOp.addi (BitVec.ofNat 32 t.val) 0#32 = BitVec.ofNat 32 t.val from BitVec.add_zero _]
    exact WordCmp.cmpi_sge_ofNat_eq_one_iff (by omega) (by omega)
  exact if_congr hc rfl rfl

variable (H : RHolds X x0 x1 x2 x3 x4 x5 x6)
include H

theorem u_at (q : Fin 2) (s : Fin 2048) (j : Fin 512) : val_main_v0 (F := Ideal) x0 (ix3 q s j) = ((X.U (2048 * q + s) j : ℝ) : EReal) := by
  rw [← H.u q s j]; pointwise [val_main_v0]
theorem v_at (q : Fin 2) (s : Fin 2048) (j : Fin 512) : val_main_v1 (F := Ideal) x0 (ix3 q s j) = ((X.V (2048 * q + s) j : ℝ) : EReal) := by
  rw [← H.v q s j]; pointwise [val_main_v1]
theorem d_at (q : Fin 2) (s : Fin 2048) (j : Fin 512) : val_main_v3 (F := Ideal) x1 (ix3 q s j) = ((X.D (2048 * q + s) j : ℝ) : EReal) := by
  rw [← H.d q s j]; pointwise [val_main_v3, val_main_v2]

theorem c_at : val_main_v7 (F := Ideal) ix0 = ((cC : ℝ) : EReal) := by
  rw [← coeff, ← lit_num, ← lit_den]; rfl

/-! ## The gelus -/

theorem thu_at (q : Fin 2) (s : Fin 2048) (j : Fin 512) :
    val_main_v18 (F := Ideal) x0 (ix3 q s j) = ((th (X.U (2048 * q + s) j) : ℝ) : EReal) := by
  pointwise [val_main_v18, val_main_v17, val_main_v16, val_main_v15, val_main_v14, val_main_v13, val_main_v9, val_main_v8, val_main_cst_2]
  simp only [u_at H, c_at H, lit_K, ← EReal.coe_mul, ← EReal.coe_add, Ideal.tanh_coe, th, mul_assoc]

theorem ug_at (q : Fin 2) (s : Fin 2048) (j : Fin 512) : val_main_v28 (F := Ideal) x0 (ix3 q s j) = ((X.ug (2048 * q + s) j : ℝ) : EReal) := by
  pointwise [val_main_v28, val_main_v27, val_main_v26, val_main_v25, val_main_v24, val_main_cst_6, val_main_cst_5]
  simp only [u_at H, thu_at H, lit_half, ← EReal.coe_one, ← EReal.coe_mul, ← EReal.coe_add, Data.ug, ← Data.gel_ref, th, mul_assoc]

theorem thv_at (q : Fin 2) (s : Fin 2048) (j : Fin 512) :
    val_main_v41 (F := Ideal) x0 (ix3 q s j) = ((th (X.V (2048 * q + s) j) : ℝ) : EReal) := by
  pointwise [val_main_v41, val_main_v40, val_main_v39, val_main_v38, val_main_v37, val_main_v36, val_main_v32, val_main_v31, val_main_cst_10]
  simp only [v_at H, show val_main_v30 (F := Ideal) ix0 = ((cC : ℝ) : EReal) from c_at H, lit_K, ← EReal.coe_mul, ← EReal.coe_add, Ideal.tanh_coe, th, mul_assoc]

theorem vg_at (q : Fin 2) (s : Fin 2048) (j : Fin 512) : val_main_v51 (F := Ideal) x0 (ix3 q s j) = ((X.vg (2048 * q + s) j : ℝ) : EReal) := by
  pointwise [val_main_v51, val_main_v50, val_main_v49, val_main_v48, val_main_v47, val_main_cst_13, val_main_cst_14]
  simp only [v_at H, thv_at H, lit_half, ← EReal.coe_one, ← EReal.coe_mul, ← EReal.coe_add, Data.vg, ← Data.gel_ref, th, mul_assoc]

/-! ## The layer norm -/

theorem vgh_at (q : Fin 2) (s : Fin 2048) (h : Fin 4) (e : Fin 128) :
    val_main_v52 (F := Ideal) x0 (ix4 q s h e) = ((X.vg (2048 * q + s) (128 * h + e) : ℝ) : EReal) := by
  pointwise [val_main_v52]
  simp only [vg_at H, Nat.mul_comm]

theorem xc_at (q : Fin 2) (s : Fin 2048) (h : Fin 4) (e : Fin 128) :
    val_main_v58 (F := Ideal) x0 (ix4 q s h e) = ((X.xc (2048 * q + s) (128 * h + e) : ℝ) : EReal) := by
  pointwise [val_main_v58, val_main_v57, val_main_v56, val_main_v55, val_main_v54, val_main_v53, val_main_cst_15, val_main_cst_16]
  simp only [vgh_at H, sum_coe, lit_128, div128, ← EReal.coe_sub]
  rw [Data.xc, Data.mu, show (128 * h.val + e.val) / 128 = h by omega]

/-- The variance of a head's channels, kept as an axis of extent one. -/
theorem var_at (q : Fin 2) (s : Fin 2048) (h : Fin 4) :
    val_main_v65 (F := Ideal) x0 (ix4 q s h 0) = ((X.var (2048 * q + s) h + eps5 : ℝ) : EReal) := by
  pointwise [val_main_v65, val_main_v64, val_main_v63, val_main_v62, val_main_v61, val_main_v60, val_main_v59, val_main_cst_17, val_main_cst_18, val_main_cst_19]
  simp only [xc_at H, ← EReal.coe_mul, sum_coe, lit_128, div128, lit_eps5, ← EReal.coe_add, Data.var]

theorem rstd_at (q : Fin 2) (s : Fin 2048) (h : Fin 4) :
    val_main_v66 (F := Ideal) x0 (ix4 q s h 0) = ((X.rstd (2048 * q + s) h : ℝ) : EReal) := by
  pointwise [val_main_v66]
  rw [var_at H, rsqrt_coe (X.var_pos _ _)]; rfl

theorem xh_at (q : Fin 2) (s : Fin 2048) (h : Fin 4) (e : Fin 128) :
    val_main_v71 (F := Ideal) x0 (ix4 q s h e) = ((X.xh (2048 * q + s) (128 * h + e) : ℝ) : EReal) := by
  pointwise [val_main_v71, val_main_v70]
  simp only [xc_at H, rstd_at H, ← EReal.coe_mul]
  rw [Data.xh, show (128 * h.val + e.val) / 128 = h by omega]

theorem vn_at (q : Fin 2) (s : Fin 2048) (h : Fin 4) (e : Fin 128) :
    val_main_v77 (F := Ideal) x0 x2 x3 (ix4 q s h e) = ((X.vn (2048 * q + s) (128 * h + e) : ℝ) : EReal) := by
  pointwise [val_main_v77, val_main_v76, val_main_v75, val_main_v74, val_main_v73, val_main_v72]
  simp only [xh_at H, H.g, H.b, ← EReal.coe_mul, ← EReal.coe_add, Data.vn]

theorem vnc_at (q : Fin 2) (n : Fin 16) (t : Fin 128) (h : Fin 4) (e : Fin 128) :
    val_main_v78 (F := Ideal) x0 x2 x3 (ix5 q n t h e) = ((X.vn (2048 * q + (128 * n + t)) (128 * h + e) : ℝ) : EReal) := by
  pointwise [val_main_v78]
  simp only [vn_at H, Nat.mul_comm]

theorem ugc_at (q : Fin 2) (n : Fin 16) (t : Fin 128) (h : Fin 4) (e : Fin 128) :
    val_main_v29 (F := Ideal) x0 (ix5 q n t h e) = ((X.ug (2048 * q + (128 * n + t)) (128 * h + e) : ℝ) : EReal) := by
  pointwise [val_main_v29]
  simp only [ug_at H, Nat.mul_comm]

/-! ## The gate -/

theorem wm_at (h : Fin 4) (t s : Fin 128) : val_main_v79_0 (F := Ideal) x4 (ix3 h t s) = ((X.wm h t s : ℝ) : EReal) := by
  pointwise [val_main_v79_0, val_main_v79_1, val_main_call0_v6, val_main_call0_cst, val_main_call0_v4, val_main_call0_v3, val_main_call0_v2, val_main_call0_v1, val_main_call0_v0, val_main_call0_c]
  rw [H.w h t s, tri, ← EReal.coe_zero, Data.wm]
  split <;> rfl

theorem gate_at (q : Fin 2) (n : Fin 16) (t : Fin 128) (h : Fin 4) (e : Fin 128) :
    val_main_v85 (F := Ideal) x0 x2 x3 x4 x5 (ix5 q n t h e) = ((X.gate (2048 * q + (128 * n + t)) (128 * h + e) : ℝ) : EReal) := by
  pointwise [val_main_v85, val_main_v84, val_main_v83, val_main_v82, val_main_v81, val_main_v80, val_main_v6, val_main_v5, val_main_v4]
  rw [H.bs h t e]
  simp only [vnc_at H, wm_at H, ← EReal.coe_mul, sum_coe, ← EReal.coe_add]
  rw [Data.gate, show (128 * h.val + e.val) / 128 = h by omega, show (2048 * q.val + (128 * n.val + t.val)) % 128 = t by omega,
    show 128 * ((2048 * q.val + (128 * n.val + t.val)) / 128) = 2048 * q + 128 * n by omega]
  simp only [mul_comm (X.vn _ _), Nat.add_assoc]

theorem y_at (q : Fin 2) (s : Fin 2048) (j : Fin 512) :
    val_main_v87 (F := Ideal) x0 x2 x3 x4 x5 (ix3 q s j) = ((X.y (2048 * q + s) j : ℝ) : EReal) := by
  pointwise [val_main_v87, val_main_v86]
  simp only [ugc_at H, gate_at H, Nat.div_add_mod, ← EReal.coe_mul, Data.y]

theorem yc_at (q : Fin 2) (n : Fin 16) (t : Fin 128) (h : Fin 4) (e : Fin 128) :
    val_main_v86 (F := Ideal) x0 x2 x3 x4 x5 (ix5 q n t h e) = ((X.y (2048 * q + (128 * n + t)) (128 * h + e) : ℝ) : EReal) := by
  pointwise [val_main_v86]
  simp only [ugc_at H, gate_at H, ← EReal.coe_mul, Data.y]

/-! ## The output norm -/

/-- The mean square of a row, kept as an axis of extent one. -/
theorem ms_at (q : Fin 2) (s : Fin 2048) :
    val_main_v94 (F := Ideal) x0 x2 x3 x4 x5 (ix3 q s 0) = ((X.ms (2048 * q + s) + eps6 : ℝ) : EReal) := by
  pointwise [val_main_v94, val_main_v93, val_main_v92, val_main_v91, val_main_v90, val_main_v89, val_main_v88, val_main_cst_21, val_main_cst_22, val_main_cst_23]
  simp only [y_at H, ← EReal.coe_mul, sum_coe, lit_512, div512, lit_eps6, ← EReal.coe_add, Data.ms]

theorem rr_at (q : Fin 2) (s : Fin 2048) :
    val_main_v95 (F := Ideal) x0 x2 x3 x4 x5 (ix3 q s 0) = ((X.rr (2048 * q + s) : ℝ) : EReal) := by
  pointwise [val_main_v95]
  rw [ms_at H, rsqrt_coe (X.ms_pos _)]; rfl

theorem yn_at (q : Fin 2) (s : Fin 2048) (j : Fin 512) :
    val_main_v100 (F := Ideal) x0 x2 x3 x4 x5 (ix3 q s j) = ((X.yn (2048 * q + s) j : ℝ) : EReal) := by
  pointwise [val_main_v100, val_main_v99]
  simp only [y_at H, rr_at H, ← EReal.coe_mul, Data.yn]

end Cert.ReferenceIdeal.Ref
end
-- ==== Proof.RefBack.lean ====
/- The reference's backward values at real arguments: each is the real formula's value. -/
module

public import proofs.«01_k».proof.Proof.RefFwd

@[expose] public section

set_option maxRecDepth 16384
set_option maxHeartbeats 1000000

noncomputable section

namespace Cert.ReferenceIdeal.Ref

open Idealize.ShloMosaic Cert.ReferenceIdeal Cert.ReferenceIdeal.Read Cert.Spec Cert.Lift

variable {X : Data}
variable {x0 : (⟨S2x2048x4608, .f32⟩ : BufTy).Contents (Elt Ideal)} {x1 : (⟨S2x2048x2048, .bf16⟩ : BufTy).Contents (Elt Ideal)}
  {x2 x3 : (⟨S4x128, .f32⟩ : BufTy).Contents (Elt Ideal)} {x4 : (⟨S4x128x128, .f32⟩ : BufTy).Contents (Elt Ideal)}
  {x5 : (⟨S4x128, .f32⟩ : BufTy).Contents (Elt Ideal)} {x6 : (⟨S512, .f32⟩ : BufTy).Contents (Elt Ideal)}

variable (H : RHolds X x0 x1 x2 x3 x4 x5 x6)
include H

/-! ## Through the output norm -/

theorem dyn_at (q : Fin 2) (s : Fin 2048) (j : Fin 512) :
    val_main_v108 (F := Ideal) x1 x6 (ix3 q s j) = ((X.dyn (2048 * q + s) j : ℝ) : EReal) := by
  pointwise [val_main_v108, val_main_v107, val_main_v101]
  simp only [d_at H, H.og, ← EReal.coe_mul, Data.dyn]

/-- The gradient of the mean square, spread over the row's channels. -/
theorem cms_at (q : Fin 2) (s : Fin 2048) (j : Fin 512) :
    val_main_v119 (F := Ideal) x0 x1 x2 x3 x4 x5 x6 (ix3 q s j)
      = (((∑ k : Fin 512, X.y (2048 * q + s) k * X.dyn (2048 * q + s) k) * (-(1 / 2) * (X.rr (2048 * q + s) / (X.ms (2048 * q + s) + eps6))) / 512 : ℝ) : EReal) := by
  pointwise [val_main_v119, val_main_v118, val_main_v117, val_main_v116, val_main_v115, val_main_v112, val_main_v111, val_main_v110,
    val_main_v98, val_main_v97, val_main_v96, val_main_cst_24, val_main_cst_27, val_main_cst_28, val_main_cst_29]
  simp only [Fin.sum_univ_one, y_at H, dyn_at H, ms_at H, rr_at H, div_coe (X.ms_pos _).ne', lit_neg_half, lit_512, ← EReal.coe_mul, sum_coe, div512]

theorem dy_at (q : Fin 2) (s : Fin 2048) (j : Fin 512) :
    val_main_v123 (F := Ideal) x0 x1 x2 x3 x4 x5 x6 (ix3 q s j) = ((X.dy (2048 * q + s) j : ℝ) : EReal) := by
  rw [← X.dyRef_eq]
  pointwise [val_main_v123, val_main_v122, val_main_v121, val_main_v120, val_main_v114, val_main_v113]
  simp only [y_at H, dyn_at H, rr_at H, cms_at H, ← EReal.coe_mul, ← EReal.coe_add, Data.dyRef]

theorem dyc_at (q : Fin 2) (n : Fin 16) (t : Fin 128) (h : Fin 4) (e : Fin 128) :
    val_main_v124 (F := Ideal) x0 x1 x2 x3 x4 x5 x6 (ix5 q n t h e) = ((X.dy (2048 * q + (128 * n + t)) (128 * h + e) : ℝ) : EReal) := by
  pointwise [val_main_v124]
  simp only [dy_at H, Nat.mul_comm]

/-! ## Through the gate -/

theorem dg_at (q : Fin 2) (n : Fin 16) (t : Fin 128) (h : Fin 4) (e : Fin 128) :
    val_main_v125 (F := Ideal) x0 x1 x2 x3 x4 x5 x6 (ix5 q n t h e) = ((X.dg (2048 * q + (128 * n + t)) (128 * h + e) : ℝ) : EReal) := by
  pointwise [val_main_v125]
  simp only [dyc_at H, ugc_at H, ← EReal.coe_mul, Data.dg, mul_comm]

theorem dug_at (q : Fin 2) (s : Fin 2048) (j : Fin 512) :
    val_main_v181 (F := Ideal) x0 x1 x2 x3 x4 x5 x6 (ix3 q s j) = ((X.dy (2048 * q + s) j * X.gate (2048 * q + s) j : ℝ) : EReal) := by
  pointwise [val_main_v181, val_main_v126]
  simp only [dyc_at H, gate_at H, Nat.div_add_mod, ← EReal.coe_mul]

theorem dvnc_at (q : Fin 2) (n : Fin 16) (t : Fin 128) (h : Fin 4) (e : Fin 128) :
    val_main_v134 (F := Ideal) x0 x1 x2 x3 x4 x5 x6 (ix5 q n t h e) = ((X.dvn (2048 * q + (128 * n + t)) (128 * h + e) : ℝ) : EReal) := by
  pointwise [val_main_v134, val_main_v133, val_main_v131]
  simp only [dg_at H, wm_at H, ← EReal.coe_mul, sum_coe]
  rw [Data.dvn, show (128 * h.val + e.val) / 128 = h by omega, show (2048 * q.val + (128 * n.val + t.val)) % 128 = t by omega,
    show 128 * ((2048 * q.val + (128 * n.val + t.val)) / 128) = 2048 * q + 128 * n by omega]
  simp only [mul_comm (X.dg _ _), Nat.add_assoc]

theorem dvn_at (q : Fin 2) (s : Fin 2048) (h : Fin 4) (e : Fin 128) :
    val_main_v136 (F := Ideal) x0 x1 x2 x3 x4 x5 x6 (ix4 q s h e) = ((X.dvn (2048 * q + s) (128 * h + e) : ℝ) : EReal) := by
  pointwise [val_main_v136]
  simp only [dvnc_at H, Nat.div_add_mod]

/-! ## Through the layer norm -/

theorem dxh_at (q : Fin 2) (s : Fin 2048) (h : Fin 4) (e : Fin 128) :
    val_main_v144 (F := Ideal) x0 x1 x2 x3 x4 x5 x6 (ix4 q s h e) = ((X.dxh (2048 * q + s) (128 * h + e) : ℝ) : EReal) := by
  pointwise [val_main_v144, val_main_v143, val_main_v72]
  simp only [dvn_at H, H.g, ← EReal.coe_mul, Data.dxh]

theorem dxc_at (q : Fin 2) (s : Fin 2048) (h : Fin 4) (e : Fin 128) :
    val_main_v159 (F := Ideal) x0 x1 x2 x3 x4 x5 x6 (ix4 q s h e) = ((X.dxcRef (2048 * q + s) (128 * h + e) : ℝ) : EReal) := by
  pointwise [val_main_v159, val_main_v158, val_main_v157, val_main_v156, val_main_v155, val_main_v154, val_main_v153, val_main_v152, val_main_v151,
    val_main_v150, val_main_v149, val_main_v148, val_main_v147, val_main_v146, val_main_v69, val_main_v68, val_main_v67, val_main_cst_20, val_main_cst_36, val_main_cst_37, val_main_cst_38]
  simp only [Fin.sum_univ_one, xc_at H, dxh_at H, var_at H, rstd_at H, div_coe (X.var_pos _ _).ne', lit_neg_half, lit_128, ← EReal.coe_mul, sum_coe, div128, ← EReal.coe_add]
  rw [Data.dxcRef, show (128 * h.val + e.val) / 128 = h by omega]

theorem dvg_at (q : Fin 2) (s : Fin 2048) (j : Fin 512) :
    val_main_v168 (F := Ideal) x0 x1 x2 x3 x4 x5 x6 (ix3 q s j) = ((X.dvg (2048 * q + s) j : ℝ) : EReal) := by
  rw [← X.dvgRef_eq]
  pointwise [val_main_v168, val_main_v167, val_main_v166, val_main_v165, val_main_v164, val_main_v163, val_main_v162, val_main_v161, val_main_v160,
    val_main_cst_39, val_main_cst_40, val_main_cst_41]
  simp only [Fin.sum_univ_one, dxc_at H, ← EReal.coe_neg, lit_128, sum_coe, div128, ← EReal.coe_add, Nat.div_add_mod, Data.dvgRef]

/-! ## Through the gelus -/

theorem du_at (q : Fin 2) (s : Fin 2048) (j : Fin 512) :
    val_main_v194 (F := Ideal) x0 x1 x2 x3 x4 x5 x6 (ix3 q s j) = ((X.du (2048 * q + s) j : ℝ) : EReal) := by
  rw [Data.du, ← Data.dgel_ref]
  pointwise [val_main_v194, val_main_v193, val_main_v192, val_main_v191, val_main_v190, val_main_v189, val_main_v188, val_main_v187, val_main_v186,
    val_main_v185, val_main_v184, val_main_v183, val_main_v182, val_main_v27, val_main_v26, val_main_v25, val_main_v24, val_main_v23, val_main_v22,
    val_main_v21, val_main_v20, val_main_v19, val_main_v12, val_main_v11, val_main_v10, val_main_cst_1, val_main_cst_3, val_main_cst_4, val_main_cst_5,
    val_main_cst_6, val_main_cst_44, val_main_cst_45]
  simp only [u_at H, dug_at H, thu_at H, c_at H, lit_half, lit_3, lit_K, ← EReal.coe_one, ← EReal.coe_mul, ← EReal.coe_add, ← EReal.coe_sub]

theorem dv_at (q : Fin 2) (s : Fin 2048) (j : Fin 512) :
    val_main_v195 (F := Ideal) x0 x1 x2 x3 x4 x5 x6 (ix3 q s j) = ((X.dv (2048 * q + s) j : ℝ) : EReal) := by
  rw [Data.dv, ← Data.dgel_ref]
  pointwise [val_main_v195, val_main_v180, val_main_v179, val_main_v178, val_main_v177, val_main_v176, val_main_v175, val_main_v174, val_main_v173,
    val_main_v172, val_main_v171, val_main_v170, val_main_v169, val_main_v50, val_main_v49, val_main_v48, val_main_v47, val_main_v46, val_main_v45,
    val_main_v44, val_main_v43, val_main_v42, val_main_v35, val_main_v34, val_main_v33, val_main_cst_9, val_main_cst_11, val_main_cst_12,
    val_main_cst_13, val_main_cst_14, val_main_cst_42, val_main_cst_43]
  simp only [v_at H, dvg_at H, thv_at H, show val_main_v30 (F := Ideal) ix0 = ((cC : ℝ) : EReal) from c_at H, lit_half, lit_3, lit_K, ← EReal.coe_one,
    ← EReal.coe_mul, ← EReal.coe_add, ← EReal.coe_sub]

end Cert.ReferenceIdeal.Ref
end
-- ==== Proof.RefSum.lean ====
/- The reference's parameter gradients at real arguments: sums over all tokens, regrouped into the kernel's blocks of 512. -/
module

public import proofs.«01_k».proof.Proof.RefBack

@[expose] public section

set_option maxRecDepth 16384
set_option maxHeartbeats 1000000

noncomputable section

namespace Cert.ReferenceIdeal.Ref

open Idealize.ShloMosaic Cert.ReferenceIdeal Cert.ReferenceIdeal.Read Cert.Spec Cert.Lift

variable {X : Data}
variable {x0 : (⟨S2x2048x4608, .f32⟩ : BufTy).Contents (Elt Ideal)} {x1 : (⟨S2x2048x2048, .bf16⟩ : BufTy).Contents (Elt Ideal)}
  {x2 x3 : (⟨S4x128, .f32⟩ : BufTy).Contents (Elt Ideal)} {x4 : (⟨S4x128x128, .f32⟩ : BufTy).Contents (Elt Ideal)}
  {x5 : (⟨S4x128, .f32⟩ : BufTy).Contents (Elt Ideal)} {x6 : (⟨S512, .f32⟩ : BufTy).Contents (Elt Ideal)}

/-! ## Sums over the two leading axes -/

section Axes
variable {n0 n1 n2 n3 n4 : Nat}

/-- A sum over the first two of three axes is the double sum over their coordinates. -/
theorem sum_lead_r3 (h : (⟨3, ![n0, n1, n2]⟩ : Shape).ReducesTo [0, 1] ⟨1, ![n2]⟩) (v : (⟨3, ![n0, n1, n2]⟩ : Shape).Idx → EReal) (init : EReal)
    (a : Fin n2) : Ideal.hostReduceAdd h v init (ix1 a) = init + ∑ k0 : Fin n0, ∑ k1 : Fin n1, v (ix3 k0 k1 a) := by
  refine congrArg (init + ·) ((Finset.sum_filter_eq_sum_of_fiber _ (fun k : Fin n0 × Fin n1 => ix3 k.1 k.2 a)
    (fun _ _ e => Prod.ext (congrFun e 0) (congrFun e 1)) (fun i => ⟨fun e => ⟨(i 0, i 1), ?_⟩, ?_⟩) v).trans ?_)
  · funext x; apply Fin.ext
    match x with
    | ⟨0, _⟩ => rfl
    | ⟨1, _⟩ => rfl
    | ⟨2, _⟩ => exact (congrArg Fin.val (congrFun e 0)).symm
  · rintro ⟨k, rfl⟩
    funext x; apply Fin.ext
    match x with
    | ⟨0, _⟩ => rfl
  · simp only [Fintype.sum_prod_type]

/-- A sum over the first two of four axes is the double sum over their coordinates. -/
theorem sum_lead_r4 (h : (⟨4, ![n0, n1, n2, n3]⟩ : Shape).ReducesTo [0, 1] ⟨2, ![n2, n3]⟩) (v : (⟨4, ![n0, n1, n2, n3]⟩ : Shape).Idx → EReal) (init : EReal)
    (a : Fin n2) (b : Fin n3) : Ideal.hostReduceAdd h v init (ix2 a b) = init + ∑ k0 : Fin n0, ∑ k1 : Fin n1, v (ix4 k0 k1 a b) := by
  refine congrArg (init + ·) ((Finset.sum_filter_eq_sum_of_fiber _ (fun k : Fin n0 × Fin n1 => ix4 k.1 k.2 a b)
    (fun _ _ e => Prod.ext (congrFun e 0) (congrFun e 1)) (fun i => ⟨fun e => ⟨(i 0, i 1), ?_⟩, ?_⟩) v).trans ?_)
  · funext x; apply Fin.ext
    match x with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext x; apply Fin.ext
    match x with
    | ⟨0, _⟩ => rfl
    | ⟨1, _⟩ => rfl
  · simp only [Fintype.sum_prod_type]

/-- A sum over the first two of five axes is the double sum over their coordinates. -/
theorem sum_lead_r5 (h : (⟨5, ![n0, n1, n2, n3, n4]⟩ : Shape).ReducesTo [0, 1] ⟨3, ![n2, n3, n4]⟩) (v : (⟨5, ![n0, n1, n2, n3, n4]⟩ : Shape).Idx → EReal) (init : EReal)
    (a : Fin n2) (b : Fin n3) (c : Fin n4) : Ideal.hostReduceAdd h v init (ix3 a b c) = init + ∑ k0 : Fin n0, ∑ k1 : Fin n1, v (ix5 k0 k1 a b c) := by
  refine congrArg (init + ·) ((Finset.sum_filter_eq_sum_of_fiber _ (fun k : Fin n0 × Fin n1 => ix5 k.1 k.2 a b c)
    (fun _ _ e => Prod.ext (congrFun e 0) (congrFun e 1)) (fun i => ⟨fun e => ⟨(i 0, i 1), ?_⟩, ?_⟩) v).trans ?_)
  · funext x; apply Fin.ext
    match x with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => exact (congrArg Fin.val (congrFun e 2)).symm
  · rintro ⟨k, rfl⟩
    funext x; apply Fin.ext
    match x with
    | ⟨0, _⟩ => rfl
    | ⟨1, _⟩ => rfl
    | ⟨2, _⟩ => rfl
  · simp only [Fintype.sum_prod_type]

end Axes

/-! ## Regrouping the token rows -/

/-- A sum over `A` groups of `B` consecutive numbers is the sum over all of them. -/
theorem sum_groups (A B : ℕ) (f : ℕ → ℝ) : ∑ a : Fin A, ∑ b : Fin B, f (B * a + b) = ∑ k ∈ Finset.range (B * A), f k := by
  induction A with
  | zero => simp
  | succ A ih =>
    rw [Fin.sum_univ_castSucc, Nat.mul_succ, Finset.sum_range_add, ← ih, Finset.sum_range (fun x => f (B * A + x))]
    rfl

/-- Two sequences of 2048 rows are eight blocks of 512 rows. -/
theorem sum_rows (f : ℕ → ℝ) : ∑ q : Fin 2, ∑ s : Fin 2048, f (2048 * q + s) = ∑ p : Fin 8, ∑ r : Fin 512, f (512 * p + r) := by
  rw [sum_groups 2 2048 f, sum_groups 8 512 f]

/-- Two sequences of sixteen chunks are eight blocks of four chunks. -/
theorem sum_chunks (f : ℕ → ℝ) : ∑ q : Fin 2, ∑ n : Fin 16, f (2048 * q + 128 * n) = ∑ p : Fin 8, ∑ c : Fin 4, f (512 * p + 128 * c) := by
  have h := (sum_groups 2 16 fun k => f (128 * k)).trans (sum_groups 8 4 fun k => f (128 * k)).symm
  simpa only [Nat.mul_add, ← Nat.mul_assoc, Nat.reduceMul] using h

/-! ## The product that contracts sequences, chunks and channels -/

section Contract

/-- The contraction's index with the coordinates `q n e`. -/
def at3 (q : Fin 2) (n : Fin 16) (e : Fin 128) : dot_S4x2x16x128x128_S2x16x128x4x128_S4x128x128_123_014_4_2_0_3.contr.Idx
  | ⟨0, _⟩ => q
  | ⟨1, _⟩ => n
  | ⟨2, _⟩ => e

/-- A sum over the contraction's indices is the triple sum over their coordinates. -/
theorem sum_at3 (f : dot_S4x2x16x128x128_S2x16x128x4x128_S4x128x128_123_014_4_2_0_3.contr.Idx → EReal) :
    ∑ k, f k = ∑ q : Fin 2, ∑ n : Fin 16, ∑ e : Fin 128, f (at3 q n e) := by
  refine (Fintype.sum_equiv ⟨fun p : Fin 2 × Fin 16 × Fin 128 => at3 p.1 p.2.1 p.2.2, fun k => (k ⟨0, by decide⟩, k ⟨1, by decide⟩, k ⟨2, by decide⟩),
    fun _ => rfl, fun k => funext fun p => ?_⟩ (fun p => f (at3 p.1 p.2.1 p.2.2)) f fun _ => rfl).symm.trans (by simp only [Fintype.sum_prod_type])
  match p with
  | ⟨0, _⟩ => rfl
  | ⟨1, _⟩ => rfl
  | ⟨2, _⟩ => rfl

theorem lhs_at3 (h : Fin 4) (t s : Fin 128) (q : Fin 2) (n : Fin 16) (e : Fin 128) :
    dot_S4x2x16x128x128_S2x16x128x4x128_S4x128x128_123_014_4_2_0_3.lhsIdx (ix3 h t s) (at3 q n e) = ix5 h q n e t := by
  funext x; apply Fin.ext
  match x with
  | ⟨0, _⟩ => rfl
  | ⟨1, _⟩ => rfl
  | ⟨2, _⟩ => rfl
  | ⟨3, _⟩ => rfl
  | ⟨4, _⟩ => rfl

theorem rhs_at3 (h : Fin 4) (t s : Fin 128) (q : Fin 2) (n : Fin 16) (e : Fin 128) :
    dot_S4x2x16x128x128_S2x16x128x4x128_S4x128x128_123_014_4_2_0_3.rhsIdx (ix3 h t s) (at3 q n e) = ix5 q n s h e := by
  funext x; apply Fin.ext
  match x with
  | ⟨0, _⟩ => rfl
  | ⟨1, _⟩ => rfl
  | ⟨2, _⟩ => rfl
  | ⟨3, _⟩ => rfl
  | ⟨4, _⟩ => rfl

end Contract

variable (H : RHolds X x0 x1 x2 x3 x4 x5 x6)
include H

theorem dog_at (j : Fin 512) :
    val_main_v198 (F := Ideal) x0 x1 x2 x3 x4 x5 (ix2 0 j) = ((∑ p : Fin 8, X.dogB p j : ℝ) : EReal) := by
  pointwise [val_main_v198, val_main_v109, val_main_v106, val_main_v105, val_main_v104, val_main_cst_25, val_main_cst_26, sum_lead_r3]
  simp only [Fin.sum_univ_one, yn_at H, d_at H, mul_comm (Data.yn _ _ _ : EReal), ← EReal.coe_mul, sum_coe]
  exact congrArg _ (sum_rows fun n => X.D n j * X.yn n j)

theorem dlng_at (h : Fin 4) (e : Fin 128) :
    val_main_v145 (F := Ideal) x0 x1 x2 x3 x4 x5 x6 (ix2 h e) = ((∑ p : Fin 8, X.dlngB p (128 * h + e) : ℝ) : EReal) := by
  pointwise [val_main_v145, val_main_v142, val_main_v141, val_main_v140, val_main_cst_34, val_main_cst_35, sum_lead_r4]
  simp only [Fin.sum_univ_one, xh_at H, dvn_at H, mul_comm (Data.xh _ _ _ : EReal), ← EReal.coe_mul, sum_coe]
  exact congrArg _ (sum_rows fun n => X.dvn n (128 * h + e) * X.xh n (128 * h + e))

theorem dlnb_at (h : Fin 4) (e : Fin 128) :
    val_main_v139 (F := Ideal) x0 x1 x2 x3 x4 x5 x6 (ix2 h e) = ((∑ p : Fin 8, X.dlnbB p (128 * h + e) : ℝ) : EReal) := by
  pointwise [val_main_v139, val_main_v138, val_main_v137, val_main_cst_32, val_main_cst_33, sum_lead_r4]
  simp only [Fin.sum_univ_one, dvn_at H, sum_coe]
  exact congrArg _ (sum_rows fun n => X.dvn n (128 * h + e))

theorem dbs_at (t : Fin 128) (h : Fin 4) (e : Fin 128) :
    val_main_v129 (F := Ideal) x0 x1 x2 x3 x4 x5 x6 (ix3 t h e) = ((∑ p : Fin 8, X.dbsB p t (128 * h + e) : ℝ) : EReal) := by
  pointwise [val_main_v129, val_main_v128, val_main_v127, val_main_cst_30, val_main_cst_31, sum_lead_r5]
  simp only [Fin.sum_univ_one, dg_at H, sum_coe]
  simp only [← Nat.add_assoc]
  exact congrArg _ (sum_chunks fun n => X.dg (n + t) (128 * h + e))

/-- The mixing weights' gradient before the mask. -/
theorem dwf_at (h : Fin 4) (t s : Fin 128) :
    val_main_v132 (F := Ideal) x0 x1 x2 x3 x4 x5 x6 (ix3 h t s)
      = ((∑ p : Fin 8, ∑ c : Fin 4, ∑ e : Fin 128, X.dg (512 * p + 128 * c + t) (128 * h + e) * X.vn (512 * p + 128 * c + s) (128 * h + e) : ℝ) : EReal) := by
  have hv : ∀ (q : Fin 2) (n : Fin 16) (e : Fin 128), val_main_v131 (F := Ideal) x0 x1 x2 x3 x4 x5 x6 (ix5 h q n e t)
      = ((X.dg (2048 * q + (128 * n + t)) (128 * h + e) : ℝ) : EReal) := fun q n e => by
    pointwise [val_main_v131]
    exact dg_at H q n t h e
  refine (Ideal.dotGeneral_apply _ _ _ _ _ _).trans ((sum_at3 _).trans ?_)
  simp only [lhs_at3, rhs_at3, hv, vnc_at H, ← EReal.coe_mul, sum_coe, ← Nat.add_assoc]
  exact congrArg _ (sum_chunks fun n => ∑ e : Fin 128, X.dg (n + t) (128 * h + e) * X.vn (n + s) (128 * h + e))

theorem dws_at (h : Fin 4) (t s : Fin 128) :
    val_main_v135 (F := Ideal) x0 x1 x2 x3 x4 x5 x6 (ix3 h t s) = ((∑ p : Fin 8, X.dwsB p h t s : ℝ) : EReal) := by
  pointwise [val_main_v135, val_main_v79_1, val_main_call0_v4, val_main_call0_v3, val_main_call0_v2, val_main_call0_v1, val_main_call0_v0, val_main_call0_c,
    val_main_call1_v0, val_main_call1_cst]
  rw [dwf_at H, tri]
  by_cases hs : s.val ≤ t.val
  · rw [if_pos hs]; simp only [Data.dwsB, if_pos hs]
  · rw [if_neg hs]; simp only [Data.dwsB, if_neg hs]; simp

/-! ## The results' own shapes -/

theorem dlng_res (j : Fin 512) :
    val_main_v196 (F := Ideal) x0 x1 x2 x3 x4 x5 x6 (ix2 0 j) = ((∑ p : Fin 8, X.dlngB p j : ℝ) : EReal) := by
  pointwise [val_main_v196]
  simp only [dlng_at H, Nat.div_add_mod]

theorem dlnb_res (j : Fin 512) :
    val_main_v197 (F := Ideal) x0 x1 x2 x3 x4 x5 x6 (ix2 0 j) = ((∑ p : Fin 8, X.dlnbB p j : ℝ) : EReal) := by
  pointwise [val_main_v197]
  simp only [dlnb_at H, Nat.div_add_mod]

theorem dbs_res (t : Fin 128) (j : Fin 512) :
    val_main_v130 (F := Ideal) x0 x1 x2 x3 x4 x5 x6 (ix2 t j) = ((∑ p : Fin 8, X.dbsB p t j : ℝ) : EReal) := by
  pointwise [val_main_v130]
  simp only [dbs_at H, Nat.div_add_mod]

end Cert.ReferenceIdeal.Ref
end
-- ==== Proof.Finite.lean ====
/- Finite launch arguments are real arrays. -/
module

public import proofs.«01_k».proof.Pre_finite_inputs
public import proofs.«01_k».proof.Proof.Lift
public import proofs.«01_k».proof.Proof.Args
public import Idealize.ShloMosaic.Lib.Pointwise
public import Idealize.ShloMosaic.Lib.ReduceAll

@[expose] public section

set_option maxHeartbeats 1000000

noncomputable section

namespace Cert.Finite

open Idealize.ShloMosaic Cert.Pre_finite_inputs Cert.Spec

instance facts : Cert.Pre_finite_inputs.Facts := by
  constructor <;> decide

/-- Every element of the array is a real number. -/
def AllReal {s : Shape} (x : s.Idx → EReal) : Prop := ∀ i, x i = ((x i).toReal : EReal)

/-- An element whose absolute value is below infinity is a real number. -/
theorem real_of_lt {x : EReal} (h : max x (-x) < ⊤) : x = (x.toReal : EReal) := by
  refine (EReal.coe_toReal (fun e => ?_) fun e => ?_).symm
  · subst e; simp at h
  · subst e; simp at h

theorem real_of_cmp {x y : EReal} (hy : y = ⊤) (h : Ideal.cmp .olt (max x (-x)) y = 1#1) : x = (x.toReal : EReal) := by
  subst hy
  by_contra hx
  have hn : ¬ max x (-x) < ⊤ := fun hl => hx (real_of_lt hl)
  simp [Ideal.cmp, hn] at h

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

instance : Subsingleton S_.Idx := ⟨fun _ _ => funext fun a => a.elim0⟩

variable (x0 : FVec Ideal S2x2048x4608 .f32) (x1 : FVec Ideal S2x2048x2048 .bf16) (x2 x3 : FVec Ideal S4x128 .f32) (x4 : FVec Ideal S4x128x128 .f32)
  (x5 : FVec Ideal S4x128 .f32) (x6 : FVec Ideal S512 .f32)

theorem real_args (h : fn (F := Ideal) x0 x1 x2 x3 x4 x5 x6 = fun _ => 1#1) :
    AllReal x0 ∧ AllReal x1 ∧ AllReal x2 ∧ AllReal x3 ∧ AllReal x4 ∧ AllReal x5 ∧ AllReal x6 := by
  have h := congrFun h ix0
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => real_of_cmp inf_f32 (Host.reduce_andi_all _ _ _ _ _ h0 i), fun i => real_of_cmp inf_bf16 (Host.reduce_andi_all _ _ _ _ _ h1 i),
    fun i => real_of_cmp inf_f32 (Host.reduce_andi_all _ _ _ _ _ h2 i), fun i => real_of_cmp inf_f32 (Host.reduce_andi_all _ _ _ _ _ h3 i),
    fun i => real_of_cmp inf_f32 (Host.reduce_andi_all _ _ _ _ _ h4 i), fun i => real_of_cmp inf_f32 (Host.reduce_andi_all _ _ _ _ _ h5 i),
    fun i => real_of_cmp inf_f32 (Host.reduce_andi_all _ _ _ _ _ h6 i)⟩

/-- The real arrays the launch arguments hold. -/
def data : Data where
  U n j := (x0 (ix3 ⟨n / 2048 % 2, by omega⟩ ⟨n % 2048, by omega⟩ ⟨j % 512, by omega⟩)).toReal
  V n j := (x0 (ix3 ⟨n / 2048 % 2, by omega⟩ ⟨n % 2048, by omega⟩ ⟨512 + j % 512, by omega⟩)).toReal
  D n j := (x1 (ix3 ⟨n / 2048 % 2, by omega⟩ ⟨n % 2048, by omega⟩ ⟨j % 512, by omega⟩)).toReal
  g j := (x2 (ix2 ⟨j / 128 % 4, by omega⟩ ⟨j % 128, by omega⟩)).toReal
  b j := (x3 (ix2 ⟨j / 128 % 4, by omega⟩ ⟨j % 128, by omega⟩)).toReal
  og j := (x6 (ix1 ⟨j % 512, by omega⟩)).toReal
  w h t s := (x4 (ix3 ⟨h % 4, by omega⟩ ⟨t % 128, by omega⟩ ⟨s % 128, by omega⟩)).toReal
  bs t j := (x5 (ix2 ⟨j / 128 % 4, by omega⟩ ⟨t % 128, by omega⟩)).toReal

theorem holds (h : fn (F := Ideal) x0 x1 x2 x3 x4 x5 x6 = fun _ => 1#1) :
    Holds (data x0 x1 x2 x3 x4 x5 x6) (fun q s j => x0 (ix3 q s j)) (fun q s j => x1 (ix3 q s j)) (fun h e => x2 (ix2 h e)) (fun h e => x3 (ix2 h e))
      (fun h t s => x4 (ix3 h t s)) (fun h t => x5 (ix2 h t)) (fun j => x6 (ix1 j)) := by
  obtain ⟨h0, h1, h2, h3, h4, h5, h6⟩ := real_args x0 x1 x2 x3 x4 x5 x6 h
  constructor
  · intro q s j
    refine (h0 _).trans (congrArg (fun i => ((x0 i).toReal : EReal)) ?_)
    congr 1 <;> apply Fin.ext <;> simp <;> omega
  · intro q s j
    refine (h0 _).trans (congrArg (fun i => ((x0 i).toReal : EReal)) ?_)
    congr 1 <;> apply Fin.ext <;> simp <;> omega
  · intro q s j
    refine (h1 _).trans (congrArg (fun i => ((x1 i).toReal : EReal)) ?_)
    congr 1 <;> apply Fin.ext <;> simp <;> omega
  · intro h e
    refine (h2 _).trans (congrArg (fun i => ((x2 i).toReal : EReal)) ?_)
    congr 1 <;> apply Fin.ext <;> simp <;> omega
  · intro h e
    refine (h3 _).trans (congrArg (fun i => ((x3 i).toReal : EReal)) ?_)
    congr 1 <;> apply Fin.ext <;> simp <;> omega
  · intro h t s
    refine (h4 _).trans (congrArg (fun i => ((x4 i).toReal : EReal)) ?_)
    congr 1 <;> apply Fin.ext <;> simp <;> omega
  · intro h t e
    refine (h5 _).trans (congrArg (fun i => ((x5 i).toReal : EReal)) ?_)
    congr 1 <;> apply Fin.ext <;> simp <;> omega
  · intro j
    refine (h6 _).trans (congrArg (fun i => ((x6 i).toReal : EReal)) ?_)
    congr 1 <;> apply Fin.ext <;> simp <;> omega

end Cert.Finite
end
-- ==== Proof.MlpDa.lean ====
/- The gradient of the squared ReLU's argument: what the kernel's tiles of 1024 by 1024 hold, what the reference holds, and that
   they are the same over the extended reals. -/
module

public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.Pipeline.ValueKit
public import Idealize.ShloMosaic.Lib.Claim

@[expose] public section

set_option maxRecDepth 16384

noncomputable section

namespace Cert.Kernel2Ideal.Mlp

open Idealize.ShloMosaic Cert.Kernel2Ideal Cert.Kernel2Ideal.Gen
open Idealize.ShloMosaic.TcCoe Idealize.SL.Sem
open Idealize.ShloMosaic.Pipeline (Dat)

variable (m : (ℓ : Loc nD τ sig) → Buf (Elt Ideal) ℓ) (c : Dev nD) (t : Fin cfg0.N)

theorem idx0 : ∀ t : Fin cfg0.N, win0_0.index t = ![t.val / 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)
theorem lt32 (t : Fin cfg0.N) : t.val < 32 := t.isLt

theorem read_d (a : Fin 1024) (k : Fin 2048) : iblk m c 0 t (ix2 a k)
    = m ((c : Thread nD τ).loc main_arg0) (ix2 ⟨1024 * (t.val / 8) + a.val, by have := lt32 t; omega⟩ k) := by
  blk_point [iblk, V, idx0 t]

theorem read_w (b : Fin 1024) (k : Fin 2048) : iblk m c 1 t (ix2 b k)
    = m ((c : Thread nD τ).loc main_arg1) (ix2 ⟨1024 * (t.val % 8) + b.val, by omega⟩ k) := by
  blk_point [iblk, V, idx1 t]

theorem read_a (a b : Fin 1024) : iblk m c 2 t (ix2 a b)
    = m ((c : Thread nD τ).loc main_arg2) (ix2 ⟨1024 * (t.val / 8) + a.val, by have := lt32 t; omega⟩ ⟨1024 * (t.val % 8) + b.val, by omega⟩) := by
  blk_point [iblk, V, idx2 t]

/-- One tile: a row of the incoming gradient times a row of the weights, times twice the positive part. -/
theorem tile (x0 x1 : Vec Ideal S1024x2048 .bf16) (x2 : Vec Ideal S1024x1024 .bf16) (a b : Fin 1024) :
    out0_3 x0 x1 x2 (ix2 a b) = ((∑ k : Fin 2048, x0 (ix2 a k) * x1 (ix2 b k)) * (Ideal.ofBits FTy.f32 0x40000000#32 * max (x2 (ix2 a b)) 0) : EReal) := by
  unfold out0_3; frame_out
  pointwise [k0_pay1]

/-- The gradient that the array holds at row `i`, column `j`. -/
def grad (d : S4096x2048.Idx → EReal) (w : S8192x2048.Idx → EReal) (a : S4096x8192.Idx → EReal) (i : Fin 4096) (j : Fin 8192) : EReal :=
  (∑ k : Fin 2048, d (ix2 i k) * w (ix2 j k)) * (Ideal.ofBits FTy.f32 0x40000000#32 * max (a (ix2 i j)) 0)

theorem eta (y : S1024x1024.Idx) : y = ix2 (y 0) (y 1) := by
  funext a; fin_cases a <;> rfl

/-- What point `t` computes is its tile of the gradient. -/
theorem at_point (a b : Fin 1024) : out0_3 (iblk m c 0 t) (iblk m c 1 t) (iblk m c 2 t) (ix2 a b)
    = grad (m ((c : Thread nD τ).loc main_arg0)) (m ((c : Thread nD τ).loc main_arg1)) (m ((c : Thread nD τ).loc main_arg2))
        ⟨1024 * (t.val / 8) + a.val, by have := lt32 t; omega⟩ ⟨1024 * (t.val % 8) + b.val, by omega⟩ := by
  rw [tile]
  simp only [read_d, read_w, read_a]
  rfl

/-- The array after the run. -/
def G : S4096x8192.Idx → EReal := fun i => grad (m ((c : Thread nD τ).loc main_arg0))
    (m ((c : Thread nD τ).loc main_arg1)) (m ((c : Thread nD τ).loc main_arg2)) (i 0) (i 1)

theorem G_at (a b : Fin 1024) (i : S4096x8192.Idx) (h0 : (i 0).val = 1024 * (t.val / 8) + a.val)
    (h1 : (i 1).val = 1024 * (t.val % 8) + b.val) : out0_3 (iblk m c 0 t) (iblk m c 1 t) (iblk m c 2 t) (ix2 a b) = G m c i :=
  (at_point m c t a b).trans (congrArg₂ (grad _ _ _) (Fin.ext h0.symm) (Fin.ext h1.symm))

theorem final : (dats m 0 c).arrAt 3 cfg0.N = G m c := by
  refine (dats m 0 c).arrAt_eq_of_covers 3 _ (by decide +kernel) fun t _ y => ?_
  blk_simp
  rw [after0_3]
  refine (congrArg (out0_3 _ _ _) (eta y)).trans (G_at m c t _ _ _ ?_ ?_)
  · show win0_3.index t 0 * 1024 + 1 * (y 0).val = _
    rw [idx3 t]; show t.val / 8 * 1024 + 1 * (y 0).val = _; omega
  · show win0_3.index t 1 * 1024 + 1 * (y 1).val = _
    rw [idx3 t]; show t.val % 8 * 1024 + 1 * (y 1).val = _; omega

end Cert.Kernel2Ideal.Mlp

namespace Cert.Reference2Ideal.Mlp

open Idealize.ShloMosaic Cert.Reference2Ideal Cert.Reference2Ideal.Gen Cert.Reference2Ideal.Read
open Idealize.ShloMosaic.TcCoe Idealize.SL.Sem

theorem res (d : S4096x2048.Idx → EReal) (w : S8192x2048.Idx → EReal) (a : S4096x8192.Idx → EReal) (i : Fin 4096) (j : Fin 8192) :
    val_main_v15 (F := Ideal) d w a (ix2 i j) = Cert.Kernel2Ideal.Mlp.grad d w a i j := by
  pointwise [val_main_v15, val_main_v14, val_main_v13, val_main_v12, val_main_v11, val_main_v9, val_main_v8, val_main_v5, val_main_v4,
    val_main_v3, val_main_v2, val_main_v1, val_main_v0, val_main_cst, val_main_cst_1, val_main_cst_2, val_main_call0_v0,
    val_main_call0_cst]
  unfold Cert.Kernel2Ideal.Mlp.grad
  by_cases h : a (ix2 i j) > 0
  · simp [h]
  · simp [h]
    exact .inr (.inr (not_lt.mp h))

theorem frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m g m' g' _ hagree
  refine ⟨_, Cert.Kernel2Ideal.Value.run_blocks m g, ?_⟩
  refine (θ_run Cert.Reference2Ideal.defs _ _).mono (fun r h c => ?_) (Cert.Reference2Ideal.Value.run (F := Ideal) m' g')
  obtain ⟨h0, hargs⟩ := h c
  obtain ⟨a0, a1, a2⟩ := hagree c
  refine ⟨h0.trans ?_, hargs⟩
  rw [Cert.Reference2Ideal.Read.val_main_v15_eq]
  simp only [StableHlo.launchContents_devRef, a0, a1, a2]
  rw [Cert.Kernel2Ideal.Mlp.final]
  funext i
  refine (congrArg (val_main_v15 _ _ _) (show i = ix2 (i 0) (i 1) from by funext k; fin_cases k <;> rfl)).trans (res _ _ _ _ _)

end Cert.Reference2Ideal.Mlp

end
-- ==== Proof.MlpDh.lean ====
/- The gradient of the MLP's input: the kernel adds the product of a tile up over two grid points, four column blocks of the
   weights in each; the reference sums over all 8192 columns at once. -/
module

public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.Mlp

open Idealize.ShloMosaic Cert.Kernel3Ideal Cert.Kernel3Ideal.Gen
open Idealize.ShloMosaic.TcCoe Idealize.SL.Sem
open Idealize.ShloMosaic.Pipeline (Dat)

variable (m : (ℓ : Loc nD τ sig) → Buf (Elt Ideal) ℓ) (c : Dev nD) (t : Fin cfg0.N)

theorem idx0 : ∀ t : Fin cfg0.N, win0_0.index t = ![t.val / 4, t.val % 2] := (by decide +kernel : ∀ t : Fin grid0.N, _)
theorem idx1 : ∀ t : Fin cfg0.N, win0_1.index t = ![t.val % 2, t.val / 2 % 2, 0] := (by decide +kernel : ∀ t : Fin grid0.N, _)
theorem idx2 : ∀ t : Fin cfg0.N, win0_2.index t = ![t.val / 4, t.val / 2 % 2] := (by decide +kernel : ∀ t : Fin grid0.N, _)
theorem lt16 (t : Fin cfg0.N) : t.val < 16 := t.isLt

theorem read_d (a : Fin 1024) (k : Fin 4096) : iblk m c 0 t (ix2 a k)
    = m ((c : Thread nD τ).loc main_arg0) (ix2 ⟨1024 * (t.val / 4) + a.val, by have := lt16 t; omega⟩ ⟨4096 * (t.val % 2) + k, by omega⟩) := by
  blk_point [iblk, V, idx0 t]

/-- The host cuts the weights into eight blocks of 1024 columns. -/
theorem V_w (q : Fin 8) (b : Fin 2048) (k : Fin 1024) : V m c main_v1 (ix3 q b k)
    = m ((c : Thread nD τ).loc main_arg1) (ix2 b ⟨1024 * q.val + k.val, by omega⟩) := by
  rw [show V m c main_v1 = StableHlo.after hostOps0 (fun b => m (c, b)) (Proc.devRef .tc main_v1) from rfl]
  simp only [hostOps0]
  entry_read
  pointwise
  simp only [Nat.mul_comm]

theorem read_w (q : Fin 4) (b k : Fin 1024) : iblk m c 1 t (ix3 q b k)
    = V m c main_v1 (ix3 ⟨4 * (t.val % 2) + q.val, by omega⟩ ⟨1024 * (t.val / 2 % 2) + b.val, by omega⟩ k) := by
  blk_point [iblk, V, idx1 t]

/-- The part of the product that one grid point computes: four blocks of 1024. -/
def part (x0 : Vec Ideal S1024x4096 .bf16) (x1 : Vec Ideal S4x1024x1024 .bf16) (a b : Fin 1024) : EReal :=
  ∑ q : Fin 4, ∑ k : Fin 1024, x0 (ix2 a ⟨1024 * q.val + k.val, by omega⟩) * x1 (ix3 q b k)

theorem scratch_A (h : t.val % 2 = 0) (a b : Fin 1024) :
    (outsAt0 m c t.val t.isLt).2 (ix2 a b) = part (iblk m c 0 t) (iblk m c 1 t) a b := by
  rw [outsAt0_A m c t h (by omega) (by omega)]; frame_out
  pointwise [k0_pay4, k0_pay3, part]
  simp [Fin.sum_univ_four]

theorem out_B (h : t.val % 2 = 1) (a b : Fin 1024) :
    (outsAt0 m c t.val t.isLt).1 (ix2 a b)
      = (outsAt0 m c (t.val - 1) (by omega)).2 (ix2 a b) + part (iblk m c 0 t) (iblk m c 1 t) a b := by
  rw [outsAt0_B m c t (by omega) h h]; frame_out
  pointwise [k0_pay1, k0_pay2, k0_pay3, part]
  simp [Fin.sum_univ_four]
  exact congrArg (· + _) (congrFun (read_unread_whole (Val := Elt Ideal) cc0_scratch0 (Memref.isWhole_whole _) _) (ix2 a b))

/-- The product of two rows over the columns of block `q`. -/
def term (d : S4096x8192.Idx → EReal) (w : S2048x8192.Idx → EReal) (i : Fin 4096) (j : Fin 2048) (q : Fin 8) : EReal :=
  ∑ k : Fin 1024, d (ix2 i ⟨1024 * q.val + k.val, by omega⟩) * w (ix2 j ⟨1024 * q.val + k.val, by omega⟩)

/-- A sum over 8192 columns, block by block. -/
theorem sum_blocks (f : Fin 8192 → EReal) : ∑ k, f k = ∑ q : Fin 8, ∑ k : Fin 1024, f ⟨1024 * q.val + k.val, by omega⟩ := by
  rw [← Fintype.sum_prod_type', ← Equiv.sum_comp (finProdFinEquiv (m := 8) (n := 1024))]
  refine Finset.sum_congr rfl fun x _ => congrArg f (Fin.ext ?_)
  exact Nat.add_comm x.2.val (1024 * x.1.val)

theorem part_at (a b : Fin 1024) : part (iblk m c 0 t) (iblk m c 1 t) a b
    = ∑ q : Fin 4, term (m ((c : Thread nD τ).loc main_arg0)) (m ((c : Thread nD τ).loc main_arg1))
        ⟨1024 * (t.val / 4) + a.val, by have := lt16 t; omega⟩ ⟨1024 * (t.val / 2 % 2) + b.val, by omega⟩ ⟨4 * (t.val % 2) + q.val, by omega⟩ := by
  unfold part term
  simp only [read_d, read_w]
  refine Finset.sum_congr rfl fun q _ => Finset.sum_congr rfl fun k _ => ?_
  refine congrArg₂ (· * ·) (congrArg _ (congrArg (ix2 _) (Fin.ext ?_))) (V_w m c _ _ _)
  show 4096 * (t.val % 2) + (1024 * q.val + k.val) = 1024 * (4 * (t.val % 2) + q.val) + k.val
  omega

/-- The gradient at row `i`, column `j`. -/
def grad (d : S4096x8192.Idx → EReal) (w : S2048x8192.Idx → EReal) (i : Fin 4096) (j : Fin 2048) : EReal :=
  ∑ k : Fin 8192, d (ix2 i k) * w (ix2 j k)

theorem grad_blocks (d : S4096x8192.Idx → EReal) (w : S2048x8192.Idx → EReal) (i : Fin 4096) (j : Fin 2048) :
    grad d w i j = (∑ q : Fin 4, term d w i j ⟨q.val, by omega⟩) + ∑ q : Fin 4, term d w i j ⟨4 + q.val, by omega⟩ := by
  unfold grad
  rw [sum_blocks]
  exact Fin.sum_univ_add (a := 4) (b := 4) (term d w i j)

/-- What a point that writes back leaves: its tile of the gradient. -/
theorem at_point (h : t.val % 2 = 1) (a b : Fin 1024) : (outsAt0 m c t.val t.isLt).1 (ix2 a b)
    = grad (m ((c : Thread nD τ).loc main_arg0)) (m ((c : Thread nD τ).loc main_arg1))
        ⟨1024 * (t.val / 4) + a.val, by have := lt16 t; omega⟩ ⟨1024 * (t.val / 2 % 2) + b.val, by omega⟩ := by
  have ht := lt16 t
  have e := scratch_A m c ⟨t.val - 1, by omega⟩ (by show (t.val - 1) % 2 = 0; omega) a b
  rw [out_B m c t h, grad_blocks, part_at]
  refine congrArg₂ (· + ·) (e.trans ((part_at m c _ a b).trans ?_)) ?_
  · refine Finset.sum_congr rfl fun q _ => ?_
    congr 1 <;> apply Fin.ext <;> simp only [] <;> omega
  · refine Finset.sum_congr rfl fun q _ => ?_
    congr 1; apply Fin.ext; simp only []; omega

/-- The array after the run. -/
def G : S4096x2048.Idx → EReal := fun i => grad (m ((c : Thread nD τ).loc main_arg0)) (m ((c : Thread nD τ).loc main_arg1)) (i 0) (i 1)

theorem G_at (h : t.val % 2 = 1) (a b : Fin 1024) (i : S4096x2048.Idx) (h0 : (i 0).val = 1024 * (t.val / 4) + a.val)
    (h1 : (i 1).val = 1024 * (t.val / 2 % 2) + b.val) : (outsAt0 m c t.val t.isLt).1 (ix2 a b) = G m c i :=
  (at_point m c t h a b).trans (congrArg₂ (grad _ _) (Fin.ext h0.symm) (Fin.ext h1.symm))

theorem eta (y : S1024x1024.Idx) : y = ix2 (y 0) (y 1) := by
  funext a; fin_cases a <;> rfl

theorem final : (dats m 0 c).arrAt 2 cfg0.N = G m c := by
  refine (dats m 0 c).arrAt_eq_of_cover 2 _ (fun t hf => ?_) (fun i => (Cert.Kernel3Ideal.Value.covered_iff2 i).2 ?_)
  · have hm : t.val % 2 = 1 := (flush0_2 t).mp hf
    rw [Cert.Kernel3Ideal.Value.flushed2]
    funext y
    refine (congrArg (outsAt0 m c t.val t.isLt).1 (eta y)).trans (G_at m c t hm _ _ _ ?_ ?_)
    · show win0_2.index t 0 * 1024 + 1 * (y 0).val = _
      rw [idx2 t]; show t.val / 4 * 1024 + 1 * (y 0).val = _; omega
    · show win0_2.index t 1 * 1024 + 1 * (y 1).val = _
      rw [idx2 t]; show t.val / 2 % 2 * 1024 + 1 * (y 1).val = _; omega
  · have h0 : (i 0).val < 4096 := (i 0).isLt
    have h1 : (i 1).val < 2048 := (i 1).isLt
    omega

end Cert.Kernel3Ideal.Mlp

namespace Cert.Reference3Ideal.Mlp

open Idealize.ShloMosaic Cert.Reference3Ideal Cert.Reference3Ideal.Gen Cert.Reference3Ideal.Read
open Idealize.ShloMosaic.TcCoe Idealize.SL.Sem

theorem res (d : S4096x8192.Idx → EReal) (w : S2048x8192.Idx → EReal) (i : Fin 4096) (j : Fin 2048) :
    val_main_v5 (F := Ideal) d w (ix2 i j) = Cert.Kernel3Ideal.Mlp.grad d w i j := by
  pointwise [val_main_v5, val_main_v4, val_main_v3, val_main_v1, val_main_v0]
  rfl

theorem frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m g m' g' _ hagree
  refine ⟨_, Cert.Kernel3Ideal.Value.run_blocks m g, ?_⟩
  refine (θ_run Cert.Reference3Ideal.defs _ _).mono (fun r h c => ?_) (Cert.Reference3Ideal.Value.run (F := Ideal) m' g')
  obtain ⟨h0, hargs⟩ := h c
  obtain ⟨a0, a1⟩ := hagree c
  refine ⟨h0.trans ?_, hargs⟩
  rw [Cert.Reference3Ideal.Read.val_main_v5_eq]
  simp only [StableHlo.launchContents_devRef, a0, a1]
  rw [Cert.Kernel3Ideal.Mlp.final]
  funext i
  refine (congrArg (val_main_v5 _ _) (show i = ix2 (i 0) (i 1) from by funext k; fin_cases k <;> rfl)).trans (res _ _ _ _)

end Cert.Reference3Ideal.Mlp

end
-- ==== Proof.Core.lean ====
/- The index of a device's core in its pair, which the gradients of the MLP's weights take as a one-word table: it is 0 or 1. Each of
   the two cores computes one half of every gradient; what the modules on these halves share is here. -/
module

public import Idealize.ShloMosaic.Lib.Pointwise
public import Idealize.ShloMosaic.Lib.Pipeline.ValueKit

@[expose] public section

namespace Cert.Core

open Idealize.ShloMosaic

/-- The word of a core. -/
def word (s : Fin 2) : BitVec 32 := BitVec.ofNat 32 s.val

/-- The other core of the pair. -/
def other (s : Fin 2) : Fin 2 := 1 - s

/-- One less a core's word is the other core's word. -/
theorem sub_word (s : Fin 2) : IntOp.subi 1#32 (word s) = word (other s) := by
  match s with
  | 0 => rfl
  | 1 => rfl

/-- A word that is 0 or 1 is the word of a core. -/
theorem of_or (w : BitVec 32) (h : IntOp.ori (IntOp.cmpi .eq w 0#32) (IntOp.cmpi .eq w 1#32) = 1#1) : ∃ s, w = word s := by
  by_cases h0 : w = 0#32
  · exact ⟨0, h0⟩
  by_cases h1 : w = 1#32
  · exact ⟨1, h1⟩
  have e : IntOp.ori (IntOp.cmpi .eq w 0#32) (IntOp.cmpi .eq w 1#32) = 0#1 := by
    simp only [IntOp.ori, IntOp.cmpi, beq_eq_false_iff_ne.2 h0, beq_eq_false_iff_ne.2 h1]; rfl
  rw [e] at h
  exact absurd h (by decide)

/-- The only index of a one-word table. -/
instance : Subsingleton (Shape.Idx ⟨1, ![1]⟩) := ⟨fun x y => funext fun a => by
  obtain rfl : a = 0 := Subsingleton.elim _ _
  exact Subsingleton.elim (α := Fin 1) _ _⟩

/-- The number of blocks along an axis, from the sizes of array and block. -/
theorem blocks {sig : RefSig} {grid : Pipeline.Grid} {W : Pipeline.Window sig grid} {x : Fin W.shape.rank} {n k q : ℕ}
    (hn : W.shape.size x = n) (hk : W.size x = k) (hq : (n + k - 1) / k = q) : W.nblk x = q := by
  unfold Pipeline.Window.nblk
  rw [hn, hk, hq]

/-- An index of a block with one layer. -/
theorem eta (y : Shape.Idx ⟨3, ![1, 1024, 1024]⟩) : y = ix3 0 (y 1) (y 2) := by
  funext x
  match x with
  | 0 => exact Subsingleton.elim (α := Fin 1) _ _
  | 1 => rfl
  | 2 => rfl

end Cert.Core
-- ==== Proof.Mat.lean ====
/- Products of two matrices over the extended reals, in the three forms that the training step uses, and how a block of a product is
   read from blocks of its factors. -/
module

public import Idealize.ShloMosaic.Lib.Pipeline.ValueKit
public import Idealize.ShloMosaic.Lib.Claim

@[expose] public section

noncomputable section

namespace Cert.Mat

open Idealize.ShloMosaic

/-- An array of two axes. -/
abbrev Mat (a b : ℕ) : Type := (⟨2, ![a, b]⟩ : Shape).Idx → EReal

/-- Rows of `x` against columns of `y`. -/
def nn {a k b : ℕ} (x : Mat a k) (y : Mat k b) (i : Fin a) (j : Fin b) : EReal := ∑ l : Fin k, x (ix2 i l) * y (ix2 l j)

/-- Rows of `x` against rows of `y`. -/
def nt {a k b : ℕ} (x : Mat a k) (y : Mat b k) (i : Fin a) (j : Fin b) : EReal := ∑ l : Fin k, x (ix2 i l) * y (ix2 j l)

/-- Columns of `x` against columns of `y`. -/
def tn {a k b : ℕ} (x : Mat k a) (y : Mat k b) (i : Fin a) (j : Fin b) : EReal := ∑ l : Fin k, x (ix2 l i) * y (ix2 l j)

/-- An array given by its entries. -/
def of {a b : ℕ} (f : Fin a → Fin b → EReal) : Mat a b := fun i => f (i 0) (i 1)

theorem eta {a b : ℕ} (y : (⟨2, ![a, b]⟩ : Shape).Idx) : y = ix2 (y 0) (y 1) := by
  funext k; fin_cases k <;> rfl

theorem ext {a b : ℕ} {x : Mat a b} {f : Fin a → Fin b → EReal} (h : ∀ i j, x (ix2 i j) = f i j) : x = of f := by
  funext i
  exact (congrArg x (eta i)).trans (h _ _)

end Cert.Mat

end
-- ==== Proof.MlpDownDwOwn.lean ====
/- A core's own half of the gradient of the MLP's second weights: each of the kernel's four blocks is the product, over all 4096
   tokens, of 1024 columns of the activation with 1024 columns of the incoming gradient, and the sibling's part is added to it. Which
   1024 columns of a pair of blocks are taken, a one-word table says: the index of the core. Both results hold the same. -/
module

public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Core
public import proofs.«01_k».proof.Proof.Mat
public import proofs.«01_k».proof.Defs
public import Idealize.ShloMosaic.Lib.Pipeline.ValueKit

@[expose] public section

set_option maxRecDepth 16384

noncomputable section

namespace Cert.Kernel12.Half

open Idealize.ShloMosaic Cert.Kernel12 Cert.Kernel12.Gen
open Idealize.ShloMosaic.TcCoe Idealize.SL.Sem

set_option backward.proofsInPublic true in
/-- The table that holds the word of core `s`. -/
def table (s : Fin 2) : pre0.Contents (Elt Bits) := fun | ⟨0, _⟩ => fun _ => Core.word s | ⟨_ + 1, h⟩ => absurd h (by simp)

/-- At the word of a core the blocks of the first operand are inside it. -/
theorem ok_table : ∀ s : Fin 2, ok0 (table s) := by decide +kernel

end Cert.Kernel12.Half

namespace Cert.Kernel12Ideal.Half

open Idealize.ShloMosaic Cert.Kernel12Ideal Cert.Kernel12Ideal.Gen
open Idealize.ShloMosaic.TcCoe Idealize.SL.Sem

variable (m : (ℓ : Loc nD τ sig) → Buf (Elt Ideal) ℓ)

set_option backward.proofsInPublic true in
/-- The table that holds the word of core `s`. -/
def table (s : Fin 2) : pre0.Contents (Elt Ideal) := fun | ⟨0, _⟩ => fun _ => Core.word s | ⟨_ + 1, h⟩ => absurd h (by simp)

/-- At the word of a core the blocks of the first operand are inside it. -/
theorem ok_table : ∀ s : Fin 2, ok0 (table s) := by decide +kernel

theorem idx0 (a : (pcfg0 (F := Ideal)).Adm) (s : Fin 2) (h : a.1 = table s) (t : Fin (cfg0 a).N) :
    ((cfg0 a).win 0).index t = ![0, 2 * (t.val / 2) + s.val] := by
  obtain ⟨a, ha⟩ := a
  obtain rfl : a = _ := h
  exact (by decide +kernel : ∀ s : Fin 2, ∀ t : Fin grid0.N,
    cc0_transform_0 inb_S1_S1_0 numel1_S1 (table s) (grid0.coords t) = ![0, 2 * (t.val / 2) + s.val]) s t

theorem idx1 (a : (pcfg0 (F := Ideal)).Adm) : ∀ t : Fin (cfg0 a).N, ((cfg0 a).win 1).index t = ![0, t.val % 2] :=
  (by decide +kernel : ∀ t : Fin grid0.N, cc0_transform_1 (grid0.coords t) = ![0, t.val % 2])

theorem idx2 (a : (pcfg0 (F := Ideal)).Adm) : ∀ t : Fin (cfg0 a).N, ((cfg0 a).win 2).index t = ![t.val / 2, 0, t.val % 2] :=
  (by decide +kernel : ∀ t : Fin grid0.N, cc0_transform_2 (grid0.coords t) = ![t.val / 2, 0, t.val % 2])

theorem idx3 (a : (pcfg0 (F := Ideal)).Adm) : ∀ t : Fin (cfg0 a).N, ((cfg0 a).win 3).index t = ![t.val / 2, 0, t.val % 2] :=
  (by decide +kernel : ∀ t : Fin grid0.N, cc0_transform_3 (grid0.coords t) = ![t.val / 2, 0, t.val % 2])

theorem idx4 (a : (pcfg0 (F := Ideal)).Adm) : ∀ t : Fin (cfg0 a).N, ((cfg0 a).win 4).index t = ![t.val / 2, 0, t.val % 2] :=
  (by decide +kernel : ∀ t : Fin grid0.N, cc0_transform_4 (grid0.coords t) = ![t.val / 2, 0, t.val % 2])

variable (hO : Ok m) (c : Dev nD) (t : Fin (cfgM m hO).N)

theorem read_x (s : Fin 2) (h : tbl m = table s) (k : Fin 4096) (a : Fin 1024) (i : Fin 8192) (hi : i.val = 1024 * (2 * (t.val / 2) + s.val) + a.val) :
    iblk m hO c 0 t (ix2 k a) = m ((c : Thread nD τ).loc main_arg0) (ix2 k i) := by
  obtain ⟨i, hi'⟩ := i
  obtain rfl : i = _ := hi
  blk_point [iblk, V, idx0 (adm m hO) s h t]

theorem read_d (k : Fin 4096) (b : Fin 1024) (j : Fin 2048) (hj : j.val = 1024 * (t.val % 2) + b.val) :
    iblk m hO c 1 t (ix2 k b) = m ((c : Thread nD τ).loc main_arg1) (ix2 k j) := by
  obtain ⟨j, hj'⟩ := j
  obtain rfl : j = _ := hj
  blk_point [iblk, V, idx1 (adm m hO) t]

theorem read_f (a b : Fin 1024) (q : Fin 4) (hq : q.val = t.val / 2) (j : Fin 2048) (hj : j.val = 1024 * (t.val % 2) + b.val) :
    iblk m hO c 2 t (ix3 0 a b) = m ((c : Thread nD τ).loc main_arg2) (ix3 q a j) := by
  obtain ⟨j, hj'⟩ := j
  obtain rfl : j = _ := hj
  obtain ⟨q, hq'⟩ := q
  obtain rfl : q = _ := hq
  blk_point [iblk, V, idx2 (adm m hO) t]

/-- What the body writes, at an index of its block. -/
theorem tile (i : grid0.Coords) (r0 : Memref sig .tc .vmem S4096x1024 .bf16) (h0 : r0.IsWhole) (r1 : Memref sig .tc .vmem S4096x1024 .bf16) (h1 : r1.IsWhole)
    (r2 : Memref sig .tc .vmem S1x1024x1024 .bf16) (h2 : r2.IsWhole) (r3 : Memref sig .tc .vmem S1x1024x1024 .bf16) (h3 : r3.IsWhole)
    (r4 : Memref sig .tc .vmem S1x1024x1024 .bf16) (h4 : r4.IsWhole) (x0 x1 : Vec Ideal S4096x1024 .bf16) (x2 : Vec Ideal S1x1024x1024 .bf16)
    (xt : TbBuf0 (F := Ideal) c tbM0_0) (a b : Fin 1024) :
    out0_A_3 c i r0 h0 r1 h1 r2 h2 r3 h3 r4 h4 x0 x1 x2 xt (ix3 0 a b) = Mat.tn (x0 : _ → EReal) x1 a b + (x2 : _ → EReal) (ix3 0 a b) := by
  unfold out0_A_3
  frame_out
  pointwise [k0_pay2, k0_pay1]
  rfl

/-- What a point leaves, at an index of its block. -/
theorem at_val (a b : Fin 1024) : (outsAt0 m hO c t).1 (ix3 0 a b)
    = (fun p q : EReal => p + q) (Mat.tn (iblk m hO c 0 t) (iblk m hO c 1 t) a b) (iblk m hO c 2 t (ix3 0 a b)) := by
  have h := tile c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (iblk m hO c 0 t) (iblk m hO c 1 t) (iblk m hO c 2 t) (tbl m 0) a b
  refine Eq.trans ?_ h
  unfold outsAt0
  dsimp only

/-- Both results of a point hold the same. -/
theorem same : (outsAt0 m hO c t).2 = (outsAt0 m hO c t).1 := by
  unfold outsAt0 out0_A_3 out0_A_4
  dsimp only
  frame_out
  rfl

/-- The half of the gradient of core `s`, and the sibling's part of it. -/
def half (s : Fin 2) (r : Mat.Mat 4096 8192) (d : Mat.Mat 4096 2048) (f : S4x1024x2048.Idx → EReal) : S4x1024x2048.Idx → EReal := fun i =>
  Mat.tn r d ⟨1024 * (2 * (i 0).val + s.val) + (i 1).val, by have h0 : (i 0).val < 4 := (i 0).isLt; have h1 : (i 1).val < 1024 := (i 1).isLt; omega⟩ (i 2) + f i

theorem at_point (s : Fin 2) (h : tbl m = table s) (a b : Fin 1024) (i : S4x1024x2048.Idx) (h0 : (i 0).val = t.val / 2) (h1 : (i 1).val = a.val)
    (h2 : (i 2).val = 1024 * (t.val % 2) + b.val) : (outsAt0 m hO c t).1 (ix3 0 a b)
      = half s (m ((c : Thread nD τ).loc main_arg0)) (m ((c : Thread nD τ).loc main_arg1)) (m ((c : Thread nD τ).loc main_arg2)) i := by
  refine (at_val m hO c t a b).trans ?_
  refine congrArg₂ (fun p q : EReal => p + q) (Finset.sum_congr rfl fun k _ => congrArg₂ (fun p q : EReal => p * q)
    (read_x m hO c t s h k a _ (by show 1024 * (2 * (i 0).val + s.val) + (i 1).val = _; rw [h0, h1])) (read_d m hO c t k b _ h2)) ?_
  refine (read_f m hO c t a b (i 0) h0 (i 2) h2).trans (congrArg (m ((c : Thread nD τ).loc main_arg2)) ?_)
  funext x
  match x with
  | 0 => rfl
  | 1 => exact Fin.ext h1.symm
  | 2 => rfl

/-- The point whose block of an output is `β`. -/
theorem onto (β : Fin 3 → ℕ) (h0 : β 0 < 4) (h1 : β 1 < 1) (h2 : β 2 < 2) (x : Fin 3) :
    (![(2 * β 0 + β 2) / 2, 0, (2 * β 0 + β 2) % 2] : Fin 3 → ℕ) x = β x := by
  match x with
  | 0 => show (2 * β 0 + β 2) / 2 = _; omega
  | 1 => show 0 = _; omega
  | 2 => show (2 * β 0 + β 2) % 2 = _; omega

theorem covers3 (a : (pcfg0 (F := Ideal)).Adm) : ((cfg0 a).win 3).Covers :=
  ⟨(by decide : ∀ x : Fin 3, 0 < S1x1024x1024.size x), fun β => by
    have h0 : (β (0 : Fin 3)).val < 4 := (β (0 : Fin 3)).isLt.trans_eq (Core.blocks (W := (cfg0 a).win 3) (x := (0 : Fin 3)) (n := 4) (k := 1) rfl rfl rfl)
    have h1 : (β (1 : Fin 3)).val < 1 := (β (1 : Fin 3)).isLt.trans_eq (Core.blocks (W := (cfg0 a).win 3) (x := (1 : Fin 3)) (n := 1024) (k := 1024) rfl rfl rfl)
    have h2 : (β (2 : Fin 3)).val < 2 := (β (2 : Fin 3)).isLt.trans_eq (Core.blocks (W := (cfg0 a).win 3) (x := (2 : Fin 3)) (n := 2048) (k := 1024) rfl rfl rfl)
    exact ⟨⟨2 * (β (0 : Fin 3)).val + (β (2 : Fin 3)).val, by show _ < 8; omega⟩, flush0_3 a _, fun x =>
      ⟨(congrFun (idx3 a _) x).trans (onto (fun x => (β x).val) h0 h1 h2 x), Or.inl rfl⟩⟩⟩

theorem covers4 (a : (pcfg0 (F := Ideal)).Adm) : ((cfg0 a).win 4).Covers :=
  ⟨(by decide : ∀ x : Fin 3, 0 < S1x1024x1024.size x), fun β => by
    have h0 : (β (0 : Fin 3)).val < 4 := (β (0 : Fin 3)).isLt.trans_eq (Core.blocks (W := (cfg0 a).win 4) (x := (0 : Fin 3)) (n := 4) (k := 1) rfl rfl rfl)
    have h1 : (β (1 : Fin 3)).val < 1 := (β (1 : Fin 3)).isLt.trans_eq (Core.blocks (W := (cfg0 a).win 4) (x := (1 : Fin 3)) (n := 1024) (k := 1024) rfl rfl rfl)
    have h2 : (β (2 : Fin 3)).val < 2 := (β (2 : Fin 3)).isLt.trans_eq (Core.blocks (W := (cfg0 a).win 4) (x := (2 : Fin 3)) (n := 2048) (k := 1024) rfl rfl rfl)
    exact ⟨⟨2 * (β (0 : Fin 3)).val + (β (2 : Fin 3)).val, by show _ < 8; omega⟩, flush0_4 a _, fun x =>
      ⟨(congrFun (idx4 a _) x).trans (onto (fun x => (β x).val) h0 h1 h2 x), Or.inl rfl⟩⟩⟩

/-- What a point leaves at an index of its block, given where the block lies. -/
theorem at_block (s : Fin 2) (h : tbl m = table s) (y : S1x1024x1024.Idx) (i : S4x1024x2048.Idx) (idx : Fin 3 → ℕ)
    (hidx : idx = ![t.val / 2, 0, t.val % 2]) (hi : ∀ x : Fin 3, (i x).val = idx x * S1x1024x1024.size x + 1 * (y x).val) :
    (outsAt0 m hO c t).1 y
      = half s (m ((c : Thread nD τ).loc main_arg0)) (m ((c : Thread nD τ).loc main_arg1)) (m ((c : Thread nD τ).loc main_arg2)) i := by
  subst hidx
  have y0 : (y 0).val < 1 := (y 0).isLt
  refine (congrArg (outsAt0 m hO c t).1 (Core.eta y)).trans (at_point m hO c t s h _ _ _ ((hi 0).trans ?_) ((hi 1).trans ?_) ((hi 2).trans ?_))
  · show t.val / 2 * 1 + 1 * (y 0).val = _; omega
  · show 0 * 1024 + 1 * (y 1).val = _; omega
  · show t.val % 2 * 1024 + 1 * (y 2).val = _; omega

theorem final3 (s : Fin 2) (h : tbl m = table s) : (dats m hO 0 c).arrAt 3 (cfgM m hO).N
    = half s (m ((c : Thread nD τ).loc main_arg0)) (m ((c : Thread nD τ).loc main_arg1)) (m ((c : Thread nD τ).loc main_arg2)) := by
  refine (dats m hO 0 c).arrAt_eq_of_covers 3 _ (covers3 _) fun t _ y => ?_
  blk_simp
  rw [after0_3]
  exact at_block m hO c t s h y _ _ (idx3 (adm m hO) t) fun x => rfl

theorem final4 (s : Fin 2) (h : tbl m = table s) : (dats m hO 0 c).arrAt 4 (cfgM m hO).N
    = half s (m ((c : Thread nD τ).loc main_arg0)) (m ((c : Thread nD τ).loc main_arg1)) (m ((c : Thread nD τ).loc main_arg2)) := by
  refine (dats m hO 0 c).arrAt_eq_of_covers 4 _ (covers4 _) fun t _ y => ?_
  blk_simp
  rw [after0_4, same]
  exact at_block m hO c t s h y _ _ (idx4 (adm m hO) t) fun x => rfl

end Cert.Kernel12Ideal.Half

namespace Cert.Reference12Ideal.Half

open Idealize.ShloMosaic Cert.Reference12Ideal Cert.Reference12Ideal.Gen Cert.Reference12Ideal.Read
open Idealize.ShloMosaic.TcCoe Idealize.SL.Sem

theorem dw (r : S4096x8192.Idx → EReal) (d : S4096x2048.Idx → EReal) (q : Fin 4) (s : Fin 2) (a : Fin 1024) (b : Fin 2048) (j : Fin 8192)
    (hj : j.val = 1024 * (2 * q.val + s.val) + a.val) : val_main_v6 (F := Ideal) r d (ix4 q s a b) = Mat.tn r d j b := by
  obtain ⟨j, hj'⟩ := j
  obtain rfl : j = _ := hj
  pointwise [val_main_v6, val_main_v5, val_main_v4, val_main_v1, val_main_v0]
  refine Finset.sum_congr rfl fun k _ => (congrArg₂ (fun p q : EReal => p * q) rfl (congrArg (fun j => r (ix2 k j)) (Fin.ext ?_))).trans (mul_comm _ _)
  show q.val * 2048 + s.val * 1024 + a.val = 1024 * (2 * q.val + s.val) + a.val
  omega

theorem res (s : Fin 2) (r : S4096x8192.Idx → EReal) (d : S4096x2048.Idx → EReal) (f : S4x1024x2048.Idx → EReal) :
    val_main_v16 (F := Ideal) r d f (fun _ => Core.word s) = Cert.Kernel12Ideal.Half.half s r d f := by
  funext i
  pointwise [val_main_v16, val_main_v15, val_main_v14, val_main_v13, val_main_v12, val_main_v11, val_main_v10, val_main_v9, val_main_v8, val_main_v7, val_main_c]
  refine congrArg (fun p : EReal => p + f i) ?_
  match s with
  | 0 => exact dw r d (i 0) 0 (i 1) (i 2) _ rfl
  | 1 => exact dw r d (i 0) 1 (i 1) (i 2) _ rfl

theorem frame : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

instance facts : Cert.Pre_on_core2_own.Facts := by
  constructor <;> decide

/-- The precondition says that the table holds the word of a core. -/
theorem core {F : FTy → Type} [FloatOps F] (x0 : FVec F S4096x8192 .bf16) (x1 : FVec F S4096x2048 .bf16) (x2 : FVec F S4x1024x2048 .bf16) (w : IVec S1 32)
    (h : Cert.Pre_on_core2_own.fn x0 x1 x2 w = fun _ => 1#1) : ∃ s, w = fun _ => Core.word s := by
  obtain ⟨s, hs⟩ := Core.of_or _ (congrFun h ix0)
  exact ⟨s, funext fun i => (congrArg w (Subsingleton.elim _ _)).trans hs⟩

theorem frame_kernel : Cert.quiescent_Kernel12 := fun m ρ h => by
  obtain ⟨s, hs⟩ := core _ _ _ _ (h 0)
  have e : Cert.Kernel12.Gen.tbl m = Cert.Kernel12.Half.table s := by
    funext j
    match j with
    | ⟨0, _⟩ => exact hs
  exact Cert.Kernel12.Gen.frame m ρ (by unfold Cert.Kernel12.Gen.Ok; rw [e]; exact Cert.Kernel12.Half.ok_table s)

theorem table_of (m : (ℓ : Loc Cert.Kernel12Ideal.nD Cert.Kernel12Ideal.τ Cert.Kernel12Ideal.sig) → Buf (Elt Ideal) ℓ) (h : Cert.Pre_Kernel12Ideal m) :
    ∃ s, Cert.Kernel12Ideal.Gen.tbl m = Cert.Kernel12Ideal.Half.table s
      ∧ m (((0 : Dev Cert.Kernel12Ideal.nD) : Thread Cert.Kernel12Ideal.nD Cert.Kernel12Ideal.τ).loc Cert.Kernel12Ideal.main_arg3) = fun _ => Core.word s := by
  obtain ⟨s, hs⟩ := core _ _ _ _ (h 0)
  refine ⟨s, ?_, hs⟩
  funext j
  match j with
  | ⟨0, _⟩ => exact hs

theorem ok_of (m : (ℓ : Loc Cert.Kernel12Ideal.nD Cert.Kernel12Ideal.τ Cert.Kernel12Ideal.sig) → Buf (Elt Ideal) ℓ) (s : Fin 2)
    (e : Cert.Kernel12Ideal.Gen.tbl m = Cert.Kernel12Ideal.Half.table s) : Cert.Kernel12Ideal.Gen.Ok m := by
  unfold Cert.Kernel12Ideal.Gen.Ok
  rw [e]
  exact Cert.Kernel12Ideal.Half.ok_table s

theorem frame_ideal : Cert.quiescent_Kernel12Ideal := fun m ρ h => by
  obtain ⟨s, e, _⟩ := table_of m h
  exact Cert.Kernel12Ideal.Gen.frame m ρ (ok_of m s e)

theorem algebraic : Cert.algebraic_Kernel12Ideal_Reference12Ideal := by
  intro m g m' g' h hagree
  obtain ⟨s, e, hw⟩ := table_of m h
  have hO := ok_of m s e
  refine ⟨fun c => Cert.Kernel12Ideal.Half.half s (m (c.tc.loc Cert.Kernel12Ideal.main_arg0)) (m (c.tc.loc Cert.Kernel12Ideal.main_arg1)) (m (c.tc.loc Cert.Kernel12Ideal.main_arg2)),
    fun c => Cert.Kernel12Ideal.Half.half s (m (c.tc.loc Cert.Kernel12Ideal.main_arg0)) (m (c.tc.loc Cert.Kernel12Ideal.main_arg1)) (m (c.tc.loc Cert.Kernel12Ideal.main_arg2)), ?_, ?_⟩
  · refine (θ_run Cert.Kernel12Ideal.defs _ _).mono (fun r h c => ?_)
      (θ_run_and (Cert.Kernel12Ideal.Gen.run_main m g hO) (Cert.Kernel12Ideal.Gen.frame m g hO))
    exact ⟨((h.1 c).1 3).trans (Cert.Kernel12Ideal.Half.final3 m hO c s e), ((h.1 c).1 4).trans (Cert.Kernel12Ideal.Half.final4 m hO c s e), h.2.1 c⟩
  · refine (θ_run Cert.Reference12Ideal.defs _ _).mono (fun r h c => ?_) (Cert.Reference12Ideal.Value.run (F := Ideal) m' g')
    obtain ⟨h0, h1, hargs⟩ := h c
    obtain ⟨a0, a1, a2, a3⟩ := hagree c
    obtain rfl : c = 0 := Subsingleton.elim _ _
    have key := (Cert.Reference12Ideal.Read.val_main_v16_eq (F := Ideal) _ _ _ _).trans
      ((congr (congr (congr (congrArg (val_main_v16 (F := Ideal)) a0) a1) a2) (a3.trans hw)).trans (res s _ _ _))
    exact ⟨h0.trans key, h1.trans key, hargs⟩

end Cert.Reference12Ideal.Half

end
-- ==== Proof.MlpDownDwSib.lean ====
/- The sibling's half of the gradient of the MLP's second weights: as a core's own half, with the columns of the other core, and with
   nothing added. The host takes the core's index from one. -/
module

public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Core
public import proofs.«01_k».proof.Proof.Mat
public import proofs.«01_k».proof.Defs
public import Idealize.ShloMosaic.Lib.Pipeline.ValueKit

@[expose] public section

set_option maxRecDepth 16384

noncomputable section

namespace Cert.Kernel13.Half

open Idealize.ShloMosaic Cert.Kernel13 Cert.Kernel13.Gen
open Idealize.ShloMosaic.TcCoe Idealize.SL.Sem

set_option backward.proofsInPublic true in
/-- The table that holds the word of core `s`. -/
def table (s : Fin 2) : pre0.Contents (Elt Bits) := fun | ⟨0, _⟩ => fun _ => Core.word s | ⟨_ + 1, h⟩ => absurd h (by simp)

/-- At the word of a core the blocks of the first operand are inside it. -/
theorem ok_table : ∀ s : Fin 2, ok0 (table s) := by decide +kernel

variable (m : (ℓ : Loc nD τ sig) → Buf (Elt Bits) ℓ)

/-- The host takes the core's word from one: the table holds the word of the other core. -/
theorem table_of (s : Fin 2) (h : m (((0 : Dev nD) : Thread nD τ).loc main_arg2) = fun _ => Core.word s) : tbl m = table (Core.other s) := by
  funext j
  match j with
  | ⟨0, _⟩ =>
    funext i
    refine Eq.trans ?_ (Core.sub_word s)
    show V m 0 main_v1 i = _
    rw [show V m 0 main_v1 = StableHlo.after hostOps0 (fun b => m (0, b)) (Proc.devRef .tc main_v1) from rfl]
    simp only [hostOps0]
    entry_read
    exact congrArg (IntOp.subi 1#32) (congrFun h _)

end Cert.Kernel13.Half

namespace Cert.Kernel13Ideal.Half

open Idealize.ShloMosaic Cert.Kernel13Ideal Cert.Kernel13Ideal.Gen
open Idealize.ShloMosaic.TcCoe Idealize.SL.Sem

variable (m : (ℓ : Loc nD τ sig) → Buf (Elt Ideal) ℓ)

set_option backward.proofsInPublic true in
/-- The table that holds the word of core `s`. -/
def table (s : Fin 2) : pre0.Contents (Elt Ideal) := fun | ⟨0, _⟩ => fun _ => Core.word s | ⟨_ + 1, h⟩ => absurd h (by simp)

/-- At the word of a core the blocks of the first operand are inside it. -/
theorem ok_table : ∀ s : Fin 2, ok0 (table s) := by decide +kernel

theorem idx0 (a : (pcfg0 (F := Ideal)).Adm) (s : Fin 2) (h : a.1 = table s) (t : Fin (cfg0 a).N) :
    ((cfg0 a).win 0).index t = ![0, 2 * (t.val / 2) + s.val] := by
  obtain ⟨a, ha⟩ := a
  obtain rfl : a = _ := h
  exact (by decide +kernel : ∀ s : Fin 2, ∀ t : Fin grid0.N,
    cc0_transform_0 inb_S1_S1_0 numel1_S1 (table s) (grid0.coords t) = ![0, 2 * (t.val / 2) + s.val]) s t

theorem idx1 (a : (pcfg0 (F := Ideal)).Adm) : ∀ t : Fin (cfg0 a).N, ((cfg0 a).win 1).index t = ![0, t.val % 2] :=
  (by decide +kernel : ∀ t : Fin grid0.N, cc0_transform_1 (grid0.coords t) = ![0, t.val % 2])

theorem idx2 (a : (pcfg0 (F := Ideal)).Adm) : ∀ t : Fin (cfg0 a).N, ((cfg0 a).win 2).index t = ![t.val / 2, 0, t.val % 2] :=
  (by decide +kernel : ∀ t : Fin grid0.N, cc0_transform_2 (grid0.coords t) = ![t.val / 2, 0, t.val % 2])

/-- The host takes the core's word from one: the table holds the word of the other core. -/
theorem table_of (s : Fin 2) (h : m (((0 : Dev nD) : Thread nD τ).loc main_arg2) = fun _ => Core.word s) : tbl m = table (Core.other s) := by
  funext j
  match j with
  | ⟨0, _⟩ =>
    funext i
    refine Eq.trans ?_ (Core.sub_word s)
    show V m 0 main_v1 i = _
    rw [show V m 0 main_v1 = StableHlo.after hostOps0 (fun b => m (0, b)) (Proc.devRef .tc main_v1) from rfl]
    simp only [hostOps0]
    entry_read
    exact congrArg (IntOp.subi 1#32) (congrFun h _)

variable (hO : Ok m) (c : Dev nD) (t : Fin (cfgM m hO).N)

theorem read_x (s : Fin 2) (h : tbl m = table s) (k : Fin 4096) (a : Fin 1024) (i : Fin 8192) (hi : i.val = 1024 * (2 * (t.val / 2) + s.val) + a.val) :
    iblk m hO c 0 t (ix2 k a) = m ((c : Thread nD τ).loc main_arg0) (ix2 k i) := by
  obtain ⟨i, hi'⟩ := i
  obtain rfl : i = _ := hi
  blk_point [iblk, V, idx0 (adm m hO) s h t]

theorem read_d (k : Fin 4096) (b : Fin 1024) (j : Fin 2048) (hj : j.val = 1024 * (t.val % 2) + b.val) :
    iblk m hO c 1 t (ix2 k b) = m ((c : Thread nD τ).loc main_arg1) (ix2 k j) := by
  obtain ⟨j, hj'⟩ := j
  obtain rfl : j = _ := hj
  blk_point [iblk, V, idx1 (adm m hO) t]

/-- What the body writes, at an index of its block. -/
theorem tile (i : grid0.Coords) (r0 : Memref sig .tc .vmem S4096x1024 .bf16) (h0 : r0.IsWhole) (r1 : Memref sig .tc .vmem S4096x1024 .bf16) (h1 : r1.IsWhole)
    (r2 : Memref sig .tc .vmem S1x1024x1024 .bf16) (h2 : r2.IsWhole) (x0 x1 : Vec Ideal S4096x1024 .bf16)
    (xt : TbBuf0 (F := Ideal) c tbM0_0) (a b : Fin 1024) : out0_A_2 c i r0 h0 r1 h1 r2 h2 x0 x1 xt (ix3 0 a b) = Mat.tn (x0 : _ → EReal) x1 a b := by
  unfold out0_A_2
  frame_out
  pointwise [k0_pay1]
  rfl

/-- What a point leaves, at an index of its block. -/
theorem at_val (a b : Fin 1024) : outsAt0 m hO c t (ix3 0 a b) = Mat.tn (iblk m hO c 0 t) (iblk m hO c 1 t) a b := by
  have h := tile c (grid0.coords t) (ms0_0 m hO t) (hs0_0 m hO t) (ms0_1 m hO t) (hs0_1 m hO t) (ms0_2 m hO t) (hs0_2 m hO t)
    (iblk m hO c 0 t) (iblk m hO c 1 t) (tbl m 0) a b
  refine Eq.trans ?_ h
  unfold outsAt0
  rfl

/-- The half of the gradient of core `s`. -/
def half (s : Fin 2) (r : Mat.Mat 4096 8192) (d : Mat.Mat 4096 2048) : S4x1024x2048.Idx → EReal := fun i =>
  Mat.tn r d ⟨1024 * (2 * (i 0).val + s.val) + (i 1).val, by have h0 : (i 0).val < 4 := (i 0).isLt; have h1 : (i 1).val < 1024 := (i 1).isLt; omega⟩ (i 2)

theorem at_point (s : Fin 2) (h : tbl m = table s) (a b : Fin 1024) (i : S4x1024x2048.Idx) (h0 : (i 0).val = t.val / 2) (h1 : (i 1).val = a.val)
    (h2 : (i 2).val = 1024 * (t.val % 2) + b.val) : outsAt0 m hO c t (ix3 0 a b)
      = half s (m ((c : Thread nD τ).loc main_arg0)) (m ((c : Thread nD τ).loc main_arg1)) i := by
  refine (at_val m hO c t a b).trans ?_
  exact Finset.sum_congr rfl fun k _ => congrArg₂ (fun p q : EReal => p * q)
    (read_x m hO c t s h k a _ (by show 1024 * (2 * (i 0).val + s.val) + (i 1).val = _; rw [h0, h1])) (read_d m hO c t k b _ h2)

/-- The point whose block of an output is `β`. -/
theorem onto (β : Fin 3 → ℕ) (h0 : β 0 < 4) (h1 : β 1 < 1) (h2 : β 2 < 2) (x : Fin 3) :
    (![(2 * β 0 + β 2) / 2, 0, (2 * β 0 + β 2) % 2] : Fin 3 → ℕ) x = β x := by
  match x with
  | 0 => show (2 * β 0 + β 2) / 2 = _; omega
  | 1 => show 0 = _; omega
  | 2 => show (2 * β 0 + β 2) % 2 = _; omega

theorem covers2 (a : (pcfg0 (F := Ideal)).Adm) : ((cfg0 a).win 2).Covers :=
  ⟨(by decide : ∀ x : Fin 3, 0 < S1x1024x1024.size x), fun β => by
    have h0 : (β (0 : Fin 3)).val < 4 := (β (0 : Fin 3)).isLt.trans_eq (Core.blocks (W := (cfg0 a).win 2) (x := (0 : Fin 3)) (n := 4) (k := 1) rfl rfl rfl)
    have h1 : (β (1 : Fin 3)).val < 1 := (β (1 : Fin 3)).isLt.trans_eq (Core.blocks (W := (cfg0 a).win 2) (x := (1 : Fin 3)) (n := 1024) (k := 1024) rfl rfl rfl)
    have h2 : (β (2 : Fin 3)).val < 2 := (β (2 : Fin 3)).isLt.trans_eq (Core.blocks (W := (cfg0 a).win 2) (x := (2 : Fin 3)) (n := 2048) (k := 1024) rfl rfl rfl)
    exact ⟨⟨2 * (β (0 : Fin 3)).val + (β (2 : Fin 3)).val, by show _ < 8; omega⟩, flush0_2 a _, fun x =>
      ⟨(congrFun (idx2 a _) x).trans (onto (fun x => (β x).val) h0 h1 h2 x), Or.inl rfl⟩⟩⟩

/-- What a point leaves at an index of its block, given where the block lies. -/
theorem at_block (s : Fin 2) (h : tbl m = table s) (y : S1x1024x1024.Idx) (i : S4x1024x2048.Idx) (idx : Fin 3 → ℕ)
    (hidx : idx = ![t.val / 2, 0, t.val % 2]) (hi : ∀ x : Fin 3, (i x).val = idx x * S1x1024x1024.size x + 1 * (y x).val) :
    outsAt0 m hO c t y
      = half s (m ((c : Thread nD τ).loc main_arg0)) (m ((c : Thread nD τ).loc main_arg1)) i := by
  subst hidx
  have y0 : (y 0).val < 1 := (y 0).isLt
  refine (congrArg (outsAt0 m hO c t) (Core.eta y)).trans (at_point m hO c t s h _ _ _ ((hi 0).trans ?_) ((hi 1).trans ?_) ((hi 2).trans ?_))
  · show t.val / 2 * 1 + 1 * (y 0).val = _; omega
  · show 0 * 1024 + 1 * (y 1).val = _; omega
  · show t.val % 2 * 1024 + 1 * (y 2).val = _; omega

theorem final2 (s : Fin 2) (h : tbl m = table s) : (dats m hO 0 c).arrAt 2 (cfgM m hO).N
    = half s (m ((c : Thread nD τ).loc main_arg0)) (m ((c : Thread nD τ).loc main_arg1)) := by
  refine (dats m hO 0 c).arrAt_eq_of_covers 2 _ (covers2 _) fun t _ y => ?_
  blk_simp
  rw [after0_2]
  exact at_block m hO c t s h y _ _ (idx2 (adm m hO) t) fun x => rfl

end Cert.Kernel13Ideal.Half

namespace Cert.Reference13Ideal.Half

open Idealize.ShloMosaic Cert.Reference13Ideal Cert.Reference13Ideal.Gen Cert.Reference13Ideal.Read
open Idealize.ShloMosaic.TcCoe Idealize.SL.Sem

theorem dw (r : S4096x8192.Idx → EReal) (d : S4096x2048.Idx → EReal) (q : Fin 4) (s : Fin 2) (a : Fin 1024) (b : Fin 2048) (j : Fin 8192)
    (hj : j.val = 1024 * (2 * q.val + s.val) + a.val) : val_main_v6 (F := Ideal) r d (ix4 q s a b) = Mat.tn r d j b := by
  obtain ⟨j, hj'⟩ := j
  obtain rfl : j = _ := hj
  pointwise [val_main_v6, val_main_v5, val_main_v4, val_main_v1, val_main_v0]
  refine Finset.sum_congr rfl fun k _ => (congrArg₂ (fun p q : EReal => p * q) rfl (congrArg (fun j => r (ix2 k j)) (Fin.ext ?_))).trans (mul_comm _ _)
  show q.val * 2048 + s.val * 1024 + a.val = 1024 * (2 * q.val + s.val) + a.val
  omega

theorem res (s : Fin 2) (r : S4096x8192.Idx → EReal) (d : S4096x2048.Idx → EReal) :
    val_main_v14 (F := Ideal) r d (fun _ => Core.word s) = Cert.Kernel13Ideal.Half.half (Core.other s) r d := by
  funext i
  pointwise [val_main_v14, val_main_v13, val_main_v12, val_main_v11, val_main_v10, val_main_v9, val_main_v8, val_main_v7, val_main_c]
  match s with
  | 0 => exact dw r d (i 0) 1 (i 1) (i 2) _ rfl
  | 1 => exact dw r d (i 0) 0 (i 1) (i 2) _ rfl

theorem frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

instance facts : Cert.Pre_on_core2_sib.Facts := by
  constructor <;> decide

/-- The precondition says that the argument holds the word of a core. -/
theorem core {F : FTy → Type} [FloatOps F] (x0 : FVec F S4096x8192 .bf16) (x1 : FVec F S4096x2048 .bf16) (w : IVec S1 32)
    (h : Cert.Pre_on_core2_sib.fn x0 x1 w = fun _ => 1#1) : ∃ s, w = fun _ => Core.word s := by
  obtain ⟨s, hs⟩ := Core.of_or _ (congrFun h ix0)
  exact ⟨s, funext fun i => (congrArg w (Subsingleton.elim _ _)).trans hs⟩

theorem frame_kernel : Cert.quiescent_Kernel13 := fun m ρ h => by
  obtain ⟨s, hs⟩ := core _ _ _ (h 0)
  exact Cert.Kernel13.Gen.frame m ρ (by unfold Cert.Kernel13.Gen.Ok; rw [Cert.Kernel13.Half.table_of m s hs]; exact Cert.Kernel13.Half.ok_table _)

theorem ok_of (m : (ℓ : Loc Cert.Kernel13Ideal.nD Cert.Kernel13Ideal.τ Cert.Kernel13Ideal.sig) → Buf (Elt Ideal) ℓ) (s : Fin 2)
    (e : Cert.Kernel13Ideal.Gen.tbl m = Cert.Kernel13Ideal.Half.table s) : Cert.Kernel13Ideal.Gen.Ok m := by
  unfold Cert.Kernel13Ideal.Gen.Ok
  rw [e]
  exact Cert.Kernel13Ideal.Half.ok_table s

theorem frame_ideal : Cert.quiescent_Kernel13Ideal := fun m ρ h => by
  obtain ⟨s, hs⟩ := core _ _ _ (h 0)
  exact Cert.Kernel13Ideal.Gen.frame m ρ (ok_of m _ (Cert.Kernel13Ideal.Half.table_of m s hs))

theorem algebraic : Cert.algebraic_Kernel13Ideal_Reference13Ideal := by
  intro m g m' g' h hagree
  obtain ⟨s, hw⟩ := core _ _ _ (h 0)
  have e := Cert.Kernel13Ideal.Half.table_of m s hw
  have hO := ok_of m _ e
  refine ⟨fun c => Cert.Kernel13Ideal.Half.half (Core.other s) (m (c.tc.loc Cert.Kernel13Ideal.main_arg0)) (m (c.tc.loc Cert.Kernel13Ideal.main_arg1)), ?_, ?_⟩
  · refine (θ_run Cert.Kernel13Ideal.defs _ _).mono (fun r h c => ?_)
      (θ_run_and (Cert.Kernel13Ideal.Gen.run_main m g hO) (Cert.Kernel13Ideal.Gen.frame m g hO))
    exact ⟨((h.1 c).1 2).trans (Cert.Kernel13Ideal.Half.final2 m hO c _ e), h.2.1 c⟩
  · refine (θ_run Cert.Reference13Ideal.defs _ _).mono (fun r h c => ?_) (Cert.Reference13Ideal.Value.run (F := Ideal) m' g')
    obtain ⟨h0, hargs⟩ := h c
    obtain ⟨a0, a1, a2⟩ := hagree c
    obtain rfl : c = 0 := Subsingleton.elim _ _
    exact ⟨h0.trans ((Cert.Reference13Ideal.Read.val_main_v14_eq (F := Ideal) _ _ _).trans
      ((congr (congr (congrArg (val_main_v14 (F := Ideal)) a0) a1) (a2.trans hw)).trans (res s _ _))), hargs⟩

end Cert.Reference13Ideal.Half

end
-- ==== Proof.MlpUpDwOwn.lean ====
/- A core's own half of the gradient of the MLP's first weights: each of the kernel's blocks is the product, over all 4096 tokens, of
   1024 columns of the input with 1024 columns of the gradient of the pre-activation, and the sibling's part is added to it. A one-word
   table, the index of the core, says which 1024 columns of that gradient's pairs of blocks are taken. Both results hold the same. -/
module

public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Core
public import proofs.«01_k».proof.Proof.Mat
public import proofs.«01_k».proof.Defs
public import Idealize.ShloMosaic.Lib.Pipeline.ValueKit

@[expose] public section

set_option maxRecDepth 16384

noncomputable section

namespace Cert.Kernel14.Half

open Idealize.ShloMosaic Cert.Kernel14 Cert.Kernel14.Gen
open Idealize.ShloMosaic.TcCoe Idealize.SL.Sem

set_option backward.proofsInPublic true in
/-- The table that holds the word of core `s`. -/
def table (s : Fin 2) : pre0.Contents (Elt Bits) := fun | ⟨0, _⟩ => fun _ => Core.word s | ⟨_ + 1, h⟩ => absurd h (by simp)

/-- At the word of a core the blocks of the second operand are inside it. -/
theorem ok_table : ∀ s : Fin 2, ok0 (table s) := by decide +kernel

end Cert.Kernel14.Half

namespace Cert.Kernel14Ideal.Half

open Idealize.ShloMosaic Cert.Kernel14Ideal Cert.Kernel14Ideal.Gen
open Idealize.ShloMosaic.TcCoe Idealize.SL.Sem

variable (m : (ℓ : Loc nD τ sig) → Buf (Elt Ideal) ℓ)

set_option backward.proofsInPublic true in
/-- The table that holds the word of core `s`. -/
def table (s : Fin 2) : pre0.Contents (Elt Ideal) := fun | ⟨0, _⟩ => fun _ => Core.word s | ⟨_ + 1, h⟩ => absurd h (by simp)

/-- At the word of a core the blocks of the second operand are inside it. -/
theorem ok_table : ∀ s : Fin 2, ok0 (table s) := by decide +kernel

theorem idx0 (a : (pcfg0 (F := Ideal)).Adm) : ∀ t : Fin (cfg0 a).N, ((cfg0 a).win 0).index t = ![0, t.val / 4] :=
  (by decide +kernel : ∀ t : Fin grid0.N, cc0_transform_0 (grid0.coords t) = ![0, t.val / 4])

theorem idx1 (a : (pcfg0 (F := Ideal)).Adm) (s : Fin 2) (h : a.1 = table s) (t : Fin (cfg0 a).N) :
    ((cfg0 a).win 1).index t = ![0, 2 * (t.val % 4) + s.val] := by
  obtain ⟨a, ha⟩ := a
  obtain rfl : a = _ := h
  exact (by decide +kernel : ∀ s : Fin 2, ∀ t : Fin grid0.N,
    cc0_transform_1 inb_S1_S1_0 numel1_S1 (table s) (grid0.coords t) = ![0, 2 * (t.val % 4) + s.val]) s t

theorem idx2 (a : (pcfg0 (F := Ideal)).Adm) : ∀ t : Fin (cfg0 a).N, ((cfg0 a).win 2).index t = ![t.val % 4, t.val / 4, 0] :=
  (by decide +kernel : ∀ t : Fin grid0.N, cc0_transform_2 (grid0.coords t) = ![t.val % 4, t.val / 4, 0])

theorem idx3 (a : (pcfg0 (F := Ideal)).Adm) : ∀ t : Fin (cfg0 a).N, ((cfg0 a).win 3).index t = ![t.val % 4, t.val / 4, 0] :=
  (by decide +kernel : ∀ t : Fin grid0.N, cc0_transform_3 (grid0.coords t) = ![t.val % 4, t.val / 4, 0])

theorem idx4 (a : (pcfg0 (F := Ideal)).Adm) : ∀ t : Fin (cfg0 a).N, ((cfg0 a).win 4).index t = ![t.val % 4, t.val / 4, 0] :=
  (by decide +kernel : ∀ t : Fin grid0.N, cc0_transform_4 (grid0.coords t) = ![t.val % 4, t.val / 4, 0])

variable (hO : Ok m) (c : Dev nD) (t : Fin (cfgM m hO).N)

theorem read_x (k : Fin 4096) (a : Fin 1024) (i : Fin 2048) (hi : i.val = 1024 * (t.val / 4) + a.val) :
    iblk m hO c 0 t (ix2 k a) = m ((c : Thread nD τ).loc main_arg0) (ix2 k i) := by
  obtain ⟨i, hi'⟩ := i
  obtain rfl : i = _ := hi
  blk_point [iblk, V, idx0 (adm m hO) t]

theorem read_d (s : Fin 2) (h : tbl m = table s) (k : Fin 4096) (b : Fin 1024) (j : Fin 8192) (hj : j.val = 1024 * (2 * (t.val % 4) + s.val) + b.val) :
    iblk m hO c 1 t (ix2 k b) = m ((c : Thread nD τ).loc main_arg1) (ix2 k j) := by
  obtain ⟨j, hj'⟩ := j
  obtain rfl : j = _ := hj
  blk_point [iblk, V, idx1 (adm m hO) s h t]

theorem read_f (a b : Fin 1024) (q : Fin 4) (hq : q.val = t.val % 4) (i : Fin 2048) (hi : i.val = 1024 * (t.val / 4) + a.val) :
    iblk m hO c 2 t (ix3 0 a b) = m ((c : Thread nD τ).loc main_arg2) (ix3 q i b) := by
  obtain ⟨i, hi'⟩ := i
  obtain rfl : i = _ := hi
  obtain ⟨q, hq'⟩ := q
  obtain rfl : q = _ := hq
  blk_point [iblk, V, idx2 (adm m hO) t]

/-- What the body writes, at an index of its block. -/
theorem tile (i : grid0.Coords) (r0 : Memref sig .tc .vmem S4096x1024 .bf16) (h0 : r0.IsWhole) (r1 : Memref sig .tc .vmem S4096x1024 .bf16) (h1 : r1.IsWhole)
    (r2 : Memref sig .tc .vmem S1x1024x1024 .bf16) (h2 : r2.IsWhole) (r3 : Memref sig .tc .vmem S1x1024x1024 .bf16) (h3 : r3.IsWhole)
    (r4 : Memref sig .tc .vmem S1x1024x1024 .bf16) (h4 : r4.IsWhole) (x0 x1 : Vec Ideal S4096x1024 .bf16) (x2 : Vec Ideal S1x1024x1024 .bf16)
    (xt : TbBuf0 (F := Ideal) c tbM0_0) (a b : Fin 1024) :
    out0_A_3 c i r0 h0 r1 h1 r2 h2 r3 h3 r4 h4 x0 x1 x2 xt (ix3 0 a b) = Mat.tn (x0 : _ → EReal) x1 a b + (x2 : _ → EReal) (ix3 0 a b) := by
  unfold out0_A_3
  frame_out
  pointwise [k0_pay2, k0_pay1]
  rfl

/-- What a point leaves, at an index of its block. -/
theorem at_val (a b : Fin 1024) : (outsAt0 m hO c t).1 (ix3 0 a b)
    = (fun p q : EReal => p + q) (Mat.tn (iblk m hO c 0 t) (iblk m hO c 1 t) a b) (iblk m hO c 2 t (ix3 0 a b)) := by
  have h := tile c (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (iblk m hO c 0 t) (iblk m hO c 1 t) (iblk m hO c 2 t) (tbl m 0) a b
  refine Eq.trans ?_ h
  unfold outsAt0
  dsimp only

/-- Both results of a point hold the same. -/
theorem same : (outsAt0 m hO c t).2 = (outsAt0 m hO c t).1 := by
  unfold outsAt0 out0_A_3 out0_A_4
  dsimp only
  frame_out
  rfl

/-- The half of the gradient of core `s`, and the sibling's part of it. -/
def half (s : Fin 2) (h : Mat.Mat 4096 2048) (d : Mat.Mat 4096 8192) (f : S4x2048x1024.Idx → EReal) : S4x2048x1024.Idx → EReal := fun i =>
  Mat.tn h d (i 1) ⟨1024 * (2 * (i 0).val + s.val) + (i 2).val, by have h0 : (i 0).val < 4 := (i 0).isLt; have h1 : (i 2).val < 1024 := (i 2).isLt; omega⟩ + f i

theorem at_point (s : Fin 2) (h : tbl m = table s) (a b : Fin 1024) (i : S4x2048x1024.Idx) (h0 : (i 0).val = t.val % 4)
    (h1 : (i 1).val = 1024 * (t.val / 4) + a.val) (h2 : (i 2).val = b.val) : (outsAt0 m hO c t).1 (ix3 0 a b)
      = half s (m ((c : Thread nD τ).loc main_arg0)) (m ((c : Thread nD τ).loc main_arg1)) (m ((c : Thread nD τ).loc main_arg2)) i := by
  refine (at_val m hO c t a b).trans ?_
  refine congrArg₂ (fun p q : EReal => p + q) (Finset.sum_congr rfl fun k _ => congrArg₂ (fun p q : EReal => p * q)
    (read_x m hO c t k a _ h1) (read_d m hO c t s h k b _ (by show 1024 * (2 * (i 0).val + s.val) + (i 2).val = _; rw [h0, h2]))) ?_
  refine (read_f m hO c t a b (i 0) h0 (i 1) h1).trans (congrArg (m ((c : Thread nD τ).loc main_arg2)) ?_)
  funext x
  match x with
  | 0 => rfl
  | 1 => rfl
  | 2 => exact Fin.ext h2.symm

/-- The point whose block of an output is `β`. -/
theorem onto (β : Fin 3 → ℕ) (h0 : β 0 < 4) (h1 : β 1 < 2) (h2 : β 2 < 1) (x : Fin 3) :
    (![(4 * β 1 + β 0) % 4, (4 * β 1 + β 0) / 4, 0] : Fin 3 → ℕ) x = β x := by
  match x with
  | 0 => show (4 * β 1 + β 0) % 4 = _; omega
  | 1 => show (4 * β 1 + β 0) / 4 = _; omega
  | 2 => show 0 = _; omega

theorem covers3 (a : (pcfg0 (F := Ideal)).Adm) : ((cfg0 a).win 3).Covers :=
  ⟨(by decide : ∀ x : Fin 3, 0 < S1x1024x1024.size x), fun β => by
    have h0 : (β (0 : Fin 3)).val < 4 := (β (0 : Fin 3)).isLt.trans_eq (Core.blocks (W := (cfg0 a).win 3) (x := (0 : Fin 3)) (n := 4) (k := 1) rfl rfl rfl)
    have h1 : (β (1 : Fin 3)).val < 2 := (β (1 : Fin 3)).isLt.trans_eq (Core.blocks (W := (cfg0 a).win 3) (x := (1 : Fin 3)) (n := 2048) (k := 1024) rfl rfl rfl)
    have h2 : (β (2 : Fin 3)).val < 1 := (β (2 : Fin 3)).isLt.trans_eq (Core.blocks (W := (cfg0 a).win 3) (x := (2 : Fin 3)) (n := 1024) (k := 1024) rfl rfl rfl)
    exact ⟨⟨4 * (β (1 : Fin 3)).val + (β (0 : Fin 3)).val, by show _ < 8; omega⟩, flush0_3 a _, fun x =>
      ⟨(congrFun (idx3 a _) x).trans (onto (fun x => (β x).val) h0 h1 h2 x), Or.inl rfl⟩⟩⟩

theorem covers4 (a : (pcfg0 (F := Ideal)).Adm) : ((cfg0 a).win 4).Covers :=
  ⟨(by decide : ∀ x : Fin 3, 0 < S1x1024x1024.size x), fun β => by
    have h0 : (β (0 : Fin 3)).val < 4 := (β (0 : Fin 3)).isLt.trans_eq (Core.blocks (W := (cfg0 a).win 4) (x := (0 : Fin 3)) (n := 4) (k := 1) rfl rfl rfl)
    have h1 : (β (1 : Fin 3)).val < 2 := (β (1 : Fin 3)).isLt.trans_eq (Core.blocks (W := (cfg0 a).win 4) (x := (1 : Fin 3)) (n := 2048) (k := 1024) rfl rfl rfl)
    have h2 : (β (2 : Fin 3)).val < 1 := (β (2 : Fin 3)).isLt.trans_eq (Core.blocks (W := (cfg0 a).win 4) (x := (2 : Fin 3)) (n := 1024) (k := 1024) rfl rfl rfl)
    exact ⟨⟨4 * (β (1 : Fin 3)).val + (β (0 : Fin 3)).val, by show _ < 8; omega⟩, flush0_4 a _, fun x =>
      ⟨(congrFun (idx4 a _) x).trans (onto (fun x => (β x).val) h0 h1 h2 x), Or.inl rfl⟩⟩⟩

/-- What a point leaves at an index of its block, given where the block lies. -/
theorem at_block (s : Fin 2) (h : tbl m = table s) (y : S1x1024x1024.Idx) (i : S4x2048x1024.Idx) (idx : Fin 3 → ℕ)
    (hidx : idx = ![t.val % 4, t.val / 4, 0]) (hi : ∀ x : Fin 3, (i x).val = idx x * S1x1024x1024.size x + 1 * (y x).val) :
    (outsAt0 m hO c t).1 y
      = half s (m ((c : Thread nD τ).loc main_arg0)) (m ((c : Thread nD τ).loc main_arg1)) (m ((c : Thread nD τ).loc main_arg2)) i := by
  subst hidx
  have y0 : (y 0).val < 1 := (y 0).isLt
  refine (congrArg (outsAt0 m hO c t).1 (Core.eta y)).trans (at_point m hO c t s h _ _ _ ((hi 0).trans ?_) ((hi 1).trans ?_) ((hi 2).trans ?_))
  · show t.val % 4 * 1 + 1 * (y 0).val = _; omega
  · show t.val / 4 * 1024 + 1 * (y 1).val = _; omega
  · show 0 * 1024 + 1 * (y 2).val = _; omega

theorem final3 (s : Fin 2) (h : tbl m = table s) : (dats m hO 0 c).arrAt 3 (cfgM m hO).N
    = half s (m ((c : Thread nD τ).loc main_arg0)) (m ((c : Thread nD τ).loc main_arg1)) (m ((c : Thread nD τ).loc main_arg2)) := by
  refine (dats m hO 0 c).arrAt_eq_of_covers 3 _ (covers3 _) fun t _ y => ?_
  blk_simp
  rw [after0_3]
  exact at_block m hO c t s h y _ _ (idx3 (adm m hO) t) fun x => rfl

theorem final4 (s : Fin 2) (h : tbl m = table s) : (dats m hO 0 c).arrAt 4 (cfgM m hO).N
    = half s (m ((c : Thread nD τ).loc main_arg0)) (m ((c : Thread nD τ).loc main_arg1)) (m ((c : Thread nD τ).loc main_arg2)) := by
  refine (dats m hO 0 c).arrAt_eq_of_covers 4 _ (covers4 _) fun t _ y => ?_
  blk_simp
  rw [after0_4, same]
  exact at_block m hO c t s h y _ _ (idx4 (adm m hO) t) fun x => rfl

end Cert.Kernel14Ideal.Half

namespace Cert.Reference14Ideal.Half

open Idealize.ShloMosaic Cert.Reference14Ideal Cert.Reference14Ideal.Gen Cert.Reference14Ideal.Read
open Idealize.ShloMosaic.TcCoe Idealize.SL.Sem

theorem dw (h : S4096x2048.Idx → EReal) (d : S4096x8192.Idx → EReal) (q : Fin 4) (s : Fin 2) (a : Fin 2048) (b : Fin 1024) (j : Fin 8192)
    (hj : j.val = 1024 * (2 * q.val + s.val) + b.val) : val_main_v7 (F := Ideal) h d (ix4 q s a b) = Mat.tn h d a j := by
  obtain ⟨j, hj'⟩ := j
  obtain rfl : j = _ := hj
  pointwise [val_main_v7, val_main_v6, val_main_v5, val_main_v4, val_main_v1, val_main_v0]
  refine Finset.sum_congr rfl fun k _ => (congrArg₂ (fun p q : EReal => p * q) (congrArg (fun j => d (ix2 k j)) (Fin.ext ?_)) rfl).trans (mul_comm _ _)
  show q.val * 2048 + s.val * 1024 + b.val = 1024 * (2 * q.val + s.val) + b.val
  omega

theorem res (s : Fin 2) (h : S4096x2048.Idx → EReal) (d : S4096x8192.Idx → EReal) (f : S4x2048x1024.Idx → EReal) :
    val_main_v17 (F := Ideal) h d f (fun _ => Core.word s) = Cert.Kernel14Ideal.Half.half s h d f := by
  funext i
  pointwise [val_main_v17, val_main_v16, val_main_v15, val_main_v14, val_main_v13, val_main_v12, val_main_v11, val_main_v10, val_main_v9, val_main_v8, val_main_c]
  refine congrArg (fun p : EReal => p + f i) ?_
  match s with
  | 0 => exact dw h d (i 0) 0 (i 1) (i 2) _ rfl
  | 1 => exact dw h d (i 0) 1 (i 1) (i 2) _ rfl

theorem frame : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

instance facts : Cert.Pre_on_core1_own.Facts := by
  constructor <;> decide

/-- The precondition says that the table holds the word of a core. -/
theorem core {F : FTy → Type} [FloatOps F] (x0 : FVec F S4096x2048 .bf16) (x1 : FVec F S4096x8192 .bf16) (x2 : FVec F S4x2048x1024 .bf16) (w : IVec S1 32)
    (h : Cert.Pre_on_core1_own.fn x0 x1 x2 w = fun _ => 1#1) : ∃ s, w = fun _ => Core.word s := by
  obtain ⟨s, hs⟩ := Core.of_or _ (congrFun h ix0)
  exact ⟨s, funext fun i => (congrArg w (Subsingleton.elim _ _)).trans hs⟩

theorem frame_kernel : Cert.quiescent_Kernel14 := fun m ρ h => by
  obtain ⟨s, hs⟩ := core _ _ _ _ (h 0)
  have e : Cert.Kernel14.Gen.tbl m = Cert.Kernel14.Half.table s := by
    funext j
    match j with
    | ⟨0, _⟩ => exact hs
  exact Cert.Kernel14.Gen.frame m ρ (by unfold Cert.Kernel14.Gen.Ok; rw [e]; exact Cert.Kernel14.Half.ok_table s)

theorem table_of (m : (ℓ : Loc Cert.Kernel14Ideal.nD Cert.Kernel14Ideal.τ Cert.Kernel14Ideal.sig) → Buf (Elt Ideal) ℓ) (h : Cert.Pre_Kernel14Ideal m) :
    ∃ s, Cert.Kernel14Ideal.Gen.tbl m = Cert.Kernel14Ideal.Half.table s
      ∧ m (((0 : Dev Cert.Kernel14Ideal.nD) : Thread Cert.Kernel14Ideal.nD Cert.Kernel14Ideal.τ).loc Cert.Kernel14Ideal.main_arg3) = fun _ => Core.word s := by
  obtain ⟨s, hs⟩ := core _ _ _ _ (h 0)
  refine ⟨s, ?_, hs⟩
  funext j
  match j with
  | ⟨0, _⟩ => exact hs

theorem ok_of (m : (ℓ : Loc Cert.Kernel14Ideal.nD Cert.Kernel14Ideal.τ Cert.Kernel14Ideal.sig) → Buf (Elt Ideal) ℓ) (s : Fin 2)
    (e : Cert.Kernel14Ideal.Gen.tbl m = Cert.Kernel14Ideal.Half.table s) : Cert.Kernel14Ideal.Gen.Ok m := by
  unfold Cert.Kernel14Ideal.Gen.Ok
  rw [e]
  exact Cert.Kernel14Ideal.Half.ok_table s

theorem frame_ideal : Cert.quiescent_Kernel14Ideal := fun m ρ h => by
  obtain ⟨s, e, _⟩ := table_of m h
  exact Cert.Kernel14Ideal.Gen.frame m ρ (ok_of m s e)

theorem algebraic : Cert.algebraic_Kernel14Ideal_Reference14Ideal := by
  intro m g m' g' h hagree
  obtain ⟨s, e, hw⟩ := table_of m h
  have hO := ok_of m s e
  refine ⟨fun c => Cert.Kernel14Ideal.Half.half s (m (c.tc.loc Cert.Kernel14Ideal.main_arg0)) (m (c.tc.loc Cert.Kernel14Ideal.main_arg1)) (m (c.tc.loc Cert.Kernel14Ideal.main_arg2)),
    fun c => Cert.Kernel14Ideal.Half.half s (m (c.tc.loc Cert.Kernel14Ideal.main_arg0)) (m (c.tc.loc Cert.Kernel14Ideal.main_arg1)) (m (c.tc.loc Cert.Kernel14Ideal.main_arg2)), ?_, ?_⟩
  · refine (θ_run Cert.Kernel14Ideal.defs _ _).mono (fun r h c => ?_)
      (θ_run_and (Cert.Kernel14Ideal.Gen.run_main m g hO) (Cert.Kernel14Ideal.Gen.frame m g hO))
    exact ⟨((h.1 c).1 3).trans (Cert.Kernel14Ideal.Half.final3 m hO c s e), ((h.1 c).1 4).trans (Cert.Kernel14Ideal.Half.final4 m hO c s e), h.2.1 c⟩
  · refine (θ_run Cert.Reference14Ideal.defs _ _).mono (fun r h c => ?_) (Cert.Reference14Ideal.Value.run (F := Ideal) m' g')
    obtain ⟨h0, h1, hargs⟩ := h c
    obtain ⟨a0, a1, a2, a3⟩ := hagree c
    obtain rfl : c = 0 := Subsingleton.elim _ _
    have key := (Cert.Reference14Ideal.Read.val_main_v17_eq (F := Ideal) _ _ _ _).trans
      ((congr (congr (congr (congrArg (val_main_v17 (F := Ideal)) a0) a1) a2) (a3.trans hw)).trans (res s _ _ _))
    exact ⟨h0.trans key, h1.trans key, hargs⟩

end Cert.Reference14Ideal.Half

end
-- ==== Proof.MlpUpDwSib.lean ====
/- The sibling's half of the gradient of the MLP's first weights: as a core's own half, with the columns of the other core, and with
   nothing added. The host takes the core's index from one. -/
module

public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Core
public import proofs.«01_k».proof.Proof.Mat
public import proofs.«01_k».proof.Defs
public import Idealize.ShloMosaic.Lib.Pipeline.ValueKit

@[expose] public section

set_option maxRecDepth 16384

noncomputable section

namespace Cert.Kernel15.Half

open Idealize.ShloMosaic Cert.Kernel15 Cert.Kernel15.Gen
open Idealize.ShloMosaic.TcCoe Idealize.SL.Sem

set_option backward.proofsInPublic true in
/-- The table that holds the word of core `s`. -/
def table (s : Fin 2) : pre0.Contents (Elt Bits) := fun | ⟨0, _⟩ => fun _ => Core.word s | ⟨_ + 1, h⟩ => absurd h (by simp)

/-- At the word of a core the blocks of the second operand are inside it. -/
theorem ok_table : ∀ s : Fin 2, ok0 (table s) := by decide +kernel

variable (m : (ℓ : Loc nD τ sig) → Buf (Elt Bits) ℓ)

/-- The host takes the core's word from one: the table holds the word of the other core. -/
theorem table_of (s : Fin 2) (h : m (((0 : Dev nD) : Thread nD τ).loc main_arg2) = fun _ => Core.word s) : tbl m = table (Core.other s) := by
  funext j
  match j with
  | ⟨0, _⟩ =>
    funext i
    refine Eq.trans ?_ (Core.sub_word s)
    show V m 0 main_v1 i = _
    rw [show V m 0 main_v1 = StableHlo.after hostOps0 (fun b => m (0, b)) (Proc.devRef .tc main_v1) from rfl]
    simp only [hostOps0]
    entry_read
    exact congrArg (IntOp.subi 1#32) (congrFun h _)

end Cert.Kernel15.Half

namespace Cert.Kernel15Ideal.Half

open Idealize.ShloMosaic Cert.Kernel15Ideal Cert.Kernel15Ideal.Gen
open Idealize.ShloMosaic.TcCoe Idealize.SL.Sem

variable (m : (ℓ : Loc nD τ sig) → Buf (Elt Ideal) ℓ)

set_option backward.proofsInPublic true in
/-- The table that holds the word of core `s`. -/
def table (s : Fin 2) : pre0.Contents (Elt Ideal) := fun | ⟨0, _⟩ => fun _ => Core.word s | ⟨_ + 1, h⟩ => absurd h (by simp)

/-- At the word of a core the blocks of the second operand are inside it. -/
theorem ok_table : ∀ s : Fin 2, ok0 (table s) := by decide +kernel

theorem idx0 (a : (pcfg0 (F := Ideal)).Adm) : ∀ t : Fin (cfg0 a).N, ((cfg0 a).win 0).index t = ![0, t.val / 4] :=
  (by decide +kernel : ∀ t : Fin grid0.N, cc0_transform_0 (grid0.coords t) = ![0, t.val / 4])

theorem idx1 (a : (pcfg0 (F := Ideal)).Adm) (s : Fin 2) (h : a.1 = table s) (t : Fin (cfg0 a).N) :
    ((cfg0 a).win 1).index t = ![0, 2 * (t.val % 4) + s.val] := by
  obtain ⟨a, ha⟩ := a
  obtain rfl : a = _ := h
  exact (by decide +kernel : ∀ s : Fin 2, ∀ t : Fin grid0.N,
    cc0_transform_1 inb_S1_S1_0 numel1_S1 (table s) (grid0.coords t) = ![0, 2 * (t.val % 4) + s.val]) s t

theorem idx2 (a : (pcfg0 (F := Ideal)).Adm) : ∀ t : Fin (cfg0 a).N, ((cfg0 a).win 2).index t = ![t.val % 4, t.val / 4, 0] :=
  (by decide +kernel : ∀ t : Fin grid0.N, cc0_transform_2 (grid0.coords t) = ![t.val % 4, t.val / 4, 0])

/-- The host takes the core's word from one: the table holds the word of the other core. -/
theorem table_of (s : Fin 2) (h : m (((0 : Dev nD) : Thread nD τ).loc main_arg2) = fun _ => Core.word s) : tbl m = table (Core.other s) := by
  funext j
  match j with
  | ⟨0, _⟩ =>
    funext i
    refine Eq.trans ?_ (Core.sub_word s)
    show V m 0 main_v1 i = _
    rw [show V m 0 main_v1 = StableHlo.after hostOps0 (fun b => m (0, b)) (Proc.devRef .tc main_v1) from rfl]
    simp only [hostOps0]
    entry_read
    exact congrArg (IntOp.subi 1#32) (congrFun h _)

variable (hO : Ok m) (c : Dev nD) (t : Fin (cfgM m hO).N)

theorem read_x (k : Fin 4096) (a : Fin 1024) (i : Fin 2048) (hi : i.val = 1024 * (t.val / 4) + a.val) :
    iblk m hO c 0 t (ix2 k a) = m ((c : Thread nD τ).loc main_arg0) (ix2 k i) := by
  obtain ⟨i, hi'⟩ := i
  obtain rfl : i = _ := hi
  blk_point [iblk, V, idx0 (adm m hO) t]

theorem read_d (s : Fin 2) (h : tbl m = table s) (k : Fin 4096) (b : Fin 1024) (j : Fin 8192) (hj : j.val = 1024 * (2 * (t.val % 4) + s.val) + b.val) :
    iblk m hO c 1 t (ix2 k b) = m ((c : Thread nD τ).loc main_arg1) (ix2 k j) := by
  obtain ⟨j, hj'⟩ := j
  obtain rfl : j = _ := hj
  blk_point [iblk, V, idx1 (adm m hO) s h t]

/-- What the body writes, at an index of its block. -/
theorem tile (i : grid0.Coords) (r0 : Memref sig .tc .vmem S4096x1024 .bf16) (h0 : r0.IsWhole) (r1 : Memref sig .tc .vmem S4096x1024 .bf16) (h1 : r1.IsWhole)
    (r2 : Memref sig .tc .vmem S1x1024x1024 .bf16) (h2 : r2.IsWhole) (x0 x1 : Vec Ideal S4096x1024 .bf16)
    (xt : TbBuf0 (F := Ideal) c tbM0_0) (a b : Fin 1024) : out0_A_2 c i r0 h0 r1 h1 r2 h2 x0 x1 xt (ix3 0 a b) = Mat.tn (x0 : _ → EReal) x1 a b := by
  unfold out0_A_2
  frame_out
  pointwise [k0_pay1]
  rfl

/-- What a point leaves, at an index of its block. -/
theorem at_val (a b : Fin 1024) : outsAt0 m hO c t (ix3 0 a b) = Mat.tn (iblk m hO c 0 t) (iblk m hO c 1 t) a b := by
  have h := tile c (grid0.coords t) (ms0_0 m hO t) (hs0_0 m hO t) (ms0_1 m hO t) (hs0_1 m hO t) (ms0_2 m hO t) (hs0_2 m hO t)
    (iblk m hO c 0 t) (iblk m hO c 1 t) (tbl m 0) a b
  refine Eq.trans ?_ h
  unfold outsAt0
  rfl

/-- The half of the gradient of core `s`. -/
def half (s : Fin 2) (h : Mat.Mat 4096 2048) (d : Mat.Mat 4096 8192) : S4x2048x1024.Idx → EReal := fun i =>
  Mat.tn h d (i 1) ⟨1024 * (2 * (i 0).val + s.val) + (i 2).val, by have h0 : (i 0).val < 4 := (i 0).isLt; have h1 : (i 2).val < 1024 := (i 2).isLt; omega⟩

theorem at_point (s : Fin 2) (h : tbl m = table s) (a b : Fin 1024) (i : S4x2048x1024.Idx) (h0 : (i 0).val = t.val % 4)
    (h1 : (i 1).val = 1024 * (t.val / 4) + a.val) (h2 : (i 2).val = b.val) : outsAt0 m hO c t (ix3 0 a b)
      = half s (m ((c : Thread nD τ).loc main_arg0)) (m ((c : Thread nD τ).loc main_arg1)) i := by
  refine (at_val m hO c t a b).trans ?_
  exact Finset.sum_congr rfl fun k _ => congrArg₂ (fun p q : EReal => p * q)
    (read_x m hO c t k a _ h1) (read_d m hO c t s h k b _ (by show 1024 * (2 * (i 0).val + s.val) + (i 2).val = _; rw [h0, h2]))

/-- The point whose block of an output is `β`. -/
theorem onto (β : Fin 3 → ℕ) (h0 : β 0 < 4) (h1 : β 1 < 2) (h2 : β 2 < 1) (x : Fin 3) :
    (![(4 * β 1 + β 0) % 4, (4 * β 1 + β 0) / 4, 0] : Fin 3 → ℕ) x = β x := by
  match x with
  | 0 => show (4 * β 1 + β 0) % 4 = _; omega
  | 1 => show (4 * β 1 + β 0) / 4 = _; omega
  | 2 => show 0 = _; omega

theorem covers2 (a : (pcfg0 (F := Ideal)).Adm) : ((cfg0 a).win 2).Covers :=
  ⟨(by decide : ∀ x : Fin 3, 0 < S1x1024x1024.size x), fun β => by
    have h0 : (β (0 : Fin 3)).val < 4 := (β (0 : Fin 3)).isLt.trans_eq (Core.blocks (W := (cfg0 a).win 2) (x := (0 : Fin 3)) (n := 4) (k := 1) rfl rfl rfl)
    have h1 : (β (1 : Fin 3)).val < 2 := (β (1 : Fin 3)).isLt.trans_eq (Core.blocks (W := (cfg0 a).win 2) (x := (1 : Fin 3)) (n := 2048) (k := 1024) rfl rfl rfl)
    have h2 : (β (2 : Fin 3)).val < 1 := (β (2 : Fin 3)).isLt.trans_eq (Core.blocks (W := (cfg0 a).win 2) (x := (2 : Fin 3)) (n := 1024) (k := 1024) rfl rfl rfl)
    exact ⟨⟨4 * (β (1 : Fin 3)).val + (β (0 : Fin 3)).val, by show _ < 8; omega⟩, flush0_2 a _, fun x =>
      ⟨(congrFun (idx2 a _) x).trans (onto (fun x => (β x).val) h0 h1 h2 x), Or.inl rfl⟩⟩⟩

/-- What a point leaves at an index of its block, given where the block lies. -/
theorem at_block (s : Fin 2) (h : tbl m = table s) (y : S1x1024x1024.Idx) (i : S4x2048x1024.Idx) (idx : Fin 3 → ℕ)
    (hidx : idx = ![t.val % 4, t.val / 4, 0]) (hi : ∀ x : Fin 3, (i x).val = idx x * S1x1024x1024.size x + 1 * (y x).val) :
    outsAt0 m hO c t y
      = half s (m ((c : Thread nD τ).loc main_arg0)) (m ((c : Thread nD τ).loc main_arg1)) i := by
  subst hidx
  have y0 : (y 0).val < 1 := (y 0).isLt
  refine (congrArg (outsAt0 m hO c t) (Core.eta y)).trans (at_point m hO c t s h _ _ _ ((hi 0).trans ?_) ((hi 1).trans ?_) ((hi 2).trans ?_))
  · show t.val % 4 * 1 + 1 * (y 0).val = _; omega
  · show t.val / 4 * 1024 + 1 * (y 1).val = _; omega
  · show 0 * 1024 + 1 * (y 2).val = _; omega

theorem final2 (s : Fin 2) (h : tbl m = table s) : (dats m hO 0 c).arrAt 2 (cfgM m hO).N
    = half s (m ((c : Thread nD τ).loc main_arg0)) (m ((c : Thread nD τ).loc main_arg1)) := by
  refine (dats m hO 0 c).arrAt_eq_of_covers 2 _ (covers2 _) fun t _ y => ?_
  blk_simp
  rw [after0_2]
  exact at_block m hO c t s h y _ _ (idx2 (adm m hO) t) fun x => rfl

end Cert.Kernel15Ideal.Half

namespace Cert.Reference15Ideal.Half

open Idealize.ShloMosaic Cert.Reference15Ideal Cert.Reference15Ideal.Gen Cert.Reference15Ideal.Read
open Idealize.ShloMosaic.TcCoe Idealize.SL.Sem

theorem dw (h : S4096x2048.Idx → EReal) (d : S4096x8192.Idx → EReal) (q : Fin 4) (s : Fin 2) (a : Fin 2048) (b : Fin 1024) (j : Fin 8192)
    (hj : j.val = 1024 * (2 * q.val + s.val) + b.val) : val_main_v7 (F := Ideal) h d (ix4 q s a b) = Mat.tn h d a j := by
  obtain ⟨j, hj'⟩ := j
  obtain rfl : j = _ := hj
  pointwise [val_main_v7, val_main_v6, val_main_v5, val_main_v4, val_main_v1, val_main_v0]
  refine Finset.sum_congr rfl fun k _ => (congrArg₂ (fun p q : EReal => p * q) (congrArg (fun j => d (ix2 k j)) (Fin.ext ?_)) rfl).trans (mul_comm _ _)
  show q.val * 2048 + s.val * 1024 + b.val = 1024 * (2 * q.val + s.val) + b.val
  omega

theorem res (s : Fin 2) (h : S4096x2048.Idx → EReal) (d : S4096x8192.Idx → EReal) :
    val_main_v15 (F := Ideal) h d (fun _ => Core.word s) = Cert.Kernel15Ideal.Half.half (Core.other s) h d := by
  funext i
  pointwise [val_main_v15, val_main_v14, val_main_v13, val_main_v12, val_main_v11, val_main_v10, val_main_v9, val_main_v8, val_main_c]
  match s with
  | 0 => exact dw h d (i 0) 1 (i 1) (i 2) _ rfl
  | 1 => exact dw h d (i 0) 0 (i 1) (i 2) _ rfl

theorem frame : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

instance facts : Cert.Pre_on_core1_sib.Facts := by
  constructor <;> decide

/-- The precondition says that the argument holds the word of a core. -/
theorem core {F : FTy → Type} [FloatOps F] (x0 : FVec F S4096x2048 .bf16) (x1 : FVec F S4096x8192 .bf16) (w : IVec S1 32)
    (h : Cert.Pre_on_core1_sib.fn x0 x1 w = fun _ => 1#1) : ∃ s, w = fun _ => Core.word s := by
  obtain ⟨s, hs⟩ := Core.of_or _ (congrFun h ix0)
  exact ⟨s, funext fun i => (congrArg w (Subsingleton.elim _ _)).trans hs⟩

theorem frame_kernel : Cert.quiescent_Kernel15 := fun m ρ h => by
  obtain ⟨s, hs⟩ := core _ _ _ (h 0)
  exact Cert.Kernel15.Gen.frame m ρ (by unfold Cert.Kernel15.Gen.Ok; rw [Cert.Kernel15.Half.table_of m s hs]; exact Cert.Kernel15.Half.ok_table _)

theorem ok_of (m : (ℓ : Loc Cert.Kernel15Ideal.nD Cert.Kernel15Ideal.τ Cert.Kernel15Ideal.sig) → Buf (Elt Ideal) ℓ) (s : Fin 2)
    (e : Cert.Kernel15Ideal.Gen.tbl m = Cert.Kernel15Ideal.Half.table s) : Cert.Kernel15Ideal.Gen.Ok m := by
  unfold Cert.Kernel15Ideal.Gen.Ok
  rw [e]
  exact Cert.Kernel15Ideal.Half.ok_table s

theorem frame_ideal : Cert.quiescent_Kernel15Ideal := fun m ρ h => by
  obtain ⟨s, hs⟩ := core _ _ _ (h 0)
  exact Cert.Kernel15Ideal.Gen.frame m ρ (ok_of m _ (Cert.Kernel15Ideal.Half.table_of m s hs))

theorem algebraic : Cert.algebraic_Kernel15Ideal_Reference15Ideal := by
  intro m g m' g' h hagree
  obtain ⟨s, hw⟩ := core _ _ _ (h 0)
  have e := Cert.Kernel15Ideal.Half.table_of m s hw
  have hO := ok_of m _ e
  refine ⟨fun c => Cert.Kernel15Ideal.Half.half (Core.other s) (m (c.tc.loc Cert.Kernel15Ideal.main_arg0)) (m (c.tc.loc Cert.Kernel15Ideal.main_arg1)), ?_, ?_⟩
  · refine (θ_run Cert.Kernel15Ideal.defs _ _).mono (fun r h c => ?_)
      (θ_run_and (Cert.Kernel15Ideal.Gen.run_main m g hO) (Cert.Kernel15Ideal.Gen.frame m g hO))
    exact ⟨((h.1 c).1 2).trans (Cert.Kernel15Ideal.Half.final2 m hO c _ e), h.2.1 c⟩
  · refine (θ_run Cert.Reference15Ideal.defs _ _).mono (fun r h c => ?_) (Cert.Reference15Ideal.Value.run (F := Ideal) m' g')
    obtain ⟨h0, hargs⟩ := h c
    obtain ⟨a0, a1, a2⟩ := hagree c
    obtain rfl : c = 0 := Subsingleton.elim _ _
    exact ⟨h0.trans ((Cert.Reference15Ideal.Read.val_main_v15_eq (F := Ideal) _ _ _).trans
      ((congr (congr (congrArg (val_main_v15 (F := Ideal)) a0) a1) (a2.trans hw)).trans (res s _ _))), hargs⟩

end Cert.Reference15Ideal.Half

end
-- ==== Proof.MlpUp.lean ====
/- The first product of the squared-ReLU MLP: each tile of the kernel is the product of a block of 1024 rows with one block of 1024 columns
   of the weights, kept once as it is and once squared where it is positive; the reference computes the same two arrays. -/
module

public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Mat
public import proofs.«01_k».proof.Defs

@[expose] public section

set_option maxRecDepth 16384

noncomputable section

namespace Cert.Kernel4Ideal.Prod

open Idealize.ShloMosaic Cert.Kernel4Ideal Cert.Kernel4Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![t.val / 8, 0] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

theorem read_x (a : Fin 1024) (k : Fin 2048) (i : Fin 4096) (h : i.val = 1024 * (t.val / 8) + a.val) :
    iblk m c 0 t (ix2 a k) = m ((c : Thread nD τ).loc main_arg0) (ix2 i k) := by
  obtain ⟨i, hi⟩ := i
  obtain rfl : i = _ := h
  blk_point [iblk, V, idx0 t]

/-- The host cuts the weights into eight blocks of 1024 columns. -/
theorem V_w (q : Fin 8) (k : Fin 2048) (b : Fin 1024) : V m c main_v1 (ix3 q k b)
    = m ((c : Thread nD τ).loc main_arg1) (ix2 k ⟨1024 * q.val + b.val, by omega⟩) := by
  rw [show V m c main_v1 = StableHlo.after hostOps0 (fun b => m (c, b)) (Proc.devRef .tc main_v1) from rfl]
  simp only [hostOps0]
  entry_read
  pointwise
  simp only [Nat.mul_comm]

theorem read_w (k : Fin 2048) (b : Fin 1024) (j : Fin 8192) (h : j.val = 1024 * (t.val % 8) + b.val) :
    iblk m c 1 t (ix3 0 k b) = m ((c : Thread nD τ).loc main_arg1) (ix2 k j) := by
  have e : iblk m c 1 t (ix3 0 k b) = V m c main_v1 (ix3 ⟨t.val % 8, by omega⟩ k b) := by
    blk_point [iblk, V, idx1 t]
  refine e.trans ((V_w m c _ k b).trans ?_)
  exact congrArg (m ((c : Thread nD τ).loc main_arg1)) (congrArg (ix2 k) (Fin.ext h.symm))

/-- The product of a block of rows with a block of columns. -/
def prod (x0 : Vec Ideal S1024x2048 .bf16) (x1 : Vec Ideal S1x2048x1024 .bf16) (a b : Fin 1024) : EReal :=
  ∑ k : Fin 2048, x0 (ix2 a k) * x1 (ix3 0 k b)

theorem tile (x0 : Vec Ideal S1024x2048 .bf16) (x1 : Vec Ideal S1x2048x1024 .bf16) (a b : Fin 1024) :
    out0_2 x0 x1 (ix2 a b) = prod x0 x1 a b := by
  unfold out0_2; frame_out
  pointwise [k0_pay1, k0_pay2]
  rfl

/-- The square of the positive part. -/
def relu2 (x : EReal) : EReal := max x 0 * max x 0

theorem tile2 (x0 : Vec Ideal S1024x2048 .bf16) (x1 : Vec Ideal S1x2048x1024 .bf16) (a b : Fin 1024) :
    out0_3 x0 x1 (ix2 a b) = relu2 (prod x0 x1 a b) := by
  unfold out0_3; frame_out
  pointwise [k0_pay1, k0_pay3]
  rfl

theorem prod_at (a b : Fin 1024) (i : Fin 4096) (j : Fin 8192) (h0 : i.val = 1024 * (t.val / 8) + a.val)
    (h1 : j.val = 1024 * (t.val % 8) + b.val) : prod (iblk m c 0 t) (iblk m c 1 t) a b
      = Mat.nn (m ((c : Thread nD τ).loc main_arg0)) (m ((c : Thread nD τ).loc main_arg1)) i j :=
  Finset.sum_congr rfl fun k _ => congrArg₂ (fun p q : EReal => p * q) (read_x m c t a k _ h0) (read_w m c t k b _ h1)

/-- What point `t` computes is its tile of the product, and of the squares. -/
theorem at_point (a b : Fin 1024) (i : S4096x8192.Idx) (h0 : (i 0).val = 1024 * (t.val / 8) + a.val)
    (h1 : (i 1).val = 1024 * (t.val % 8) + b.val) : out0_2 (iblk m c 0 t) (iblk m c 1 t) (ix2 a b)
      = Mat.of (Mat.nn (m ((c : Thread nD τ).loc main_arg0)) (m ((c : Thread nD τ).loc main_arg1))) i :=
  (tile _ _ a b).trans (prod_at m c t a b _ _ h0 h1)

theorem at_point2 (a b : Fin 1024) (i : S4096x8192.Idx) (h0 : (i 0).val = 1024 * (t.val / 8) + a.val)
    (h1 : (i 1).val = 1024 * (t.val % 8) + b.val) : out0_3 (iblk m c 0 t) (iblk m c 1 t) (ix2 a b)
      = Mat.of (fun i j => relu2 (Mat.nn (m ((c : Thread nD τ).loc main_arg0)) (m ((c : Thread nD τ).loc main_arg1)) i j)) i :=
  (tile2 _ _ a b).trans (congrArg relu2 (prod_at m c t a b _ _ h0 h1))

theorem final : (dats m 0 c).arrAt 2 cfg0.N
    = Mat.of (Mat.nn (m ((c : Thread nD τ).loc main_arg0)) (m ((c : Thread nD τ).loc main_arg1))) := by
  refine (dats m 0 c).arrAt_eq_of_covers 2 _ (by decide +kernel) fun t _ y => ?_
  blk_simp
  rw [after0_2]
  refine (congrArg (out0_2 _ _) (Mat.eta y)).trans (at_point m c t _ _ _ ?_ ?_)
  · show win0_2.index t 0 * 1024 + 1 * (y 0).val = _
    rw [idx2 t]; show t.val / 8 * 1024 + 1 * (y 0).val = _; omega
  · show win0_2.index t 1 * 1024 + 1 * (y 1).val = _
    rw [idx2 t]; show t.val % 8 * 1024 + 1 * (y 1).val = _; omega

theorem final2 : (dats m 0 c).arrAt 3 cfg0.N
    = Mat.of (fun i j => relu2 (Mat.nn (m ((c : Thread nD τ).loc main_arg0)) (m ((c : Thread nD τ).loc main_arg1)) i j)) := by
  refine (dats m 0 c).arrAt_eq_of_covers 3 _ (by decide +kernel) fun t _ y => ?_
  blk_simp
  rw [after0_3]
  refine (congrArg (out0_3 _ _) (Mat.eta y)).trans (at_point2 m c t _ _ _ ?_ ?_)
  · show win0_3.index t 0 * 1024 + 1 * (y 0).val = _
    rw [idx3 t]; show t.val / 8 * 1024 + 1 * (y 0).val = _; omega
  · show win0_3.index t 1 * 1024 + 1 * (y 1).val = _
    rw [idx3 t]; show t.val % 8 * 1024 + 1 * (y 1).val = _; omega

end Cert.Kernel4Ideal.Prod

namespace Cert.Reference4Ideal.Prod

open Idealize.ShloMosaic Cert.Reference4Ideal Cert.Reference4Ideal.Gen Cert.Reference4Ideal.Read
open Idealize.ShloMosaic.TcCoe Idealize.SL.Sem

theorem res (x : S4096x2048.Idx → EReal) (w : S2048x8192.Idx → EReal) :
    val_main_v3 (F := Ideal) x w = Mat.of (Mat.nn x w) := Mat.ext fun i j => by
  pointwise [val_main_v3, val_main_v2, val_main_v1, val_main_v0]
  rfl

theorem res2 (x : S4096x2048.Idx → EReal) (w : S2048x8192.Idx → EReal) :
    val_main_v6 (F := Ideal) x w = Mat.of (fun i j => Cert.Kernel4Ideal.Prod.relu2 (Mat.nn x w i j)) := Mat.ext fun i j => by
  pointwise [val_main_v6, val_main_v5, val_main_v4, val_main_v2, val_main_v1, val_main_v0, val_main_call0_v0, val_main_call0_cst]
  rfl

theorem frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := by
  intro m g m' g' _ hagree
  refine ⟨_, _, Cert.Kernel4Ideal.Value.run_blocks m g, ?_⟩
  refine (θ_run Cert.Reference4Ideal.defs _ _).mono (fun r h c => ?_) (Cert.Reference4Ideal.Value.run (F := Ideal) m' g')
  obtain ⟨h0, h1, hargs⟩ := h c
  obtain ⟨a0, a1⟩ := hagree c
  refine ⟨h0.trans ?_, h1.trans ?_, hargs⟩
  · rw [Cert.Reference4Ideal.Read.val_main_v3_eq]
    simp only [StableHlo.launchContents_devRef, a0, a1]
    rw [Cert.Kernel4Ideal.Prod.final]
    exact res _ _
  · rw [Cert.Reference4Ideal.Read.val_main_v6_eq]
    simp only [StableHlo.launchContents_devRef, a0, a1]
    rw [Cert.Kernel4Ideal.Prod.final2]
    exact res2 _ _

end Cert.Reference4Ideal.Prod

end
-- ==== Proof.MlpDown.lean ====
/- The second product of the squared-ReLU MLP: the kernel adds the product of a tile up over two grid points, 4096 columns of the
   activation in each; the reference sums over all 8192 at once. -/
module

public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Mat
public import Idealize.ShloMosaic.Lib.Pipeline.ReadBack
public import proofs.«01_k».proof.Defs

@[expose] public section

set_option maxRecDepth 16384

noncomputable section

namespace Cert.Kernel5Ideal.Prod

open Idealize.ShloMosaic Cert.Kernel5Ideal Cert.Kernel5Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![t.val / 4, t.val % 2] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 4, t.val / 2 % 2] := (by decide +kernel : ∀ t : Fin grid0.N, _)
theorem lt16 (t : Fin cfg0.N) : t.val < 16 := t.isLt

theorem read_x (a : Fin 1024) (k : Fin 4096) (i : Fin 4096) (l : Fin 8192) (h : i.val = 1024 * (t.val / 4) + a.val)
    (hl : l.val = 4096 * (t.val % 2) + k.val) : iblk m c 0 t (ix2 a k) = m ((c : Thread nD τ).loc main_arg0) (ix2 i l) := by
  obtain ⟨i, hi⟩ := i
  obtain ⟨l, hl'⟩ := l
  obtain rfl : i = _ := h
  obtain rfl : l = _ := hl
  blk_point [iblk, V, idx0 t]

theorem read_w (k : Fin 4096) (b : Fin 1024) (l : Fin 8192) (j : Fin 2048) (hl : l.val = 4096 * (t.val % 2) + k.val)
    (h : j.val = 1024 * (t.val / 2 % 2) + b.val) : iblk m c 1 t (ix2 k b) = m ((c : Thread nD τ).loc main_arg1) (ix2 l j) := by
  obtain ⟨j, hj⟩ := j
  obtain ⟨l, hl'⟩ := l
  obtain rfl : j = _ := h
  obtain rfl : l = _ := hl
  blk_point [iblk, V, idx1 t]

/-- The part of the product that one grid point computes. -/
def part (x0 : Vec Ideal S1024x4096 .bf16) (x1 : Vec Ideal S4096x1024 .bf16) (a b : Fin 1024) : EReal :=
  ∑ k : Fin 4096, x0 (ix2 a k) * x1 (ix2 k b)

theorem scratch_A (h : t.val % 2 = 0) (a b : Fin 1024) :
    (outsAt0 m c t.val t.isLt).2 (ix2 a b) = part (iblk m c 0 t) (iblk m c 1 t) a b := by
  rw [outsAt0_A m c t h (by omega) (by omega)]; frame_out
  pointwise [k0_pay1, k0_pay2, part]

theorem out_B (h : t.val % 2 = 1) (a b : Fin 1024) :
    (outsAt0 m c t.val t.isLt).1 (ix2 a b)
      = (outsAt0 m c (t.val - 1) (by omega)).2 (ix2 a b) + part (iblk m c 0 t) (iblk m c 1 t) a b := by
  rw [outsAt0_B m c t (by omega) h h]; frame_out
  pointwise [k0_pay1, k0_pay2, k0_pay3, part]
  exact congrArg (· + _) (congrFun (read_unread_whole (Val := Elt Ideal) cc0_scratch0 (Memref.isWhole_whole _) _) (ix2 a b))

/-- One half of a product over 8192 columns: the first half for `p = 0`, the second for `p = 1`. -/
def half (x : S4096x8192.Idx → EReal) (w : S8192x2048.Idx → EReal) (i : Fin 4096) (j : Fin 2048) (p : Fin 2) : EReal :=
  ∑ k : Fin 4096, x (ix2 i ⟨4096 * p.val + k.val, by omega⟩) * w (ix2 ⟨4096 * p.val + k.val, by omega⟩ j)

theorem halves (x : S4096x8192.Idx → EReal) (w : S8192x2048.Idx → EReal) (i : Fin 4096) (j : Fin 2048) :
    Mat.nn x w i j = half x w i j 0 + half x w i j 1 := by
  refine (Fin.sum_univ_add (a := 4096) (b := 4096) fun l => x (ix2 i l) * w (ix2 l j)).trans ?_
  refine congrArg₂ (· + ·) (Finset.sum_congr rfl fun k _ => ?_) (Finset.sum_congr rfl fun k _ => ?_)
  · have e : (Fin.castAdd 4096 k : Fin (4096 + 4096)) = ⟨4096 * 0 + k.val, by omega⟩ := Fin.ext (by simp)
    rw [e]; rfl
  · have e : (Fin.natAdd 4096 k : Fin (4096 + 4096)) = ⟨4096 * 1 + k.val, by omega⟩ := Fin.ext (by simp [Nat.add_comm])
    rw [e]; rfl

theorem part_at (a b : Fin 1024) (i : Fin 4096) (j : Fin 2048) (p : Fin 2) (h0 : i.val = 1024 * (t.val / 4) + a.val)
    (h1 : j.val = 1024 * (t.val / 2 % 2) + b.val) (hp : t.val % 2 = p.val) : part (iblk m c 0 t) (iblk m c 1 t) a b
      = half (m ((c : Thread nD τ).loc main_arg0)) (m ((c : Thread nD τ).loc main_arg1)) i j p :=
  Finset.sum_congr rfl fun k _ => congrArg₂ (fun p q : EReal => p * q) (read_x m c t a k i _ h0 (by rw [hp]))
    (read_w m c t k b _ j (by rw [hp]) h1)

/-- What a point that writes back leaves: its tile of the product. -/
theorem at_point (h : t.val % 2 = 1) (a b : Fin 1024) (i : S4096x2048.Idx) (h0 : (i 0).val = 1024 * (t.val / 4) + a.val)
    (h1 : (i 1).val = 1024 * (t.val / 2 % 2) + b.val) : (outsAt0 m c t.val t.isLt).1 (ix2 a b)
      = Mat.of (Mat.nn (m ((c : Thread nD τ).loc main_arg0)) (m ((c : Thread nD τ).loc main_arg1))) i := by
  have ht := lt16 t
  refine Eq.trans ?_ (halves _ _ (i 0) (i 1)).symm
  rw [out_B m c t h]
  refine congrArg₂ (· + ·) ((scratch_A m c ⟨t.val - 1, by omega⟩ (by show (t.val - 1) % 2 = 0; omega) a b).trans ?_)
    (part_at m c t a b _ _ 1 h0 h1 h)
  refine part_at m c ⟨t.val - 1, by omega⟩ a b _ _ 0 ?_ ?_ ?_
  · show (i 0).val = 1024 * ((t.val - 1) / 4) + a.val; omega
  · show (i 1).val = 1024 * ((t.val - 1) / 2 % 2) + b.val; omega
  · show (t.val - 1) % 2 = 0; omega

theorem final : (dats m 0 c).arrAt 2 cfg0.N
    = Mat.of (Mat.nn (m ((c : Thread nD τ).loc main_arg0)) (m ((c : Thread nD τ).loc main_arg1))) := by
  refine (dats m 0 c).arrAt_eq_of_cover 2 _ (fun t hf => ?_) (fun i => (Cert.Kernel5Ideal.Value.covered_iff2 i).2 ?_)
  · have hm : t.val % 2 = 1 := (flush0_2 t).mp hf
    rw [Cert.Kernel5Ideal.Value.flushed2]
    funext y
    refine (congrArg (outsAt0 m c t.val t.isLt).1 (Mat.eta y)).trans (at_point m c t hm _ _ _ ?_ ?_)
    · show win0_2.index t 0 * 1024 + 1 * (y 0).val = _
      rw [idx2 t]; show t.val / 4 * 1024 + 1 * (y 0).val = _; omega
    · show win0_2.index t 1 * 1024 + 1 * (y 1).val = _
      rw [idx2 t]; show t.val / 2 % 2 * 1024 + 1 * (y 1).val = _; omega
  · have h0 : (i 0).val < 4096 := (i 0).isLt
    have h1 : (i 1).val < 2048 := (i 1).isLt
    omega

end Cert.Kernel5Ideal.Prod

namespace Cert.Reference5Ideal.Prod

open Idealize.ShloMosaic Cert.Reference5Ideal Cert.Reference5Ideal.Gen Cert.Reference5Ideal.Read
open Idealize.ShloMosaic.TcCoe Idealize.SL.Sem

theorem res (x : S4096x8192.Idx → EReal) (w : S8192x2048.Idx → EReal) :
    val_main_v2 (F := Ideal) x w = Mat.of (Mat.nn x w) := Mat.ext fun i j => by
  pointwise [val_main_v2, val_main_v1, val_main_v0]
  rfl

theorem frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m g m' g' _ hagree
  refine ⟨_, Cert.Kernel5Ideal.Value.run_blocks m g, ?_⟩
  refine (θ_run Cert.Reference5Ideal.defs _ _).mono (fun r h c => ?_) (Cert.Reference5Ideal.Value.run (F := Ideal) m' g')
  obtain ⟨h0, hargs⟩ := h c
  obtain ⟨a0, a1⟩ := hagree c
  refine ⟨h0.trans ?_, hargs⟩
  rw [Cert.Reference5Ideal.Read.val_main_v2_eq]
  simp only [StableHlo.launchContents_devRef, a0, a1]
  rw [Cert.Kernel5Ideal.Prod.final]
  exact res _ _

end Cert.Reference5Ideal.Prod

end
-- ==== Proof.NormSpec.lean ====
/- The gradient of the norm before the MLP or the mixer, row by row: token `s` of sequence `b` is row `2048 b + s`. The form the kernel
   computes and the form differentiation writes are equal, also where the arrays hold infinities. -/
module

public import proofs.«01_k».proof.Proof.Lift

@[expose] public section

noncomputable section

namespace Cert.Norm

open Idealize.ShloMosaic Cert.Spec Cert.Lift

theorem lit_2048 : Ideal.ofBits .f32 0x45000000#32 = ((2048 : ℝ) : EReal) := by
  simp [Ideal.ofBits, Ideal.ieee, -EReal.coe_mul]; norm_num
theorem div2048 (x : ℝ) : Ideal.div (x : EReal) ((2048 : ℝ) : EReal) = ((x / 2048 : ℝ) : EReal) := div_coe (by norm_num) x

/-- The seven arguments by row and channel. -/
structure Data where
  /-- the residual stream before the norm -/
  X : ℕ → ℕ → EReal
  /-- the norm's gain -/
  g : ℕ → EReal
  /-- the scale of the row's sequence -/
  sc : ℕ → ℕ → EReal
  /-- the gradient of the normed, scaled and shifted stream -/
  D : ℕ → ℕ → EReal
  /-- the gradient that arrives along the residual stream -/
  R : ℕ → ℕ → EReal
  /-- the branch -/
  B : ℕ → ℕ → EReal
  /-- the branch's gate of the row's sequence -/
  T : ℕ → ℕ → EReal

namespace Data
variable (P : Data)

/-- The mean square of a row, plus epsilon. -/
def me (n : ℕ) : EReal := Ideal.div (∑ k : Fin 2048, P.X n k * P.X n k) ((2048 : ℝ) : EReal) + (eps6 : EReal)
def r (n : ℕ) : EReal := Ideal.rsqrt (P.me n)
/-- The normed row. -/
def y (n j : ℕ) : EReal := P.X n j * P.r n
def dyg (n j : ℕ) : EReal := P.D n j * (((1 : ℝ) : EReal) + P.sc n j)
def dn (n j : ℕ) : EReal := P.dyg n j * P.g j
def m2 (n : ℕ) : EReal := Ideal.div (∑ k : Fin 2048, P.dn n k * P.y n k) ((2048 : ℝ) : EReal)
def dx (n j : ℕ) : EReal := P.r n * (P.dn n j - P.y n j * P.m2 n)

/-- The gradient of the residual stream. -/
def dxO (n j : ℕ) : EReal := P.dx n j + P.R n j
/-- A row's share of the gain's gradient. -/
def gRow (n j : ℕ) : EReal := P.dyg n j * P.y n j
/-- A row's share of the scale's gradient. -/
def scRow (n j : ℕ) : EReal := P.D n j * (P.y n j * P.g j)
/-- A row's share of the shift's gradient. -/
def shRow (n j : ℕ) : EReal := P.D n j
/-- The branch's gradient. -/
def brO (n j : ℕ) : EReal := P.dxO n j * P.T n j
/-- A row's share of the gate's gradient. -/
def gtRow (n j : ℕ) : EReal := P.dxO n j * P.B n j

/-- The term through the mean square as differentiation writes it, before it meets the row. -/
def cms (n : ℕ) : EReal :=
  Ideal.div ((∑ k : Fin 2048, P.X n k * P.dn n k) * (((-(1 / 2) : ℝ) : EReal) * Ideal.div (P.r n) (P.me n))) ((2048 : ℝ) : EReal)

theorem sq_nonneg (a : EReal) : 0 ≤ a * a := by
  induction a with
  | bot => simp
  | top => simp
  | coe x => rw [← EReal.coe_mul]; exact_mod_cast mul_self_nonneg x

/-- A row is real, or its mean square is infinite. -/
theorem row_cases (n : ℕ) : (∃ x : Fin 2048 → ℝ, ∀ k : Fin 2048, P.X n k = (x k : EReal)) ∨ P.me n = ⊤ := by
  by_cases h : ∃ k : Fin 2048, P.X n k = ⊤ ∨ P.X n k = ⊥
  · right
    obtain ⟨k, hk⟩ := h
    have ht : P.X n k * P.X n k = ⊤ := by rcases hk with hk | hk <;> rw [hk] <;> simp
    have hs : ∑ k : Fin 2048, P.X n k * P.X n k = ⊤ :=
      top_le_iff.1 (ht ▸ Finset.single_le_sum (f := fun k : Fin 2048 => P.X n k * P.X n k) (fun i _ => sq_nonneg _) (Finset.mem_univ k))
    rw [me, hs, Ideal.div_coe (by norm_num), EReal.top_mul_coe_of_pos (by norm_num), EReal.top_add_coe]
  · left
    push Not at h
    exact ⟨fun k => (P.X n k).toReal, fun k => (EReal.coe_toReal (h k).1 (h k).2).symm⟩

/-- A real factor that is not negative goes through a sum. -/
theorem mul_sum_real {ι : Type} [Fintype ι] {c : ℝ} (hc : 0 ≤ c) (f : ι → EReal) : ∑ k, (c : EReal) * f k = (c : EReal) * ∑ k, f k := by
  classical
  have : ∀ s : Finset ι, ∑ k ∈ s, (c : EReal) * f k = (c : EReal) * ∑ k ∈ s, f k := fun s => by
    induction s using Finset.induction_on with
    | empty => simp
    | insert a s ha ih =>
      rw [Finset.sum_insert ha, Finset.sum_insert ha, ih, EReal.left_distrib_of_nonneg_of_ne_top (by exact_mod_cast hc) (EReal.coe_ne_top c)]
  exact this _

/-- Twice a multiple is the doubled multiple, at an infinity too. -/
theorem double (S : EReal) (a : ℝ) : S * (a : EReal) + S * (a : EReal) = S * ((2 * a : ℝ) : EReal) := by
  rcases lt_trichotomy a 0 with ha | rfl | ha
  · induction S with
    | bot => rw [EReal.bot_mul_coe_of_neg ha, EReal.bot_mul_coe_of_neg (by linarith)]; rfl
    | top => rw [EReal.top_mul_coe_of_neg ha, EReal.top_mul_coe_of_neg (by linarith)]; rfl
    | coe x => rw [← EReal.coe_mul, ← EReal.coe_mul, ← EReal.coe_add]; congr 1; ring
  · simp
  · induction S with
    | bot => rw [EReal.bot_mul_coe_of_pos ha, EReal.bot_mul_coe_of_pos (by linarith)]; rfl
    | top => rw [EReal.top_mul_coe_of_pos ha, EReal.top_mul_coe_of_pos (by linarith)]; rfl
    | coe x => rw [← EReal.coe_mul, ← EReal.coe_mul, ← EReal.coe_add]; congr 1; ring

/-- The direct term and twice the half of the term through the mean square are the kernel's form. -/
theorem dx_eq (n : ℕ) (j : Fin 2048) : P.dn n j * P.r n + P.X n j * P.cms n + P.cms n * P.X n j = P.dx n j := by
  rcases P.row_cases n with ⟨x, hx⟩ | ht
  · obtain ⟨m, hm, hme⟩ : ∃ m : ℝ, 0 < m ∧ P.me n = (m : EReal) := by
      refine ⟨(∑ k, x k * x k) / 2048 + eps6, add_pos_of_nonneg_of_pos
        (div_nonneg (Finset.sum_nonneg fun _ _ => mul_self_nonneg _) (by norm_num)) eps6_pos, ?_⟩
      simp only [me, hx, ← EReal.coe_mul, sum_coe, div2048, ← EReal.coe_add]
    have hr : P.r n = (((Real.sqrt m)⁻¹ : ℝ) : EReal) := by rw [r, hme]; exact rsqrt_coe hm
    have hw : Ideal.div (P.r n) (P.me n) = (((Real.sqrt m)⁻¹ * ((Real.sqrt m)⁻¹ * (Real.sqrt m)⁻¹) : ℝ) : EReal) := by
      rw [hr, hme, div_coe hm.ne', Cert.Spec.Data.inv_sqrt_div hm]
    have hρ : 0 ≤ (Real.sqrt m)⁻¹ := inv_nonneg.2 (Real.sqrt_nonneg m)
    rw [cms, dx, m2, hw]
    simp only [y, hr, hx]
    generalize (Real.sqrt m)⁻¹ = ρ at *
    have hS : ∑ k : Fin 2048, P.dn n k * ((x k : EReal) * (ρ : EReal)) = (ρ : EReal) * ∑ k : Fin 2048, (x k : EReal) * P.dn n k := by
      rw [← mul_sum_real hρ]
      exact Finset.sum_congr rfl fun k _ => by rw [mul_comm, mul_comm (x k : EReal) (ρ : EReal), mul_assoc]
    rw [hS]
    generalize (∑ k : Fin 2048, (x k : EReal) * P.dn n k) = S
    rw [Ideal.div_coe (by norm_num), Ideal.div_coe (by norm_num), EReal.mul_sub_of_nonneg_of_ne_top (by exact_mod_cast hρ) (EReal.coe_ne_top ρ)]
    have h1 : (x j : EReal) * (S * (((-(1 / 2) : ℝ) : EReal) * ((ρ * (ρ * ρ) : ℝ) : EReal)) * ((1 / 2048 : ℝ) : EReal))
        = S * ((x j * (-(1 / 2) * (ρ * (ρ * ρ))) * (1 / 2048) : ℝ) : EReal) := by
      simp only [EReal.coe_mul]; ac_rfl
    have h2 : (ρ : EReal) * ((x j : EReal) * (ρ : EReal) * ((ρ : EReal) * S * ((1 / 2048 : ℝ) : EReal)))
        = S * ((ρ * (x j * ρ) * ρ * (1 / 2048) : ℝ) : EReal) := by
      simp only [EReal.coe_mul]; ac_rfl
    rw [mul_comm _ (x j : EReal), h1, h2, add_assoc, double, mul_comm (P.dn n j), sub_eq_add_neg, ← mul_neg, ← EReal.coe_neg]
    congr 3
    ring
  · have hr : P.r n = 0 := by rw [r, ht]; rfl
    rw [cms, dx, hr, Ideal.div_coe (by norm_num)]
    simp [Ideal.div, ht]

end Data

/-- The arguments hold the arrays `P`. -/
structure Holds (P : Data) (x : Fin 2 → Fin 2048 → Fin 2048 → EReal) (g : Fin 2048 → EReal) (sc : Fin 2 → Fin 2048 → EReal)
    (dh dres br : Fin 2 → Fin 2048 → Fin 2048 → EReal) (gate : Fin 2 → Fin 2048 → EReal) : Prop where
  x : ∀ (q : Fin 2) (s j : Fin 2048), x q s j = P.X (2048 * q + s) j
  g : ∀ j : Fin 2048, g j = P.g j
  sc : ∀ (q : Fin 2) (s j : Fin 2048), sc q j = P.sc (2048 * q + s) j
  dh : ∀ (q : Fin 2) (s j : Fin 2048), dh q s j = P.D (2048 * q + s) j
  dres : ∀ (q : Fin 2) (s j : Fin 2048), dres q s j = P.R (2048 * q + s) j
  br : ∀ (q : Fin 2) (s j : Fin 2048), br q s j = P.B (2048 * q + s) j
  gate : ∀ (q : Fin 2) (s j : Fin 2048), gate q j = P.T (2048 * q + s) j

/-- The rows of one sequence. -/
theorem sum_seq (f : ℕ → EReal) (q : ℕ) : ∑ s : Fin 2048, f (2048 * q + s) = ∑ i ∈ Finset.range 2048, f (2048 * q + i) :=
  (Finset.sum_range fun i => f (2048 * q + i)).symm

/-- The rows of both sequences. -/
theorem sum_all (f : ℕ → EReal) : ∑ q : Fin 2, ∑ s : Fin 2048, f (2048 * q + s) = ∑ i ∈ Finset.range 4096, f i := by
  rw [Fin.sum_univ_two, sum_seq f (0 : Fin 2).val, sum_seq f (1 : Fin 2).val, show 4096 = 2048 + 2048 from rfl, Finset.sum_range_add]
  simp

/-- One more block of 256 rows. -/
theorem grow (v : ℕ → EReal) (b k : ℕ) : ∑ i ∈ Finset.range (256 * (k + 1)), v (b + i)
    = (∑ i ∈ Finset.range (256 * k), v (b + i)) + ∑ a : Fin 256, v (b + 256 * k + a) := by
  rw [Nat.mul_succ, Finset.sum_range_add, Finset.sum_range (fun x => v (b + (256 * k + x)))]
  simp only [Nat.add_assoc]

/-- A quantity that starts anew at every `p`-th point at that point's rows and adds every other point's rows is, after each point, the sum
    over the rows since its last start. -/
theorem total {N : ℕ} (p : ℕ) (hp : 0 < p) (f : (n : ℕ) → n < N → EReal) (v : ℕ → EReal)
    (h0 : ∀ t : Fin N, t.val % p = 0 → f t.val t.isLt = ∑ a : Fin 256, v (256 * t.val + a))
    (hs : ∀ t : Fin N, ¬t.val % p = 0 → f t.val t.isLt = f (t.val - 1) (by omega) + ∑ a : Fin 256, v (256 * t.val + a))
    (b : ℕ) : ∀ (k : ℕ) (_ : k < p) (hn : b * p + k < N), f (b * p + k) hn = ∑ i ∈ Finset.range (256 * (k + 1)), v (256 * (b * p) + i)
  | 0, _, hn => by
    rw [grow]
    refine (h0 ⟨b * p + 0, hn⟩ (by simp)).trans ?_
    simp
  | k + 1, hk, hn => by
    rw [grow, ← total p hp f v h0 hs b k (by omega) (by omega)]
    refine (hs ⟨b * p + (k + 1), hn⟩ ?_).trans ?_
    · show ¬(b * p + (k + 1)) % p = 0
      rw [Nat.mul_comm, Nat.mul_add_mod, Nat.mod_eq_of_lt hk]; omega
    · simp only [Nat.mul_add]; rfl

end Cert.Norm
end
-- ==== Proof.LossSpec.lean ====
/- The last norm, the loss and their gradient, row by row: the loss is half the mean square distance of each normed row from its target,
   summed over the rows. Its gradient goes through the norm as in `NormSpec.lean`, with no scale and no other gradient to add. -/
module

public import proofs.«01_k».proof.Proof.NormSpec

@[expose] public section

noncomputable section

namespace Cert.Loss

open Idealize.ShloMosaic Cert.Spec Cert.Lift Cert.Norm

theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_inv2048 : Ideal.ofBits .f32 0x3A000000#32 = ((1 / 2048 : ℝ) : EReal) := by
  simp [Ideal.ofBits, Ideal.ieee, -EReal.coe_mul]; norm_num

/-- The arguments by row and channel. -/
structure Data where
  /-- the residual stream with the last branch added -/
  X : ℕ → ℕ → EReal
  /-- the norm's gain -/
  g : ℕ → EReal
  /-- the target -/
  W : ℕ → ℕ → EReal
  /-- the branch -/
  B : ℕ → ℕ → EReal
  /-- the branch's gate of the row's sequence -/
  T : ℕ → ℕ → EReal

namespace Data
variable (P : Data)

/-- The normed row less its target. -/
def e (n j : ℕ) : EReal :=
  P.X n j * Ideal.rsqrt (Ideal.div (∑ k : Fin 2048, P.X n k * P.X n k) ((2048 : ℝ) : EReal) + (eps6 : EReal)) * P.g j - P.W n j

/-- The norm's gradient at the loss's. -/
def grad : Cert.Norm.Data where
  X := P.X
  g := P.g
  sc _ _ := 0
  D n j := P.e n j * ((1 / 2048 : ℝ) : EReal)
  R _ _ := 0
  B := P.B
  T := P.T

theorem e_eq (n j : ℕ) : P.grad.y n j * P.g j - P.W n j = P.e n j := rfl

theorem dyg_eq (n j : ℕ) : P.grad.dyg n j = P.e n j * ((1 / 2048 : ℝ) : EReal) := by
  simp [Norm.Data.dyg, grad]

theorem dxO_eq (n j : ℕ) : P.grad.dxO n j = P.grad.dx n j := by
  rw [Norm.Data.dxO]; exact add_zero _

/-- A row's share of the loss. -/
def row (n : ℕ) : EReal := ((1 / 4096 : ℝ) : EReal) * ∑ k : Fin 2048, P.e n k * P.e n k

/-- Half of a block's sum, divided, is the sum of the rows' shares. -/
theorem half_div {ι : Type} [Fintype ι] (f : ι → ℕ) :
    Ideal.div (((1 / 2 : ℝ) : EReal) * ∑ a, ∑ k : Fin 2048, P.e (f a) k * P.e (f a) k) ((2048 : ℝ) : EReal) = ∑ a, P.row (f a) := by
  simp only [row]
  rw [Norm.Data.mul_sum_real (by norm_num), Ideal.div_coe (by norm_num), mul_comm, ← mul_assoc, ← EReal.coe_mul]
  congr 2; norm_num

/-- Half of the sum of the rows' means is the sum of their shares. -/
theorem half_mean {ι : Type} [Fintype ι] (f : ι → ℕ) :
    ((1 / 2 : ℝ) : EReal) * ∑ a, Ideal.div (∑ k : Fin 2048, P.e (f a) k * P.e (f a) k) ((2048 : ℝ) : EReal) = ∑ a, P.row (f a) := by
  rw [← Norm.Data.mul_sum_real (by norm_num)]
  refine Finset.sum_congr rfl fun a _ => ?_
  rw [row, Ideal.div_coe (by norm_num), mul_comm (∑ k : Fin 2048, _), ← mul_assoc, ← EReal.coe_mul]
  congr 2; norm_num

/-- The loss's derivative at an entry as differentiation writes it. -/
theorem twice (n j : ℕ) : Ideal.div (((1 / 2 : ℝ) : EReal) * 1) ((2048 : ℝ) : EReal) * (((2 : ℝ) : EReal) * P.e n j) = P.grad.dyg n j := by
  rw [dyg_eq, mul_one, Ideal.div_coe (by norm_num), ← mul_assoc, ← EReal.coe_mul, ← EReal.coe_mul, mul_comm]
  congr 2; norm_num

end Data

/-- The arguments hold the arrays `P`. -/
structure Holds (P : Data) (x : Fin 2 → Fin 2048 → Fin 2048 → EReal) (g : Fin 2048 → EReal) (tgt br : Fin 2 → Fin 2048 → Fin 2048 → EReal)
    (gate : Fin 2 → Fin 2048 → EReal) : Prop where
  x : ∀ (q : Fin 2) (s j : Fin 2048), x q s j + gate q j * br q s j = P.X (2048 * q + s) j
  g : ∀ j : Fin 2048, g j = P.g j
  tgt : ∀ (q : Fin 2) (s j : Fin 2048), tgt q s j = P.W (2048 * q + s) j
  br : ∀ (q : Fin 2) (s j : Fin 2048), br q s j = P.B (2048 * q + s) j
  gate : ∀ (q : Fin 2) (s j : Fin 2048), gate q j = P.T (2048 * q + s) j

end Cert.Loss
end
-- ==== Proof.LossBlk.lean ====
/- What one grid point of the last norm's gradient and the loss computes: each array is, at every index, the value of `LossSpec.lean`'s
   formula at the row. A point takes 256 rows, from row `n`. -/
module

public import proofs.«01_k».proof.Proof.LossSpec
public import proofs.«01_k».proof.Proof.Gen.Kernel19Ideal.Skeleton
public import Idealize.ShloMosaic.Lib.Pointwise

@[expose] public section

set_option maxRecDepth 16384
set_option maxHeartbeats 1000000

noncomputable section

namespace Cert.Loss.Blk

open Idealize.ShloMosaic Cert.Kernel19Ideal Cert.Kernel19Ideal.Gen Cert.Spec Cert.Lift Cert.Loss
open Cert.Norm (lit_2048)

/-- The blocks a point reads. -/
structure Ins where
  x : Vec Ideal S1x256x2048 .f32
  g : Vec Ideal S1x2048 .f32
  tgt : Vec Ideal S1x256x2048 .f32
  br : Vec Ideal S1x256x2048 .f32
  gate : Vec Ideal S1x1x2048 .f32

/-- The blocks hold the rows of `P` from row `n`. -/
structure Reads (P : Data) (n : ℕ) (I : Ins) : Prop where
  x : ∀ (a : Fin 256) (j : Fin 2048), I.x (ix3 0 a j) + I.gate (ix3 0 0 j) * I.br (ix3 0 a j) = P.X (n + a) j
  g : ∀ j : Fin 2048, I.g (ix2 0 j) = P.g j
  tgt : ∀ (a : Fin 256) (j : Fin 2048), I.tgt (ix3 0 a j) = P.W (n + a) j
  br : ∀ (a : Fin 256) (j : Fin 2048), I.br (ix3 0 a j) = P.B (n + a) j
  gate : ∀ (a : Fin 256) (j : Fin 2048), I.gate (ix3 0 0 j) = P.T (n + a) j

namespace Ins
variable (I : Ins)

/-- The inverse root of each row's mean square, the normed rows, and their distances from the target. -/
def r : FVec Ideal S256x1 .f32 := k0_pay6 I.x I.gate I.br
def y : FVec Ideal S256x2048 .f32 := k0_pay7 I.x I.gate I.br
def e : FVec Ideal S256x2048 .f32 := k0_pay8 I.x I.g I.gate I.br I.tgt
/-- The sum of the squared distances. -/
def sq : Ideal .f32 := k0_pay10 I.x I.g I.gate I.br I.tgt

/-- The gradient of the residual stream, as a matrix, and the stored block of it. -/
def dx : FVec Ideal S256x2048 .f32 := k0_pay16 I.g I.r I.y I.e
def dxBlk : FVec Ideal S1x256x2048 .f32 := k0_pay17 I.g I.r I.y I.e
def brBlk : FVec Ideal S1x256x2048 .bf16 := k0_pay1 (k0_pay18 I.g I.r I.y I.e I.gate)

/-- The three sums over rows: as the first point (for the gate, a sequence's first) stores it, and as a later point adds it. -/
def g0 : FVec Ideal S1x2048 .f32 := k0_pay14 I.y I.e
def gS (w : Vec Ideal S1x2048 .f32) : FVec Ideal S1x2048 .f32 := k0_pay15 I.y I.e w
def l0 : FVec Ideal S1x128 .f32 := k0_pay11 k0_pay9 I.sq (Ideal.ofBits .f32 0x3F000000#32)
def lS (w : Vec Ideal S1x128 .f32) : FVec Ideal S1x128 .f32 := k0_pay12 k0_pay9 I.sq (Ideal.ofBits .f32 0x3F000000#32) w
def gt0 : FVec Ideal S1x1x2048 .f32 := k0_pay3 I.dx I.br
def gtS (w : Vec Ideal S1x1x2048 .f32) : FVec Ideal S1x1x2048 .f32 := k0_pay4 I.dx I.br w

variable {I} {P : Data} {n : ℕ} (H : Reads P n I)
include H

theorem x_at (a : Fin 256) (j : Fin 2048) : k0_pay5 I.x I.gate I.br (ix2 a j) = P.X (n + a) j := by
  pointwise [k0_pay5]
  exact H.x a j

theorem r_at (a : Fin 256) : I.r (ix2 a 0) = P.grad.r (n + a) := by
  pointwise [r, k0_pay6]
  simp only [x_at H, lit_2048, lit_eps6]
  rfl

theorem y_at (a : Fin 256) (j : Fin 2048) : I.y (ix2 a j) = P.grad.y (n + a) j := by
  have h := r_at H a
  unfold r at h
  pointwise [y, k0_pay7]
  rw [x_at H, h]
  rfl

theorem e_at (a : Fin 256) (j : Fin 2048) : I.e (ix2 a j) = P.e (n + a) j := by
  have h := y_at H a j
  unfold y at h
  pointwise [e, k0_pay8]
  rw [h, H.g, H.tgt, Data.e_eq]

theorem sq_eq : I.sq = ∑ a : Fin 256, ∑ k : Fin 2048, P.e (n + a) k * P.e (n + a) k := by
  have h := e_at H
  unfold e at h
  pointwise [sq, k0_pay10]
  simp only [h]

theorem dyg_at (a : Fin 256) (j : Fin 2048) : k0_pay13 I.e (ix2 a j) = P.grad.dyg (n + a) j := by
  pointwise [k0_pay13]
  rw [e_at H, lit_inv2048, Data.dyg_eq]

theorem dx_at (a : Fin 256) (j : Fin 2048) : I.dx (ix2 a j) = P.grad.dxO (n + a) j := by
  rw [Data.dxO_eq]
  pointwise [dx, k0_pay16]
  simp only [dyg_at H, H.g, y_at H, r_at H, lit_2048]
  rfl

theorem dxBlk_at (a : Fin 256) (j : Fin 2048) : I.dxBlk (ix3 0 a j) = P.grad.dxO (n + a) j := by
  rw [← dx_at H]
  pointwise [dxBlk, k0_pay17, dx]

theorem brBlk_at (a : Fin 256) (j : Fin 2048) : I.brBlk (ix3 0 a j) = P.grad.brO (n + a) j := by
  have h := dx_at H a j
  unfold dx at h
  pointwise [brBlk, k0_pay1, k0_pay18]
  rw [h, H.gate a]
  rfl

theorem g0_at (j : Fin 2048) : I.g0 (ix2 0 j) = ∑ a : Fin 256, P.grad.gRow (n + a) j := by
  pointwise [g0, k0_pay14]
  simp only [dyg_at H, y_at H, Norm.Data.gRow]

theorem gS_at (w : Vec Ideal S1x2048 .f32) (j : Fin 2048) : I.gS w (ix2 0 j) = w (ix2 0 j) + ∑ a : Fin 256, P.grad.gRow (n + a) j := by
  rw [← g0_at H]
  pointwise [gS, k0_pay15, g0]

theorem l0_at (j : Fin 128) : I.l0 (ix2 0 j) = ∑ a : Fin 256, P.row (n + a) := by
  rw [← P.half_div, ← sq_eq H]
  pointwise [l0, k0_pay11, k0_pay9]
  simp only [lit_half, lit_2048]

theorem lS_at (w : Vec Ideal S1x128 .f32) (j : Fin 128) : I.lS w (ix2 0 j) = w (ix2 0 j) + ∑ a : Fin 256, P.row (n + a) := by
  rw [← l0_at H j]
  pointwise [lS, k0_pay12, l0]

theorem gt0_at (j : Fin 2048) : I.gt0 (ix3 0 0 j) = ∑ a : Fin 256, P.grad.gtRow (n + a) j := by
  pointwise [gt0, k0_pay3, k0_pay2]
  simp only [dx_at H, H.br]
  rfl

theorem gtS_at (w : Vec Ideal S1x1x2048 .f32) (j : Fin 2048) : I.gtS w (ix3 0 0 j) = w (ix3 0 0 j) + ∑ a : Fin 256, P.grad.gtRow (n + a) j := by
  rw [← gt0_at H]
  pointwise [gtS, k0_pay4, gt0, k0_pay3]

end Ins

end Cert.Loss.Blk
end
-- ==== Proof.LossArr.lean ====
/- The five result arrays of the last norm's gradient and the loss, in closed form: what each point reads, what the buffers hold after it,
   and what is written back. The sums for the gain and the loss start at the first point, the gate's at the first point of each sequence. -/
module

public import proofs.«01_k».proof.Proof.LossBlk
public import proofs.«01_k».proof.Proof.Gen.Kernel19Ideal.Value
public import Idealize.ShloMosaic.Lib.Pipeline.ValueKit
public import Idealize.ShloMosaic.Lib.Claim

@[expose] public section

set_option maxRecDepth 16384
set_option maxHeartbeats 4000000

noncomputable section

namespace Cert.Loss.Blk

open Idealize.ShloMosaic Cert.Kernel19Ideal Cert.Kernel19Ideal.Gen Cert.Loss
open Cert.Norm (total)
open Idealize.ShloMosaic.TcCoe Idealize.SL.Sem
open Idealize.ShloMosaic.Pipeline (Dat)

variable (m : (ℓ : Loc nD τ sig) → Buf (Elt Ideal) ℓ) (c : Dev nD)

/-- The kernel's arguments hold the arrays `P`. -/
abbrev KHolds (P : Data) : Prop :=
  Holds P (fun q s j => m ((c : Thread nD τ).loc main_arg0) (ix3 q s j)) (fun j => m ((c : Thread nD τ).loc main_arg1) (ix2 0 j))
    (fun q s j => m ((c : Thread nD τ).loc main_arg2) (ix3 q s j)) (fun q s j => m ((c : Thread nD τ).loc main_arg3) (ix3 q s j))
    (fun q j => m ((c : Thread nD τ).loc main_arg4) (ix3 q 0 j))

/-! ## What a point reads -/

theorem lt16 (t : Fin cfg0.N) : t.val < 16 := t.isLt
theorem idx0 : ∀ t : Fin cfg0.N, win0_0.index t = ![t.val / 8, t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, 0, 0] := (by decide +kernel : ∀ t : Fin grid0.N, _)

/-- The sequence of a point's rows, and a row's token. -/
abbrev seq (t : Fin cfg0.N) : Fin 2 := ⟨t.val / 8, by have := lt16 t; omega⟩
abbrev tok (t : Fin cfg0.N) (a : Fin 256) : Fin 2048 := ⟨256 * (t.val % 8) + a.val, by omega⟩

theorem row (t : Fin cfg0.N) (a : Fin 256) : 2048 * (seq t).val + (tok t a).val = 256 * t.val + a.val := by
  show 2048 * (t.val / 8) + (256 * (t.val % 8) + a.val) = _; omega

theorem read0 (t : Fin cfg0.N) (a : Fin 256) (j : Fin 2048) : iblk m c 0 t (ix3 0 a j) = m ((c : Thread nD τ).loc main_arg0) (ix3 (seq t) (tok t a) j) := by
  blk_point [iblk, V, idx0 t]
theorem read1 (t : Fin cfg0.N) (j : Fin 2048) : iblk m c 1 t (ix2 0 j) = m ((c : Thread nD τ).loc main_arg1) (ix2 0 j) := by
  blk_point [iblk, V, idx1 t]
theorem read2 (t : Fin cfg0.N) (a : Fin 256) (j : Fin 2048) : iblk m c 2 t (ix3 0 a j) = m ((c : Thread nD τ).loc main_arg2) (ix3 (seq t) (tok t a) j) := by
  blk_point [iblk, V, idx2 t]
theorem read3 (t : Fin cfg0.N) (a : Fin 256) (j : Fin 2048) : iblk m c 3 t (ix3 0 a j) = m ((c : Thread nD τ).loc main_arg3) (ix3 (seq t) (tok t a) j) := by
  blk_point [iblk, V, idx3 t]
theorem read4 (t : Fin cfg0.N) (j : Fin 2048) : iblk m c 4 t (ix3 0 0 j) = m ((c : Thread nD τ).loc main_arg4) (ix3 (seq t) 0 j) := by
  blk_point [iblk, V, idx4 t]

/-- What point `t` reads. -/
def ins (t : Fin cfg0.N) : Ins := ⟨iblk m c 0 t, iblk m c 1 t, iblk m c 2 t, iblk m c 3 t, iblk m c 4 t⟩

/-! ## What a point leaves -/

theorem outs_first (t : Fin cfg0.N) (h : t.val % 16 = 0) : outsAt0 m c t.val t.isLt
    = ((ins m c t).dxBlk, (ins m c t).g0, (ins m c t).l0, (ins m c t).brBlk, (ins m c t).gt0) := by
  have hN := lt16 t
  rw [outsAt0_A m c t h (by omega) h (by omega) (by omega) (by omega)]
  frame_out
  rfl

theorem outs_second (t : Fin cfg0.N) (h : t.val % 8 = 0) (h' : ¬t.val % 16 = 0) : outsAt0 m c t.val t.isLt
    = ((ins m c t).dxBlk, (ins m c t).gS (outsAt0 m c (t.val - 1) (by omega)).2.1, (ins m c t).lS (outsAt0 m c (t.val - 1) (by omega)).2.2.1,
      (ins m c t).brBlk, (ins m c t).gt0) := by
  have hN := lt16 t
  rw [outsAt0_C m c t h' (by omega) h' (by omega) h (by omega)]
  frame_out
  rfl

theorem outs_later (t : Fin cfg0.N) (h : ¬t.val % 8 = 0) : outsAt0 m c t.val t.isLt
    = ((ins m c t).dxBlk, (ins m c t).gS (outsAt0 m c (t.val - 1) (by omega)).2.1, (ins m c t).lS (outsAt0 m c (t.val - 1) (by omega)).2.2.1,
      (ins m c t).brBlk, (ins m c t).gtS (outsAt0 m c (t.val - 1) (by omega)).2.2.2.2) := by
  have hN := lt16 t
  rw [outsAt0_B m c t (by omega) (by omega) (by omega) (by omega) h (by omega)]
  frame_out
  rfl

/-- Whatever the point, the two blocks it stores whole are its own. -/
theorem out_own (t : Fin cfg0.N) : (outsAt0 m c t.val t.isLt).1 = (ins m c t).dxBlk ∧ (outsAt0 m c t.val t.isLt).2.2.2.1 = (ins m c t).brBlk := by
  by_cases h : t.val % 16 = 0
  · rw [outs_first m c t h]; exact ⟨rfl, rfl⟩
  by_cases h' : t.val % 8 = 0
  · rw [outs_second m c t h' h]; exact ⟨rfl, rfl⟩
  · rw [outs_later m c t h']; exact ⟨rfl, rfl⟩

/-- Past the first point the sums for the gain and the loss go on. -/
theorem out_add (t : Fin cfg0.N) (h : ¬t.val % 16 = 0) : (outsAt0 m c t.val t.isLt).2.1 = (ins m c t).gS (outsAt0 m c (t.val - 1) (by omega)).2.1
    ∧ (outsAt0 m c t.val t.isLt).2.2.1 = (ins m c t).lS (outsAt0 m c (t.val - 1) (by omega)).2.2.1 := by
  by_cases h' : t.val % 8 = 0
  · rw [outs_second m c t h' h]; exact ⟨rfl, rfl⟩
  · rw [outs_later m c t h']; exact ⟨rfl, rfl⟩

/-- The gate's sum starts anew with a sequence. -/
theorem out_gate (t : Fin cfg0.N) (h : t.val % 8 = 0) : (outsAt0 m c t.val t.isLt).2.2.2.2 = (ins m c t).gt0 := by
  by_cases h' : t.val % 16 = 0
  · rw [outs_first m c t h']
  · rw [outs_second m c t h h']

variable {m c} {P : Data} (H : KHolds m c P)
include H

/-- Point `t` reads rows from `256 t`. -/
theorem reads (t : Fin cfg0.N) : Reads P (256 * t.val) (ins m c t) where
  x a j := (congrArg₂ (fun u v : EReal => u + v) (read0 m c t a j) (congrArg₂ (fun u v : EReal => u * v) (read4 m c t j) (read3 m c t a j))).trans
    ((H.x _ _ j).trans (by rw [row]))
  g j := (read1 m c t j).trans (H.g j)
  tgt a j := (read2 m c t a j).trans ((H.tgt _ _ j).trans (by rw [row]))
  br a j := (read3 m c t a j).trans ((H.br _ _ j).trans (by rw [row]))
  gate a j := (read4 m c t j).trans ((H.gate _ (tok t a) j).trans (by rw [row]))

/-! ## The two gradients stored block by block -/

omit H in
theorem idx5 : ∀ t : Fin cfg0.N, win0_5.index t = ![t.val / 8, t.val % 8, 0] := (by decide +kernel : ∀ t : Fin grid0.N, _)
omit H in
theorem idx8 : ∀ t : Fin cfg0.N, win0_8.index t = ![t.val / 8, t.val % 8, 0] := (by decide +kernel : ∀ t : Fin grid0.N, _)

omit H in
theorem blk_eta (y : S1x256x2048.Idx) : y = ix3 0 (y 1) (y 2) := by
  funext a; fin_cases a
  · exact Subsingleton.elim (α := Fin 1) _ _
  · rfl
  · rfl

omit H in
theorem row_eta (y : S1x1x2048.Idx) : y = ix3 0 0 (y 2) := by
  funext a; fin_cases a
  · exact Subsingleton.elim (α := Fin 1) _ _
  · exact Subsingleton.elim (α := Fin 1) _ _
  · rfl

theorem final_dx (q : Fin 2) (s j : Fin 2048) : (dats m 0 c).arrAt 5 cfg0.N (ix3 q s j) = P.grad.dxO (2048 * q + s) j := by
  have : (dats m 0 c).arrAt 5 cfg0.N = fun i : S2x2048x2048.Idx => P.grad.dxO (2048 * (i 0).val + (i 1).val) (i 2).val := by
    refine (dats m 0 c).arrAt_eq_of_covers 5 _ (by decide +kernel) fun t _ y => ?_
    blk_simp
    rw [after0_5, (out_own m c t).1, idx5 t]
    refine (congrArg (ins m c t).dxBlk (blk_eta y)).trans ((Ins.dxBlk_at (reads H t) (y 1) (y 2)).trans ?_)
    refine congrArg₂ P.grad.dxO ?_ ?_
    · show 256 * t.val + (y 1).val = 2048 * (t.val / 8) + (t.val % 8 * 256 + (y 1).val); omega
    · show (y 2).val = 0 * 2048 + (y 2).val; omega
  rw [this]
  rfl

theorem final_br (q : Fin 2) (s j : Fin 2048) : (dats m 0 c).arrAt 8 cfg0.N (ix3 q s j) = P.grad.brO (2048 * q + s) j := by
  have : (dats m 0 c).arrAt 8 cfg0.N = fun i : S2x2048x2048.Idx => P.grad.brO (2048 * (i 0).val + (i 1).val) (i 2).val := by
    refine (dats m 0 c).arrAt_eq_of_covers 8 _ (by decide +kernel) fun t _ y => ?_
    blk_simp
    rw [after0_8, (out_own m c t).2, idx8 t]
    refine (congrArg (ins m c t).brBlk (blk_eta y)).trans ((Ins.brBlk_at (reads H t) (y 1) (y 2)).trans ?_)
    refine congrArg₂ P.grad.brO ?_ ?_
    · show 256 * t.val + (y 1).val = 2048 * (t.val / 8) + (t.val % 8 * 256 + (y 1).val); omega
    · show (y 2).val = 0 * 2048 + (y 2).val; omega
  rw [this]
  rfl

/-! ## The three sums over rows -/

/-- The last point. -/
abbrev t15 : Fin cfg0.N := ⟨15, by decide⟩

theorem final_g (j : Fin 2048) : (dats m 0 c).arrAt 6 cfg0.N (ix2 0 j) = ∑ i ∈ Finset.range 4096, P.grad.gRow i j := by
  rw [show (dats m 0 c).arrAt 6 cfg0.N = (outsAt0 m c 15 t15.isLt).2.1 from
    (dats m 0 c).arrAt_eq_of_after_last 6 t15 (by decide +kernel) _ fun j => by blk_simp; rw [after0_6]]
  refine (total 16 (by omega) (fun n hn => (outsAt0 m c n hn).2.1 (ix2 0 j)) (fun n => P.grad.gRow n j) (fun t h => ?_) (fun t h => ?_) 0 15 (by omega) t15.isLt).trans ?_
  · exact (congrFun (congrArg (·.2.1) (outs_first m c t h)) _).trans (Ins.g0_at (reads H t) j)
  · exact (congrFun (out_add m c t h).1 _).trans (Ins.gS_at (reads H t) _ j)
  · simp

theorem final_loss (j : Fin 128) : (dats m 0 c).arrAt 7 cfg0.N (ix2 0 j) = ∑ i ∈ Finset.range 4096, P.row i := by
  rw [show (dats m 0 c).arrAt 7 cfg0.N = (outsAt0 m c 15 t15.isLt).2.2.1 from
    (dats m 0 c).arrAt_eq_of_after_last 7 t15 (by decide +kernel) _ fun j => by blk_simp; rw [after0_7]]
  refine (total 16 (by omega) (fun n hn => (outsAt0 m c n hn).2.2.1 (ix2 0 j)) P.row (fun t h => ?_) (fun t h => ?_) 0 15 (by omega) t15.isLt).trans ?_
  · exact (congrFun (congrArg (·.2.2.1) (outs_first m c t h)) _).trans (Ins.l0_at (reads H t) j)
  · exact (congrFun (out_add m c t h).2 _).trans (Ins.lS_at (reads H t) _ j)
  · simp

omit H in
/-- The last point of a sequence. -/
theorem last8 (t : Fin cfg0.N) (h : t.val % 8 = 7) : t.val = t.val / 8 * 8 + 7 := by omega

theorem sum_gt (t : Fin cfg0.N) (h : t.val % 8 = 7) (j : Fin 2048) :
    (outsAt0 m c t.val t.isLt).2.2.2.2 (ix3 0 0 j) = ∑ i ∈ Finset.range 2048, P.grad.gtRow (2048 * (t.val / 8) + i) j := by
  have e := total 8 (by omega) (fun n hn => (outsAt0 m c n hn).2.2.2.2 (ix3 0 0 j)) (fun n => P.grad.gtRow n j)
    (fun t h => (congrFun (out_gate m c t h) _).trans (Ins.gt0_at (reads H t) j))
    (fun t h => (congrFun (congrArg (·.2.2.2.2) (outs_later m c t h)) _).trans (Ins.gtS_at (reads H t) _ j)) (t.val / 8) 7 (by omega) (by rw [← last8 t h]; exact t.isLt)
  simp only [← last8 t h] at e
  refine e.trans (Finset.sum_congr rfl fun i _ => ?_)
  congr 2; omega

omit H in
theorem idx9 : ∀ t : Fin cfg0.N, win0_9.index t = ![t.val / 8, 0, 0] := (by decide +kernel : ∀ t : Fin grid0.N, _)
omit H in
/-- The points at which the gate's sum is written back. -/
theorem flush9 : ∀ t : Fin cfg0.N, (cfg0.win 9).flush t = true → t.val % 8 = 7 := (by decide +kernel : ∀ t : Fin grid0.N, _)

theorem final_gt (q : Fin 2) (j : Fin 2048) : (dats m 0 c).arrAt 9 cfg0.N (ix3 q 0 j) = ∑ i ∈ Finset.range 2048, P.grad.gtRow (2048 * q + i) j := by
  have : (dats m 0 c).arrAt 9 cfg0.N = fun y : S2x1x2048.Idx => ∑ i ∈ Finset.range 2048, P.grad.gtRow (2048 * (y 0).val + i) (y 2).val := by
    refine (dats m 0 c).arrAt_eq_of_covers 9 _ (by decide +kernel) fun t hf y => ?_
    blk_simp
    rw [after0_9, idx9 t]
    refine (congrArg (outsAt0 m c t.val t.isLt).2.2.2.2 (row_eta y)).trans ((sum_gt H t (flush9 t hf) (y 2)).trans (Finset.sum_congr rfl fun i _ => ?_))
    refine congrArg₂ P.grad.gtRow ?_ ?_
    · rfl
    · show (y 2).val = 0 * 2048 + (y 2).val; omega
  rw [this]
  rfl

end Cert.Loss.Blk
end
-- ==== Proof.LossRef.lean ====
/- The reference of the last norm, the loss and their gradient: its five results by row and channel. -/
module

public import proofs.«01_k».proof.Proof.Gen.Reference19Ideal.Read
public import proofs.«01_k».proof.Proof.LossSpec
public import proofs.«01_k».proof.Proof.RefSum
public import Idealize.ShloMosaic.Lib.Pointwise

@[expose] public section

set_option maxRecDepth 16384
set_option maxHeartbeats 1000000

noncomputable section

namespace Cert.Loss.Ref

open Idealize.ShloMosaic Cert.Reference19Ideal Cert.Reference19Ideal.Read Cert.Spec Cert.Lift Cert.Loss
open Cert.Norm (lit_2048 sum_seq sum_all)
open Cert.ReferenceIdeal.Ref (lit_neg_half sum_lead_r3)

variable {P : Data}
variable {x0 : (⟨S2x2048x2048, .f32⟩ : BufTy).Contents (Elt Ideal)} {x1 : (⟨S1x2048, .f32⟩ : BufTy).Contents (Elt Ideal)}
  {x2 x3 : (⟨S2x2048x2048, .f32⟩ : BufTy).Contents (Elt Ideal)} {x4 : (⟨S2x1x2048, .f32⟩ : BufTy).Contents (Elt Ideal)}

/-- The reference's arguments hold the arrays `P`. -/
abbrev RHolds (P : Data) (x0 : (⟨S2x2048x2048, .f32⟩ : BufTy).Contents (Elt Ideal)) (x1 : (⟨S1x2048, .f32⟩ : BufTy).Contents (Elt Ideal))
    (x2 x3 : (⟨S2x2048x2048, .f32⟩ : BufTy).Contents (Elt Ideal)) (x4 : (⟨S2x1x2048, .f32⟩ : BufTy).Contents (Elt Ideal)) : Prop :=
  Holds P (fun q s j => x0 (ix3 q s j)) (fun j => x1 (ix2 0 j)) (fun q s j => x2 (ix3 q s j)) (fun q s j => x3 (ix3 q s j)) (fun q j => x4 (ix3 q 0 j))

variable (H : RHolds P x0 x1 x2 x3 x4)
include H

theorem x_at (q : Fin 2) (s j : Fin 2048) : val_main_v2 (F := Ideal) x0 x3 x4 (ix3 q s j) = P.X (2048 * q + s) j := by
  pointwise [val_main_v2, val_main_v1, val_main_v0]
  exact H.x q s j

theorem me_at (q : Fin 2) (s : Fin 2048) : val_main_v9 (F := Ideal) x0 x3 x4 (ix3 q s 0) = P.grad.me (2048 * q + s) := by
  pointwise [val_main_v9, val_main_v8, val_main_v7, val_main_v6, val_main_v5, val_main_v4, val_main_v3, val_main_cst, val_main_cst_0, val_main_cst_1]
  simp only [x_at H, lit_2048, lit_eps6]
  rfl

theorem r_at (q : Fin 2) (s : Fin 2048) : val_main_v10 (F := Ideal) x0 x3 x4 (ix3 q s 0) = P.grad.r (2048 * q + s) := by
  pointwise [val_main_v10]
  rw [me_at H]
  rfl

theorem y_at (q : Fin 2) (s j : Fin 2048) : val_main_v15 (F := Ideal) x0 x3 x4 (ix3 q s j) = P.grad.y (2048 * q + s) j := by
  pointwise [val_main_v15, val_main_v14]
  rw [x_at H, r_at H]
  rfl

theorem e_at (q : Fin 2) (s j : Fin 2048) : val_main_v19 (F := Ideal) x0 x1 x2 x3 x4 (ix3 q s j) = P.e (2048 * q + s) j := by
  pointwise [val_main_v19, val_main_v18, val_main_v17, val_main_v16]
  rw [y_at H, H.g, H.tgt, Data.e_eq]

theorem dyg_at (q : Fin 2) (s j : Fin 2048) : val_main_v33 (F := Ideal) x0 x1 x2 x3 x4 (ix3 q s j) = P.grad.dyg (2048 * q + s) j := by
  rw [← Data.twice]
  pointwise [val_main_v33, val_main_v32, val_main_v31, val_main_v30, val_main_v29, val_main_v28, val_main_v22, val_main_v21,
    val_main_cst_3, val_main_cst_8, val_main_cst_9, val_main_cst_10]
  simp only [e_at H, lit_2048, lit_half, lit_two]

theorem dn_at (q : Fin 2) (s j : Fin 2048) : val_main_v38 (F := Ideal) x0 x1 x2 x3 x4 (ix3 q s j) = P.grad.dn (2048 * q + s) j := by
  pointwise [val_main_v38, val_main_v37, val_main_v16]
  rw [dyg_at H, H.g]
  rfl

theorem cms_at (q : Fin 2) (s j : Fin 2048) : val_main_v50 (F := Ideal) x0 x1 x2 x3 x4 (ix3 q s j) = P.grad.cms (2048 * q + s) := by
  pointwise [val_main_v50, val_main_v49, val_main_v48, val_main_v47, val_main_v46, val_main_v43, val_main_v42, val_main_v41,
    val_main_v13, val_main_v12, val_main_v11, val_main_cst_2, val_main_cst_13, val_main_cst_14, val_main_cst_15]
  simp only [Fin.sum_univ_one, x_at H, dn_at H, me_at H, r_at H, lit_neg_half, lit_2048]
  rfl

theorem dx_at (q : Fin 2) (s j : Fin 2048) :
    val_main_v54 (F := Ideal) x0 x1 x2 x3 x4 (ix3 q s j) = P.grad.dxO (2048 * q + s) j := by
  rw [Data.dxO_eq, ← P.grad.dx_eq]
  pointwise [val_main_v54, val_main_v53, val_main_v52, val_main_v51, val_main_v45, val_main_v44]
  simp only [x_at H, dn_at H, r_at H, cms_at H]
  rfl

theorem dbr_at (q : Fin 2) (s j : Fin 2048) :
    val_main_v61 (F := Ideal) x0 x1 x2 x3 x4 (ix3 q s j) = P.grad.brO (2048 * q + s) j := by
  pointwise [val_main_v61, val_main_v56, val_main_v55]
  rw [dx_at H, H.gate q s, mul_comm]
  rfl

theorem dgt_at (q : Fin 2) (j : Fin 2048) :
    val_main_v59 (F := Ideal) x0 x1 x2 x3 x4 (ix3 q 0 j) = ∑ i ∈ Finset.range 2048, P.grad.gtRow (2048 * q + i) j := by
  rw [← sum_seq fun n => P.grad.gtRow n j]
  pointwise [val_main_v59, val_main_v58, val_main_v57, val_main_cst_16]
  simp only [dx_at H, H.br]
  rfl

theorem dg_at (j : Fin 2048) :
    val_main_v40 (F := Ideal) x0 x1 x2 x3 x4 (ix2 0 j) = ∑ i ∈ Finset.range 4096, P.grad.gRow i j := by
  rw [← sum_all fun n => P.grad.gRow n j]
  pointwise [val_main_v40, val_main_v39, val_main_v36, val_main_v35, val_main_v34, val_main_cst_11, val_main_cst_12, sum_lead_r3]
  simp only [Fin.sum_univ_one, y_at H, dyg_at H, Norm.Data.gRow, mul_comm (Norm.Data.dyg _ _ _)]

theorem loss_at (j : Fin 128) :
    val_main_v60 (F := Ideal) x0 x1 x2 x3 x4 (ix2 0 j) = ∑ i ∈ Finset.range 4096, P.row i := by
  rw [← sum_all fun n => P.row n, ← Fintype.sum_prod_type']
  rw [← P.half_mean fun a : Fin 2 × Fin 2048 => 2048 * a.1 + a.2, Fintype.sum_prod_type]
  pointwise [val_main_v60, val_main_v27, val_main_v26, val_main_v25, val_main_v24, val_main_v23, val_main_v20,
    val_main_cst_4, val_main_cst_5, val_main_cst_6, val_main_cst_7]
  simp only [e_at H, lit_half, lit_2048]

end Cert.Loss.Ref
end
-- ==== Proof.NormBlk.lean ====
/- What one grid point of the gradient of the norm before the MLP computes, at finite arguments: each array is, at every index, the
   value of `NormSpec.lean`'s formula at the row. A point takes 256 rows, from row `n`. -/
module

public import proofs.«01_k».proof.Proof.NormSpec
public import proofs.«01_k».proof.Proof.Gen.Kernel16Ideal.Skeleton
public import Idealize.ShloMosaic.Lib.Pointwise

@[expose] public section

set_option maxRecDepth 16384
set_option maxHeartbeats 1000000

noncomputable section

namespace Cert.Norm.Blk

open Idealize.ShloMosaic Cert.Kernel16Ideal Cert.Kernel16Ideal.Gen Cert.Spec Cert.Lift Cert.Norm

/-- The blocks a point reads. -/
structure Ins where
  x : Vec Ideal S1x256x2048 .f32
  g : Vec Ideal S1x2048 .f32
  sc : Vec Ideal S1x1x2048 .f32
  dh : Vec Ideal S1x256x2048 .bf16
  dres : Vec Ideal S1x256x2048 .f32
  br : Vec Ideal S1x256x2048 .f32
  gate : Vec Ideal S1x1x2048 .f32

/-- The blocks hold the rows of `P` from row `n`. -/
structure Reads (P : Data) (n : ℕ) (I : Ins) : Prop where
  x : ∀ (a : Fin 256) (j : Fin 2048), I.x (ix3 0 a j) = (P.X (n + a) j : EReal)
  g : ∀ j : Fin 2048, I.g (ix2 0 j) = (P.g j : EReal)
  sc : ∀ (a : Fin 256) (j : Fin 2048), I.sc (ix3 0 0 j) = (P.sc (n + a) j : EReal)
  dh : ∀ (a : Fin 256) (j : Fin 2048), I.dh (ix3 0 a j) = (P.D (n + a) j : EReal)
  dres : ∀ (a : Fin 256) (j : Fin 2048), I.dres (ix3 0 a j) = P.R (n + a) j
  br : ∀ (a : Fin 256) (j : Fin 2048), I.br (ix3 0 a j) = P.B (n + a) j
  gate : ∀ (a : Fin 256) (j : Fin 2048), I.gate (ix3 0 0 j) = P.T (n + a) j

namespace Ins
variable (I : Ins)

/-- The gradient of the residual stream, as a matrix. -/
def dx : FVec Ideal S256x2048 .f32 := k0_pay18 I.g (k0_pay6 I.x) (k0_pay7 I.x) (k0_pay8 I.dh) I.sc I.dres
/-- The stored block of it. -/
def dxBlk : FVec Ideal S1x256x2048 .f32 := k0_pay19 I.g (k0_pay6 I.x) (k0_pay7 I.x) (k0_pay8 I.dh) I.sc I.dres
def brBlk : FVec Ideal S1x256x2048 .bf16 := k0_pay1 I.dx I.gate

/-- The four sums over rows: as a sequence's first point (for the gain, the first of all) stores it, and as a later point adds it. -/
def g0 : FVec Ideal S1x2048 .f32 := k0_pay16 (k0_pay7 I.x) (k0_pay8 I.dh) I.sc
def gS (w : Vec Ideal S1x2048 .f32) : FVec Ideal S1x2048 .f32 := k0_pay17 (k0_pay7 I.x) (k0_pay8 I.dh) I.sc w
def sc0 : FVec Ideal S1x1x2048 .f32 := k0_pay13 I.x I.g I.dh
def scS (w : Vec Ideal S1x1x2048 .f32) : FVec Ideal S1x1x2048 .f32 := k0_pay14 (k0_pay12 I.x I.g I.dh) w
def sh0 : FVec Ideal S1x1x2048 .f32 := k0_pay10 I.dh
def shS (w : Vec Ideal S1x1x2048 .f32) : FVec Ideal S1x1x2048 .f32 := k0_pay11 I.dh w
def gt0 : FVec Ideal S1x1x2048 .f32 := k0_pay3 I.dx I.br
def gtS (w : Vec Ideal S1x1x2048 .f32) : FVec Ideal S1x1x2048 .f32 := k0_pay4 I.dx I.br w

variable {I} {P : Data} {n : ℕ} (H : Reads P n I)
include H

theorem r_at (a : Fin 256) : k0_pay6 I.x (ix2 a 0) = P.r (n + a) := by
  pointwise [k0_pay6, k0_pay5]
  simp only [H.x, lit_2048, lit_eps6, Data.r, Data.me]

theorem y_at (a : Fin 256) (j : Fin 2048) : k0_pay7 I.x (ix2 a j) = P.y (n + a) j := by
  pointwise [k0_pay7, k0_pay5]
  simp only [H.x, r_at H, Data.y]

theorem d_at (a : Fin 256) (j : Fin 2048) : k0_pay8 I.dh (ix2 a j) = P.D (n + a) j := by
  pointwise [k0_pay8]
  simp only [H.dh]

theorem dyg_at (a : Fin 256) (j : Fin 2048) : k0_pay15 (k0_pay8 I.dh) I.sc (ix2 a j) = P.dyg (n + a) j := by
  pointwise [k0_pay15]
  simp only [d_at H, H.sc a, ← EReal.coe_one, Data.dyg]

theorem dx_at (a : Fin 256) (j : Fin 2048) : I.dx (ix2 a j) = P.dxO (n + a) j := by
  pointwise [dx, k0_pay18]
  simp only [dyg_at H, H.g, y_at H, r_at H, H.dres, lit_2048, Data.dxO, Data.dx, Data.m2, Data.dn]

theorem dxBlk_at (a : Fin 256) (j : Fin 2048) : I.dxBlk (ix3 0 a j) = P.dxO (n + a) j := by
  rw [← dx_at H]
  pointwise [dxBlk, k0_pay19, dx]

theorem brBlk_at (a : Fin 256) (j : Fin 2048) : I.brBlk (ix3 0 a j) = P.brO (n + a) j := by
  pointwise [brBlk, k0_pay1]
  simp only [dx_at H, H.gate a, Data.brO]

theorem g0_at (j : Fin 2048) : I.g0 (ix2 0 j) = ∑ a : Fin 256, P.gRow (n + a) j := by
  pointwise [g0, k0_pay16]
  simp only [dyg_at H, y_at H, Data.gRow]

theorem gS_at (w : Vec Ideal S1x2048 .f32) (j : Fin 2048) : I.gS w (ix2 0 j) = w (ix2 0 j) + ∑ a : Fin 256, P.gRow (n + a) j := by
  rw [← g0_at H]
  pointwise [gS, k0_pay17, g0]

theorem sc0_at (j : Fin 2048) : I.sc0 (ix3 0 0 j) = ∑ a : Fin 256, P.scRow (n + a) j := by
  pointwise [sc0, k0_pay13, k0_pay12]
  simp only [d_at H, y_at H, H.g, Data.scRow]

theorem scS_at (w : Vec Ideal S1x1x2048 .f32) (j : Fin 2048) : I.scS w (ix3 0 0 j) = w (ix3 0 0 j) + ∑ a : Fin 256, P.scRow (n + a) j := by
  rw [← sc0_at H]
  pointwise [scS, k0_pay14, sc0, k0_pay13]

theorem sh0_at (j : Fin 2048) : I.sh0 (ix3 0 0 j) = ∑ a : Fin 256, P.shRow (n + a) j := by
  pointwise [sh0, k0_pay10, k0_pay9]
  simp only [d_at H, Data.shRow]

theorem shS_at (w : Vec Ideal S1x1x2048 .f32) (j : Fin 2048) : I.shS w (ix3 0 0 j) = w (ix3 0 0 j) + ∑ a : Fin 256, P.shRow (n + a) j := by
  rw [← sh0_at H]
  pointwise [shS, k0_pay11, sh0, k0_pay10]

theorem gt0_at (j : Fin 2048) : I.gt0 (ix3 0 0 j) = ∑ a : Fin 256, P.gtRow (n + a) j := by
  pointwise [gt0, k0_pay3, k0_pay2]
  simp only [dx_at H, H.br, Data.gtRow]

theorem gtS_at (w : Vec Ideal S1x1x2048 .f32) (j : Fin 2048) : I.gtS w (ix3 0 0 j) = w (ix3 0 0 j) + ∑ a : Fin 256, P.gtRow (n + a) j := by
  rw [← gt0_at H]
  pointwise [gtS, k0_pay4, gt0, k0_pay3]

end Ins

end Cert.Norm.Blk
end
-- ==== Proof.NormOut.lean ====
/- What the grid of the gradient of the norm before the MLP leaves in each output window's buffer after a point, in terms of
   `NormBlk.lean`'s blocks. The gain's sum starts at the first point; the other three start anew at the first point of each sequence. -/
module

public import proofs.«01_k».proof.Proof.NormBlk
public import Idealize.ShloMosaic.Lib.Pipeline.ValueKit
public import proofs.«01_k».proof.Proof.Gen.Kernel16Ideal.Value

@[expose] public section

set_option maxRecDepth 16384
set_option maxHeartbeats 4000000

noncomputable section

namespace Cert.Norm.Blk

open Idealize.ShloMosaic Cert.Kernel16Ideal Cert.Kernel16Ideal.Gen Cert.Norm
open Idealize.ShloMosaic.TcCoe Idealize.SL.Sem
open Idealize.ShloMosaic.Pipeline (Dat)

variable (m : (ℓ : Loc nD τ sig) → Buf (Elt Ideal) ℓ) (c : Dev nD)

/-- What point `t` reads. -/
def ins (t : Fin cfg0.N) : Ins :=
  ⟨iblk m c 0 t, iblk m c 1 t, iblk m c 2 t, iblk m c 3 t, iblk m c 4 t, iblk m c 5 t, iblk m c 6 t⟩

/-- What point `t` leaves when it is the first of all, the first of the second sequence, or any other. -/
theorem outs_first (t : Fin cfg0.N) (h : t.val % 16 = 0) : outsAt0 m c t.val t.isLt
    = ((ins m c t).dxBlk, (ins m c t).g0, (ins m c t).sc0, (ins m c t).sh0, (ins m c t).brBlk, (ins m c t).gt0) := by
  have hN : t.val < 16 := t.isLt
  rw [outsAt0_A m c t (by omega) (by omega) (by omega) (by omega) h (by omega) (by omega) (by omega)]
  frame_out
  rfl

theorem outs_second (t : Fin cfg0.N) (h : t.val % 8 = 0) (h' : ¬t.val % 16 = 0) : outsAt0 m c t.val t.isLt
    = ((ins m c t).dxBlk, (ins m c t).gS (outsAt0 m c (t.val - 1) (by omega)).2.1, (ins m c t).sc0, (ins m c t).sh0, (ins m c t).brBlk, (ins m c t).gt0) := by
  have hN : t.val < 16 := t.isLt
  rw [outsAt0_C m c t h (by omega) h (by omega) h' (by omega) h (by omega)]
  frame_out
  rfl

theorem outs_later (t : Fin cfg0.N) (h : ¬t.val % 8 = 0) : outsAt0 m c t.val t.isLt
    = ((ins m c t).dxBlk, (ins m c t).gS (outsAt0 m c (t.val - 1) (by omega)).2.1,
      (ins m c t).scS (outsAt0 m c (t.val - 1) (by omega)).2.2.1, (ins m c t).shS (outsAt0 m c (t.val - 1) (by omega)).2.2.2.1,
      (ins m c t).brBlk, (ins m c t).gtS (outsAt0 m c (t.val - 1) (by omega)).2.2.2.2.2) := by
  have hN : t.val < 16 := t.isLt
  rw [outsAt0_B m c t h (by omega) h (by omega) (by omega) (by omega) h (by omega)]
  frame_out
  rfl

end Cert.Norm.Blk
end
-- ==== Proof.NormArr.lean ====
/- The six result arrays of the gradient of the norm before the MLP, in closed form. -/
module

public import proofs.«01_k».proof.Proof.NormOut
public import Idealize.ShloMosaic.Lib.Claim

@[expose] public section

set_option maxRecDepth 16384
set_option maxHeartbeats 4000000

noncomputable section

namespace Cert.Norm.Blk

open Idealize.ShloMosaic Cert.Kernel16Ideal Cert.Kernel16Ideal.Gen Cert.Norm
open Idealize.ShloMosaic.TcCoe Idealize.SL.Sem
open Idealize.ShloMosaic.Pipeline (Dat)

variable (m : (ℓ : Loc nD τ sig) → Buf (Elt Ideal) ℓ) (c : Dev nD)

/-- The kernel's arguments hold the arrays `P`. -/
abbrev KHolds (P : Data) : Prop :=
  Holds P (fun q s j => m ((c : Thread nD τ).loc main_arg0) (ix3 q s j)) (fun j => m ((c : Thread nD τ).loc main_arg1) (ix2 0 j))
    (fun q j => m ((c : Thread nD τ).loc main_arg2) (ix3 q 0 j)) (fun q s j => m ((c : Thread nD τ).loc main_arg3) (ix3 q s j))
    (fun q s j => m ((c : Thread nD τ).loc main_arg4) (ix3 q s j)) (fun q s j => m ((c : Thread nD τ).loc main_arg5) (ix3 q s j))
    (fun q j => m ((c : Thread nD τ).loc main_arg6) (ix3 q 0 j))

/-! ## What a point reads -/

theorem lt16 (t : Fin cfg0.N) : t.val < 16 := t.isLt
theorem idx0 : ∀ t : Fin cfg0.N, win0_0.index t = ![t.val / 8, t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, t.val % 8, 0] := (by decide +kernel : ∀ t : Fin grid0.N, _)
theorem idx6 : ∀ t : Fin cfg0.N, win0_6.index t = ![t.val / 8, 0, 0] := (by decide +kernel : ∀ t : Fin grid0.N, _)

/-- The sequence of a point's rows, and a row's token. -/
abbrev seq (t : Fin cfg0.N) : Fin 2 := ⟨t.val / 8, by have := lt16 t; omega⟩
abbrev tok (t : Fin cfg0.N) (a : Fin 256) : Fin 2048 := ⟨256 * (t.val % 8) + a.val, by omega⟩

theorem row (t : Fin cfg0.N) (a : Fin 256) : 2048 * (seq t).val + (tok t a).val = 256 * t.val + a.val := by
  show 2048 * (t.val / 8) + (256 * (t.val % 8) + a.val) = _; omega

theorem read0 (t : Fin cfg0.N) (a : Fin 256) (j : Fin 2048) : iblk m c 0 t (ix3 0 a j) = m ((c : Thread nD τ).loc main_arg0) (ix3 (seq t) (tok t a) j) := by
  blk_point [iblk, V, idx0 t]
theorem read1 (t : Fin cfg0.N) (j : Fin 2048) : iblk m c 1 t (ix2 0 j) = m ((c : Thread nD τ).loc main_arg1) (ix2 0 j) := by
  blk_point [iblk, V, idx1 t]
theorem read2 (t : Fin cfg0.N) (j : Fin 2048) : iblk m c 2 t (ix3 0 0 j) = m ((c : Thread nD τ).loc main_arg2) (ix3 (seq t) 0 j) := by
  blk_point [iblk, V, idx2 t]
theorem read3 (t : Fin cfg0.N) (a : Fin 256) (j : Fin 2048) : iblk m c 3 t (ix3 0 a j) = m ((c : Thread nD τ).loc main_arg3) (ix3 (seq t) (tok t a) j) := by
  blk_point [iblk, V, idx3 t]
theorem read4 (t : Fin cfg0.N) (a : Fin 256) (j : Fin 2048) : iblk m c 4 t (ix3 0 a j) = m ((c : Thread nD τ).loc main_arg4) (ix3 (seq t) (tok t a) j) := by
  blk_point [iblk, V, idx4 t]
theorem read5 (t : Fin cfg0.N) (a : Fin 256) (j : Fin 2048) : iblk m c 5 t (ix3 0 a j) = m ((c : Thread nD τ).loc main_arg5) (ix3 (seq t) (tok t a) j) := by
  blk_point [iblk, V, idx5 t]
theorem read6 (t : Fin cfg0.N) (j : Fin 2048) : iblk m c 6 t (ix3 0 0 j) = m ((c : Thread nD τ).loc main_arg6) (ix3 (seq t) 0 j) := by
  blk_point [iblk, V, idx6 t]

variable {m c} {P : Data} (H : KHolds m c P)

include H in
/-- Point `t` reads rows from `256 t`. -/
theorem reads (t : Fin cfg0.N) : Reads P (256 * t.val) (ins m c t) where
  x a j := (read0 m c t a j).trans ((H.x _ _ j).trans (by rw [row]))
  g j := (read1 m c t j).trans (H.g j)
  sc a j := (read2 m c t j).trans ((H.sc _ (tok t a) j).trans (by rw [row]))
  dh a j := (read3 m c t a j).trans ((H.dh _ _ j).trans (by rw [row]))
  dres a j := (read4 m c t a j).trans ((H.dres _ _ j).trans (by rw [row]))
  br a j := (read5 m c t a j).trans ((H.br _ _ j).trans (by rw [row]))
  gate a j := (read6 m c t j).trans ((H.gate _ (tok t a) j).trans (by rw [row]))

/-! ## The two gradients stored block by block -/

theorem idx7 : ∀ t : Fin cfg0.N, win0_7.index t = ![t.val / 8, t.val % 8, 0] := (by decide +kernel : ∀ t : Fin grid0.N, _)
theorem idx11 : ∀ t : Fin cfg0.N, win0_11.index t = ![t.val / 8, t.val % 8, 0] := (by decide +kernel : ∀ t : Fin grid0.N, _)

theorem blk_eta (y : S1x256x2048.Idx) : y = ix3 0 (y 1) (y 2) := by
  funext a; fin_cases a
  · exact Subsingleton.elim (α := Fin 1) _ _
  · rfl
  · rfl

theorem row_eta (y : S1x1x2048.Idx) : y = ix3 0 0 (y 2) := by
  funext a; fin_cases a
  · exact Subsingleton.elim (α := Fin 1) _ _
  · exact Subsingleton.elim (α := Fin 1) _ _
  · rfl

theorem out_dx (t : Fin cfg0.N) : (outsAt0 m c t.val t.isLt).1 = (ins m c t).dxBlk := by
  by_cases h : t.val % 16 = 0
  · rw [outs_first m c t h]
  by_cases h' : t.val % 8 = 0
  · rw [outs_second m c t h' h]
  · rw [outs_later m c t h']

theorem out_br (t : Fin cfg0.N) : (outsAt0 m c t.val t.isLt).2.2.2.2.1 = (ins m c t).brBlk := by
  by_cases h : t.val % 16 = 0
  · rw [outs_first m c t h]
  by_cases h' : t.val % 8 = 0
  · rw [outs_second m c t h' h]
  · rw [outs_later m c t h']

include H in
theorem final_dx (q : Fin 2) (s j : Fin 2048) : (dats m 0 c).arrAt 7 cfg0.N (ix3 q s j) = P.dxO (2048 * q + s) j := by
  have : (dats m 0 c).arrAt 7 cfg0.N = fun i : S2x2048x2048.Idx => P.dxO (2048 * (i 0).val + (i 1).val) (i 2).val := by
    refine (dats m 0 c).arrAt_eq_of_covers 7 _ (by decide +kernel) fun t _ y => ?_
    blk_simp
    rw [after0_7, out_dx, idx7 t]
    refine (congrArg (ins m c t).dxBlk (blk_eta y)).trans ((Ins.dxBlk_at (reads H t) (y 1) (y 2)).trans ?_)
    refine congrArg₂ P.dxO ?_ ?_
    · show 256 * t.val + (y 1).val = 2048 * (t.val / 8) + (t.val % 8 * 256 + (y 1).val); omega
    · show (y 2).val = 0 * 2048 + (y 2).val; omega
  rw [this]
  rfl

include H in
theorem final_br (q : Fin 2) (s j : Fin 2048) : (dats m 0 c).arrAt 11 cfg0.N (ix3 q s j) = P.brO (2048 * q + s) j := by
  have : (dats m 0 c).arrAt 11 cfg0.N = fun i : S2x2048x2048.Idx => P.brO (2048 * (i 0).val + (i 1).val) (i 2).val := by
    refine (dats m 0 c).arrAt_eq_of_covers 11 _ (by decide +kernel) fun t _ y => ?_
    blk_simp
    rw [after0_11, out_br, idx11 t]
    refine (congrArg (ins m c t).brBlk (blk_eta y)).trans ((Ins.brBlk_at (reads H t) (y 1) (y 2)).trans ?_)
    refine congrArg₂ P.brO ?_ ?_
    · show 256 * t.val + (y 1).val = 2048 * (t.val / 8) + (t.val % 8 * 256 + (y 1).val); omega
    · show (y 2).val = 0 * 2048 + (y 2).val; omega
  rw [this]
  rfl

/-! ## The four sums over rows -/

/-- The last point. -/
abbrev t15 : Fin cfg0.N := ⟨15, by decide⟩

include H in
theorem sum_g (j : Fin 2048) : (outsAt0 m c 15 t15.isLt).2.1 (ix2 0 j) = ∑ i ∈ Finset.range 4096, P.gRow i j := by
  refine (total 16 (by omega) (fun n hn => (outsAt0 m c n hn).2.1 (ix2 0 j)) (fun n => P.gRow n j) (fun t h => ?_) (fun t h => ?_) 0 15 (by omega) t15.isLt).trans ?_
  · show (outsAt0 m c t.val t.isLt).2.1 (ix2 0 j) = _
    rw [outs_first m c t h]; exact Ins.g0_at (reads H t) j
  · show (outsAt0 m c t.val t.isLt).2.1 (ix2 0 j) = _
    by_cases h' : t.val % 8 = 0
    · rw [outs_second m c t h' h]; exact Ins.gS_at (reads H t) _ j
    · rw [outs_later m c t h']; exact Ins.gS_at (reads H t) _ j
  · simp

theorem out_sc (t : Fin cfg0.N) (h : t.val % 8 = 0) : (outsAt0 m c t.val t.isLt).2.2.1 = (ins m c t).sc0 ∧ (outsAt0 m c t.val t.isLt).2.2.2.1 = (ins m c t).sh0
    ∧ (outsAt0 m c t.val t.isLt).2.2.2.2.2 = (ins m c t).gt0 := by
  by_cases h' : t.val % 16 = 0
  · rw [outs_first m c t h']; exact ⟨rfl, rfl, rfl⟩
  · rw [outs_second m c t h h']; exact ⟨rfl, rfl, rfl⟩

/-- The last point of a sequence. -/
theorem last8 (t : Fin cfg0.N) (h : t.val % 8 = 7) : t.val = t.val / 8 * 8 + 7 := by omega

include H in
theorem sum_sc (t : Fin cfg0.N) (h : t.val % 8 = 7) (j : Fin 2048) :
    (outsAt0 m c t.val t.isLt).2.2.1 (ix3 0 0 j) = ∑ i ∈ Finset.range 2048, P.scRow (2048 * (t.val / 8) + i) j := by
  have e := total 8 (by omega) (fun n hn => (outsAt0 m c n hn).2.2.1 (ix3 0 0 j)) (fun n => P.scRow n j)
    (fun t h => (congrFun (out_sc t h).1 _).trans (Ins.sc0_at (reads H t) j))
    (fun t h => (congrFun (congrArg (·.2.2.1) (outs_later m c t h)) _).trans (Ins.scS_at (reads H t) _ j)) (t.val / 8) 7 (by omega) (by rw [← last8 t h]; exact t.isLt)
  simp only [← last8 t h] at e
  refine e.trans (Finset.sum_congr rfl fun i _ => ?_)
  congr 2; omega

include H in
theorem sum_sh (t : Fin cfg0.N) (h : t.val % 8 = 7) (j : Fin 2048) :
    (outsAt0 m c t.val t.isLt).2.2.2.1 (ix3 0 0 j) = ∑ i ∈ Finset.range 2048, P.shRow (2048 * (t.val / 8) + i) j := by
  have e := total 8 (by omega) (fun n hn => (outsAt0 m c n hn).2.2.2.1 (ix3 0 0 j)) (fun n => P.shRow n j)
    (fun t h => (congrFun (out_sc t h).2.1 _).trans (Ins.sh0_at (reads H t) j))
    (fun t h => (congrFun (congrArg (·.2.2.2.1) (outs_later m c t h)) _).trans (Ins.shS_at (reads H t) _ j)) (t.val / 8) 7 (by omega) (by rw [← last8 t h]; exact t.isLt)
  simp only [← last8 t h] at e
  refine e.trans (Finset.sum_congr rfl fun i _ => ?_)
  congr 2; omega

include H in
theorem sum_gt (t : Fin cfg0.N) (h : t.val % 8 = 7) (j : Fin 2048) :
    (outsAt0 m c t.val t.isLt).2.2.2.2.2 (ix3 0 0 j) = ∑ i ∈ Finset.range 2048, P.gtRow (2048 * (t.val / 8) + i) j := by
  have e := total 8 (by omega) (fun n hn => (outsAt0 m c n hn).2.2.2.2.2 (ix3 0 0 j)) (fun n => P.gtRow n j)
    (fun t h => (congrFun (out_sc t h).2.2 _).trans (Ins.gt0_at (reads H t) j))
    (fun t h => (congrFun (congrArg (·.2.2.2.2.2) (outs_later m c t h)) _).trans (Ins.gtS_at (reads H t) _ j)) (t.val / 8) 7 (by omega) (by rw [← last8 t h]; exact t.isLt)
  simp only [← last8 t h] at e
  refine e.trans (Finset.sum_congr rfl fun i _ => ?_)
  congr 2; omega

theorem last_g : (dats m 0 c).arrAt 8 cfg0.N = (outsAt0 m c 15 t15.isLt).2.1 :=
  (dats m 0 c).arrAt_eq_of_after_last 8 t15 (by decide +kernel) _ fun j => by blk_simp; rw [after0_8]

include H in
theorem final_g (j : Fin 2048) : (dats m 0 c).arrAt 8 cfg0.N (ix2 0 j) = ∑ i ∈ Finset.range 4096, P.gRow i j := by
  rw [last_g]
  exact sum_g H j

theorem idx9 : ∀ t : Fin cfg0.N, win0_9.index t = ![t.val / 8, 0, 0] := (by decide +kernel : ∀ t : Fin grid0.N, _)
theorem idx10 : ∀ t : Fin cfg0.N, win0_10.index t = ![t.val / 8, 0, 0] := (by decide +kernel : ∀ t : Fin grid0.N, _)
theorem idx12 : ∀ t : Fin cfg0.N, win0_12.index t = ![t.val / 8, 0, 0] := (by decide +kernel : ∀ t : Fin grid0.N, _)
/-- The points at which the three sums over a sequence are written back. -/
theorem flush9 : ∀ t : Fin cfg0.N, (cfg0.win 9).flush t = true → t.val % 8 = 7 := (by decide +kernel : ∀ t : Fin grid0.N, _)
theorem flush10 : ∀ t : Fin cfg0.N, (cfg0.win 10).flush t = true → t.val % 8 = 7 := (by decide +kernel : ∀ t : Fin grid0.N, _)
theorem flush12 : ∀ t : Fin cfg0.N, (cfg0.win 12).flush t = true → t.val % 8 = 7 := (by decide +kernel : ∀ t : Fin grid0.N, _)

include H in
theorem final_sc (q : Fin 2) (j : Fin 2048) : (dats m 0 c).arrAt 9 cfg0.N (ix3 q 0 j) = ∑ i ∈ Finset.range 2048, P.scRow (2048 * q + i) j := by
  have : (dats m 0 c).arrAt 9 cfg0.N = fun y : S2x1x2048.Idx => ∑ i ∈ Finset.range 2048, P.scRow (2048 * (y 0).val + i) (y 2).val := by
    refine (dats m 0 c).arrAt_eq_of_covers 9 _ (by decide +kernel) fun t hf y => ?_
    blk_simp
    rw [after0_9, idx9 t]
    refine (congrArg (outsAt0 m c t.val t.isLt).2.2.1 (row_eta y)).trans ((sum_sc H t (flush9 t hf) (y 2)).trans (Finset.sum_congr rfl fun i _ => ?_))
    refine congrArg₂ P.scRow ?_ ?_
    · rfl
    · show (y 2).val = 0 * 2048 + (y 2).val; omega
  rw [this]
  rfl

include H in
theorem final_sh (q : Fin 2) (j : Fin 2048) : (dats m 0 c).arrAt 10 cfg0.N (ix3 q 0 j) = ∑ i ∈ Finset.range 2048, P.shRow (2048 * q + i) j := by
  have : (dats m 0 c).arrAt 10 cfg0.N = fun y : S2x1x2048.Idx => ∑ i ∈ Finset.range 2048, P.shRow (2048 * (y 0).val + i) (y 2).val := by
    refine (dats m 0 c).arrAt_eq_of_covers 10 _ (by decide +kernel) fun t hf y => ?_
    blk_simp
    rw [after0_10, idx10 t]
    refine (congrArg (outsAt0 m c t.val t.isLt).2.2.2.1 (row_eta y)).trans ((sum_sh H t (flush10 t hf) (y 2)).trans (Finset.sum_congr rfl fun i _ => ?_))
    refine congrArg₂ P.shRow ?_ ?_
    · rfl
    · show (y 2).val = 0 * 2048 + (y 2).val; omega
  rw [this]
  rfl

include H in
theorem final_gt (q : Fin 2) (j : Fin 2048) : (dats m 0 c).arrAt 12 cfg0.N (ix3 q 0 j) = ∑ i ∈ Finset.range 2048, P.gtRow (2048 * q + i) j := by
  have : (dats m 0 c).arrAt 12 cfg0.N = fun y : S2x1x2048.Idx => ∑ i ∈ Finset.range 2048, P.gtRow (2048 * (y 0).val + i) (y 2).val := by
    refine (dats m 0 c).arrAt_eq_of_covers 12 _ (by decide +kernel) fun t hf y => ?_
    blk_simp
    rw [after0_12, idx12 t]
    refine (congrArg (outsAt0 m c t.val t.isLt).2.2.2.2.2 (row_eta y)).trans ((sum_gt H t (flush12 t hf) (y 2)).trans (Finset.sum_congr rfl fun i _ => ?_))
    refine congrArg₂ P.gtRow ?_ ?_
    · rfl
    · show (y 2).val = 0 * 2048 + (y 2).val; omega
  rw [this]
  rfl

end Cert.Norm.Blk
end
-- ==== Proof.NormRef.lean ====
/- The reference of the gradient of the norm before the MLP or the mixer: its six results by row and channel. -/
module

public import proofs.«01_k».proof.Proof.Gen.Reference16Ideal.Read
public import proofs.«01_k».proof.Proof.NormSpec
public import proofs.«01_k».proof.Proof.RefSum
public import Idealize.ShloMosaic.Lib.Pointwise

@[expose] public section

set_option maxRecDepth 16384
set_option maxHeartbeats 1000000

noncomputable section

namespace Cert.Norm.Ref

open Idealize.ShloMosaic Cert.Reference16Ideal Cert.Reference16Ideal.Read Cert.Spec Cert.Lift Cert.Norm
open Cert.ReferenceIdeal.Ref (lit_neg_half sum_lead_r3)

variable {P : Cert.Norm.Data}
variable {x0 : (⟨S2x2048x2048, .f32⟩ : BufTy).Contents (Elt Ideal)} {x1 : (⟨S1x2048, .f32⟩ : BufTy).Contents (Elt Ideal)}
  {x2 : (⟨S2x1x2048, .f32⟩ : BufTy).Contents (Elt Ideal)} {x3 : (⟨S2x2048x2048, .bf16⟩ : BufTy).Contents (Elt Ideal)}
  {x4 x5 : (⟨S2x2048x2048, .f32⟩ : BufTy).Contents (Elt Ideal)} {x6 : (⟨S2x1x2048, .f32⟩ : BufTy).Contents (Elt Ideal)}

/-- The reference's arguments hold the arrays `P`. -/
abbrev RHolds (P : Cert.Norm.Data) (x0 : (⟨S2x2048x2048, .f32⟩ : BufTy).Contents (Elt Ideal)) (x1 : (⟨S1x2048, .f32⟩ : BufTy).Contents (Elt Ideal))
    (x2 : (⟨S2x1x2048, .f32⟩ : BufTy).Contents (Elt Ideal)) (x3 : (⟨S2x2048x2048, .bf16⟩ : BufTy).Contents (Elt Ideal))
    (x4 x5 : (⟨S2x2048x2048, .f32⟩ : BufTy).Contents (Elt Ideal)) (x6 : (⟨S2x1x2048, .f32⟩ : BufTy).Contents (Elt Ideal)) : Prop :=
  Holds P (fun q s j => x0 (ix3 q s j)) (fun j => x1 (ix2 0 j)) (fun q j => x2 (ix3 q 0 j)) (fun q s j => x3 (ix3 q s j))
    (fun q s j => x4 (ix3 q s j)) (fun q s j => x5 (ix3 q s j)) (fun q j => x6 (ix3 q 0 j))

variable (H : RHolds P x0 x1 x2 x3 x4 x5 x6)
include H

theorem me_at (q : Fin 2) (s : Fin 2048) : val_main_v7 (F := Ideal) x0 (ix3 q s 0) = P.me (2048 * q + s) := by
  pointwise [val_main_v7, val_main_v6, val_main_v5, val_main_v4, val_main_v3, val_main_v2, val_main_v1, val_main_cst_0, val_main_cst_1, val_main_cst_2]
  simp only [H.x, lit_2048, lit_eps6, Data.me]

theorem r_at (q : Fin 2) (s : Fin 2048) : val_main_v8 (F := Ideal) x0 (ix3 q s 0) = P.r (2048 * q + s) := by
  pointwise [val_main_v8]
  rw [me_at H]
  rfl

theorem y_at (q : Fin 2) (s j : Fin 2048) : val_main_v13 (F := Ideal) x0 (ix3 q s j) = P.y (2048 * q + s) j := by
  pointwise [val_main_v13, val_main_v12]
  simp only [H.x, r_at H, Data.y]

theorem dyg_at (q : Fin 2) (s j : Fin 2048) : val_main_v30 (F := Ideal) x2 x3 (ix3 q s j) = P.dyg (2048 * q + s) j := by
  pointwise [val_main_v30, val_main_v29, val_main_v23, val_main_v18, val_main_v17, val_main_cst_4]
  simp only [H.dh, H.sc q s, ← EReal.coe_one, Data.dyg]

theorem dn_at (q : Fin 2) (s j : Fin 2048) : val_main_v35 (F := Ideal) x1 x2 x3 (ix3 q s j) = P.dn (2048 * q + s) j := by
  pointwise [val_main_v35, val_main_v34, val_main_v14]
  simp only [dyg_at H, H.g, Data.dn]

theorem cms_at (q : Fin 2) (s j : Fin 2048) : val_main_v47 (F := Ideal) x0 x1 x2 x3 (ix3 q s j) = P.cms (2048 * q + s) := by
  pointwise [val_main_v47, val_main_v46, val_main_v45, val_main_v44, val_main_v43, val_main_v40, val_main_v39, val_main_v38,
    val_main_v11, val_main_v10, val_main_v9, val_main_cst_3, val_main_cst_9, val_main_cst_10, val_main_cst_11]
  simp only [Fin.sum_univ_one, H.x, dn_at H, me_at H, r_at H, lit_neg_half, lit_2048, Data.cms]

theorem dx_at (q : Fin 2) (s j : Fin 2048) :
    val_main_v52 (F := Ideal) x0 x1 x2 x3 x4 (ix3 q s j) = P.dxO (2048 * q + s) j := by
  rw [Data.dxO, ← P.dx_eq]
  pointwise [val_main_v52, val_main_v51, val_main_v50, val_main_v49, val_main_v48, val_main_v42, val_main_v41]
  simp only [H.x, dn_at H, r_at H, cms_at H, H.dres]

theorem dbr_at (q : Fin 2) (s j : Fin 2048) :
    val_main_v60 (F := Ideal) x0 x1 x2 x3 x4 x6 (ix3 q s j) = P.brO (2048 * q + s) j := by
  pointwise [val_main_v60, val_main_v56, val_main_v55]
  simp only [dx_at H, H.gate q s, Data.brO, mul_comm (Data.T _ _ _)]

theorem dsh_at (q : Fin 2) (j : Fin 2048) :
    val_main_v25 (F := Ideal) x3 (ix3 q 0 j) = ∑ i ∈ Finset.range 2048, P.shRow (2048 * q + i) j := by
  rw [← sum_seq fun n => P.shRow n j]
  pointwise [val_main_v25, val_main_v24, val_main_v23, val_main_cst_5]
  simp only [H.dh, Data.shRow]

theorem dsc_at (q : Fin 2) (j : Fin 2048) :
    val_main_v28 (F := Ideal) x0 x1 x3 (ix3 q 0 j) = ∑ i ∈ Finset.range 2048, P.scRow (2048 * q + i) j := by
  rw [← sum_seq fun n => P.scRow n j]
  pointwise [val_main_v28, val_main_v27, val_main_v26, val_main_v23, val_main_v16, val_main_v15, val_main_v14, val_main_cst_6]
  simp only [y_at H, H.g, H.dh, Data.scRow, mul_comm (Data.D _ _ _)]

theorem dgt_at (q : Fin 2) (j : Fin 2048) :
    val_main_v59 (F := Ideal) x0 x1 x2 x3 x4 x5 (ix3 q 0 j) = ∑ i ∈ Finset.range 2048, P.gtRow (2048 * q + i) j := by
  rw [← sum_seq fun n => P.gtRow n j]
  pointwise [val_main_v59, val_main_v58, val_main_v57, val_main_cst_12]
  simp only [dx_at H, H.br, Data.gtRow]

theorem dg_at (j : Fin 2048) :
    val_main_v37 (F := Ideal) x0 x2 x3 (ix2 0 j) = ∑ i ∈ Finset.range 4096, P.gRow i j := by
  rw [← sum_all fun n => P.gRow n j]
  pointwise [val_main_v37, val_main_v36, val_main_v33, val_main_v32, val_main_v31, val_main_cst_7, val_main_cst_8, sum_lead_r3]
  simp only [Fin.sum_univ_one, y_at H, dyg_at H, Data.gRow, mul_comm (Data.dyg _ _ _)]

end Cert.Norm.Ref
end
-- ==== Proof.Norm.lean ====
/- The gradient of the norm before the MLP or the mixer, with the residual, scale, shift, gain, branch and gate gradients it takes along:
   the call and the reference run safely and end with the same arrays. -/
module

public import proofs.«01_k».proof.Proof.NormArr
public import proofs.«01_k».proof.Proof.NormRef
public import proofs.«01_k».proof.Proof.Gen.Kernel16.Frame
public import proofs.«01_k».proof.Proof.Gen.Reference16Ideal.Run
public import proofs.«01_k».proof.Defs
public import Idealize.ShloMosaic.Lib.Claim
public import Idealize.ShloMosaic.Adequacy
public import Idealize.ShloMosaic.Init

@[expose] public section

set_option maxHeartbeats 1000000

noncomputable section

namespace Cert.Norm

open Idealize.ShloMosaic Idealize.SL.Sem

/-! ## The arguments by row and channel -/

section Args
open Cert.Kernel16Ideal

variable (x0 : FVec Ideal S2x2048x2048 .f32) (x1 : FVec Ideal S1x2048 .f32) (x2 : FVec Ideal S2x1x2048 .f32) (x3 : FVec Ideal S2x2048x2048 .bf16)
  (x4 x5 : FVec Ideal S2x2048x2048 .f32) (x6 : FVec Ideal S2x1x2048 .f32)

/-- The arguments by row and channel. -/
def data : Data where
  X n j := x0 (ix3 ⟨n / 2048 % 2, by omega⟩ ⟨n % 2048, by omega⟩ ⟨j % 2048, by omega⟩)
  g j := x1 (ix2 0 ⟨j % 2048, by omega⟩)
  sc n j := x2 (ix3 ⟨n / 2048 % 2, by omega⟩ 0 ⟨j % 2048, by omega⟩)
  D n j := x3 (ix3 ⟨n / 2048 % 2, by omega⟩ ⟨n % 2048, by omega⟩ ⟨j % 2048, by omega⟩)
  R n j := x4 (ix3 ⟨n / 2048 % 2, by omega⟩ ⟨n % 2048, by omega⟩ ⟨j % 2048, by omega⟩)
  B n j := x5 (ix3 ⟨n / 2048 % 2, by omega⟩ ⟨n % 2048, by omega⟩ ⟨j % 2048, by omega⟩)
  T n j := x6 (ix3 ⟨n / 2048 % 2, by omega⟩ 0 ⟨j % 2048, by omega⟩)

/-- The sequence, token and channel of a row's entry. -/
theorem tok_ix (q : Fin 2) (s j : Fin 2048) : (ix3 q s j : S2x2048x2048.Idx)
    = ix3 ⟨(2048 * q.val + s.val) / 2048 % 2, by omega⟩ ⟨(2048 * q.val + s.val) % 2048, by omega⟩ ⟨j.val % 2048, by omega⟩ := by
  congr 1 <;> apply Fin.ext <;> simp <;> omega

theorem seq_ix (q : Fin 2) (s j : Fin 2048) : (ix3 q 0 j : S2x1x2048.Idx)
    = ix3 ⟨(2048 * q.val + s.val) / 2048 % 2, by omega⟩ 0 ⟨j.val % 2048, by omega⟩ := by
  congr 1 <;> apply Fin.ext <;> simp <;> omega

theorem ch_ix (j : Fin 2048) : (ix2 0 j : S1x2048.Idx) = ix2 0 ⟨j.val % 2048, by omega⟩ := by
  congr 1; apply Fin.ext; simp; omega

theorem holds :
    Holds (data x0 x1 x2 x3 x4 x5 x6) (fun q s j => x0 (ix3 q s j)) (fun j => x1 (ix2 0 j)) (fun q j => x2 (ix3 q 0 j)) (fun q s j => x3 (ix3 q s j))
      (fun q s j => x4 (ix3 q s j)) (fun q s j => x5 (ix3 q s j)) (fun q j => x6 (ix3 q 0 j)) where
  x q s j := congrArg x0 (tok_ix q s j)
  g j := congrArg x1 (ch_ix j)
  sc q s j := congrArg x2 (seq_ix q s j)
  dh q s j := congrArg x3 (tok_ix q s j)
  dres q s j := congrArg x4 (tok_ix q s j)
  br q s j := congrArg x5 (tok_ix q s j)
  gate q s j := congrArg x6 (seq_ix q s j)

/-! ## Arrays that agree at every entry -/

theorem tok_ext {x y : S2x2048x2048.Idx → EReal} (h : ∀ q s j, x (ix3 q s j) = y (ix3 q s j)) : x = y := by
  funext i
  rw [show i = ix3 (i 0) (i 1) (i 2) from by funext k; fin_cases k <;> rfl]
  exact h _ _ _

theorem seq_ext {x y : S2x1x2048.Idx → EReal} (h : ∀ q j, x (ix3 q 0 j) = y (ix3 q 0 j)) : x = y := by
  funext i
  rw [show i = ix3 (i 0) 0 (i 2) from by
    funext k; fin_cases k
    · rfl
    · exact Subsingleton.elim (α := Fin 1) _ _
    · rfl]
  exact h _ _

theorem ch_ext {x y : S1x2048.Idx → EReal} (h : ∀ j, x (ix2 0 j) = y (ix2 0 j)) : x = y := by
  funext i
  rw [show i = ix2 0 (i 1) from by
    funext k; fin_cases k
    · exact Subsingleton.elim (α := Fin 1) _ _
    · rfl]
  exact h _

end Args

/-! ## The claims -/

theorem frame : Cert.quiescent_Reference16Ideal := fun m ρ _ =>
  (θ_run Cert.Reference16Ideal.defs _ _).mono (fun r h => ⟨fun c => (h c).2.2.2.2.2.2, sem_eq_zero_of_no_sems (by decide) r.2⟩)
    (Cert.Reference16Ideal.Value.run (F := Ideal) m ρ)

theorem algebraic : Cert.algebraic_Kernel16Ideal_Reference16Ideal := by
  intro m g m' g' _ hagree
  refine ⟨_, _, _, _, _, _, Cert.Kernel16Ideal.Value.run_blocks m g, ?_⟩
  refine (θ_run Cert.Reference16Ideal.defs _ _).mono (fun r h c => ?_) (Cert.Reference16Ideal.Value.run (F := Ideal) m' g')
  obtain ⟨h0, h1, h2, h3, h4, h5, hargs⟩ := h c
  obtain ⟨a0, a1, a2, a3, a4, a5, a6⟩ := hagree c
  have H : Blk.KHolds m c _ := holds _ _ _ _ _ _ _
  have HR : Ref.RHolds _ _ _ _ _ _ _ _ := H
  refine ⟨h0.trans ?_, h1.trans ?_, h2.trans ?_, h3.trans ?_, h4.trans ?_, h5.trans ?_, hargs⟩
  · rw [Cert.Reference16Ideal.Read.val_main_v52_eq]
    simp only [a0, a1, a2, a3, a4, a5, a6]
    exact tok_ext fun q s j => (Ref.dx_at HR q s j).trans (Blk.final_dx H q s j).symm
  · rw [Cert.Reference16Ideal.Read.val_main_v37_eq]
    simp only [a0, a1, a2, a3, a4, a5, a6]
    exact ch_ext fun j => (Ref.dg_at HR j).trans (Blk.final_g H j).symm
  · rw [Cert.Reference16Ideal.Read.val_main_v28_eq]
    simp only [a0, a1, a2, a3, a4, a5, a6]
    exact seq_ext fun q j => (Ref.dsc_at HR q j).trans (Blk.final_sc H q j).symm
  · rw [Cert.Reference16Ideal.Read.val_main_v25_eq]
    simp only [a0, a1, a2, a3, a4, a5, a6]
    exact seq_ext fun q j => (Ref.dsh_at HR q j).trans (Blk.final_sh H q j).symm
  · rw [Cert.Reference16Ideal.Read.val_main_v60_eq]
    simp only [a0, a1, a2, a3, a4, a5, a6]
    exact tok_ext fun q s j => (Ref.dbr_at HR q s j).trans (Blk.final_br H q s j).symm
  · rw [Cert.Reference16Ideal.Read.val_main_v59_eq]
    simp only [a0, a1, a2, a3, a4, a5, a6]
    exact seq_ext fun q j => (Ref.dgt_at HR q j).trans (Blk.final_gt H q j).symm

end Cert.Norm
end
-- ==== Proof.Loss.lean ====
/- The last norm, the loss and their gradient, with the gradients of the branch added before the norm and of its gate: the call and the
   reference run safely and end with the same arrays. -/
module

public import proofs.«01_k».proof.Proof.LossArr
public import proofs.«01_k».proof.Proof.LossRef
public import proofs.«01_k».proof.Proof.Norm
public import proofs.«01_k».proof.Proof.Gen.Kernel19.Frame
public import proofs.«01_k».proof.Proof.Gen.Reference19Ideal.Run
public import proofs.«01_k».proof.Defs
public import Idealize.ShloMosaic.Lib.Claim
public import Idealize.ShloMosaic.Adequacy
public import Idealize.ShloMosaic.Init

@[expose] public section

set_option maxHeartbeats 1000000

noncomputable section

namespace Cert.Loss

open Idealize.ShloMosaic Idealize.SL.Sem
open Cert.Norm (tok_ix seq_ix ch_ix tok_ext seq_ext ch_ext)

section Args
open Cert.Kernel19Ideal

variable (x0 : FVec Ideal S2x2048x2048 .f32) (x1 : FVec Ideal S1x2048 .f32) (x2 x3 : FVec Ideal S2x2048x2048 .f32) (x4 : FVec Ideal S2x1x2048 .f32)

/-- The arguments by row and channel. -/
def data : Data where
  X n j := x0 (ix3 ⟨n / 2048 % 2, by omega⟩ ⟨n % 2048, by omega⟩ ⟨j % 2048, by omega⟩)
    + x4 (ix3 ⟨n / 2048 % 2, by omega⟩ 0 ⟨j % 2048, by omega⟩) * x3 (ix3 ⟨n / 2048 % 2, by omega⟩ ⟨n % 2048, by omega⟩ ⟨j % 2048, by omega⟩)
  g j := x1 (ix2 0 ⟨j % 2048, by omega⟩)
  W n j := x2 (ix3 ⟨n / 2048 % 2, by omega⟩ ⟨n % 2048, by omega⟩ ⟨j % 2048, by omega⟩)
  B n j := x3 (ix3 ⟨n / 2048 % 2, by omega⟩ ⟨n % 2048, by omega⟩ ⟨j % 2048, by omega⟩)
  T n j := x4 (ix3 ⟨n / 2048 % 2, by omega⟩ 0 ⟨j % 2048, by omega⟩)

theorem holds : Holds (data x0 x1 x2 x3 x4) (fun q s j => x0 (ix3 q s j)) (fun j => x1 (ix2 0 j)) (fun q s j => x2 (ix3 q s j))
    (fun q s j => x3 (ix3 q s j)) (fun q j => x4 (ix3 q 0 j)) where
  x q s j := congrArg₂ (· + ·) (congrArg x0 (tok_ix q s j)) (congrArg₂ (· * ·) (congrArg x4 (seq_ix q s j)) (congrArg x3 (tok_ix q s j)))
  g j := congrArg x1 (ch_ix j)
  tgt q s j := congrArg x2 (tok_ix q s j)
  br q s j := congrArg x3 (tok_ix q s j)
  gate q s j := congrArg x4 (seq_ix q s j)

theorem out_ext {x y : S1x128.Idx → EReal} (h : ∀ j, x (ix2 0 j) = y (ix2 0 j)) : x = y := by
  funext i
  rw [show i = ix2 0 (i 1) from by
    funext k; fin_cases k
    · exact Subsingleton.elim (α := Fin 1) _ _
    · rfl]
  exact h _

end Args

theorem frame : Cert.quiescent_Reference19Ideal := fun m ρ _ =>
  (θ_run Cert.Reference19Ideal.defs _ _).mono (fun r h => ⟨fun c => (h c).2.2.2.2.2, sem_eq_zero_of_no_sems (by decide) r.2⟩)
    (Cert.Reference19Ideal.Value.run (F := Ideal) m ρ)

theorem algebraic : Cert.algebraic_Kernel19Ideal_Reference19Ideal := by
  intro m g m' g' _ hagree
  refine ⟨_, _, _, _, _, Cert.Kernel19Ideal.Value.run_blocks m g, ?_⟩
  refine (θ_run Cert.Reference19Ideal.defs _ _).mono (fun r h c => ?_) (Cert.Reference19Ideal.Value.run (F := Ideal) m' g')
  obtain ⟨h0, h1, h2, h3, h4, hargs⟩ := h c
  obtain ⟨a0, a1, a2, a3, a4⟩ := hagree c
  have H : Blk.KHolds m c _ := holds _ _ _ _ _
  have HR : Ref.RHolds _ _ _ _ _ _ := H
  refine ⟨h0.trans ?_, h1.trans ?_, h2.trans ?_, h3.trans ?_, h4.trans ?_, hargs⟩
  · rw [Cert.Reference19Ideal.Read.val_main_v54_eq]
    simp only [a0, a1, a2, a3, a4]
    exact tok_ext fun q s j => (Ref.dx_at HR q s j).trans (Blk.final_dx H q s j).symm
  · rw [Cert.Reference19Ideal.Read.val_main_v40_eq]
    simp only [a0, a1, a2, a3, a4]
    exact ch_ext fun j => (Ref.dg_at HR j).trans (Blk.final_g H j).symm
  · rw [Cert.Reference19Ideal.Read.val_main_v60_eq]
    simp only [a0, a1, a2, a3, a4]
    exact out_ext fun j => (Ref.loss_at HR j).trans (Blk.final_loss H j).symm
  · rw [Cert.Reference19Ideal.Read.val_main_v61_eq]
    simp only [a0, a1, a2, a3, a4]
    exact tok_ext fun q s j => (Ref.dbr_at HR q s j).trans (Blk.final_br H q s j).symm
  · rw [Cert.Reference19Ideal.Read.val_main_v59_eq]
    simp only [a0, a1, a2, a3, a4]
    exact seq_ext fun q j => (Ref.dgt_at HR q j).trans (Blk.final_gt H q j).symm

end Cert.Loss
end
-- ==== Proof.NormRow.lean ====
/- The norm of one token's row, with gain, scale and shift, as the forward calls and the reference write it. -/
module

public import proofs.«01_k».proof.Proof.NormSpec

@[expose] public section

noncomputable section

namespace Cert.Norm

open Idealize.ShloMosaic Cert.Spec

/-- A row divided by the root of its mean square, times the gain, times one plus the scale, plus the shift. -/
def scaled (X g sc sh : Fin 2048 → EReal) (j : Fin 2048) : EReal :=
  X j * Ideal.rsqrt (Ideal.div (∑ k, X k * X k) ((2048 : ℝ) : EReal) + (eps6 : EReal)) * g j * (1 + sc j) + sh j

/-- A row with the gated branch added. -/
def joined (x br gate : Fin 2048 → EReal) (j : Fin 2048) : EReal := x j + gate j * br j

end Cert.Norm
end
-- ==== Proof.NormFwd.lean ====
/- The norm before the MLP, and before the mixer of a later layer: the call adds the gated branch to the residual stream and norms, scales
   and shifts the sum, 256 tokens at a point; it and the reference run safely and end with the same two arrays. -/
module

public import proofs.«01_k».proof.Proof.NormRow
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit
public import Idealize.ShloMosaic.Lib.Claim
public import proofs.«01_k».proof.Defs

@[expose] public section

set_option maxRecDepth 16384
set_option maxHeartbeats 1000000

noncomputable section

namespace Cert.Kernel17Ideal.Fwd

open Idealize.ShloMosaic Cert.Kernel17Ideal Cert.Kernel17Ideal.Gen Cert.Norm Cert.Lift
open Idealize.ShloMosaic.TcCoe Idealize.SL.Sem

/-- The stream with the gated branch, at a token and a channel. -/
def mid (x br : S2x2048x2048.Idx → EReal) (gate : S2x1x2048.Idx → EReal) (q : Fin 2) (s : Fin 2048) : Fin 2048 → EReal :=
  joined (fun j => x (ix3 q s j)) (fun j => br (ix3 q s j)) (fun j => gate (ix3 q 0 j))

/-- The normed stream, scaled and shifted. -/
def out (x br : S2x2048x2048.Idx → EReal) (gate : S2x1x2048.Idx → EReal) (g : S1x2048.Idx → EReal) (sc sh : S2x1x2048.Idx → EReal)
    (q : Fin 2) (s : Fin 2048) : Fin 2048 → EReal :=
  scaled (mid x br gate q s) (fun j => g (ix2 0 j)) (fun j => sc (ix3 q 0 j)) (fun j => sh (ix3 q 0 j))

section Blocks
variable (x0 x1 : Vec Ideal S1x256x2048 .f32) (x2 : Vec Ideal S1x1x2048 .f32) (x3 : Vec Ideal S1x2048 .f32) (x4 x5 : Vec Ideal S1x1x2048 .f32)

/-- A row of the block with its gated branch. -/
def midBlk (a : Fin 256) : Fin 2048 → EReal := joined (fun j => x0 (ix3 0 a j)) (fun j => x1 (ix3 0 a j)) (fun j => x2 (ix3 0 0 j))

theorem mid_at (a : Fin 256) (j : Fin 2048) : k0_pay2 x0 x2 x1 (ix2 a j) = midBlk x0 x1 x2 a j := by
  pointwise [k0_pay2]
  rfl

theorem tile_mid (a : Fin 256) (j : Fin 2048) : out0_6 x0 x1 x2 x3 x4 x5 (ix3 0 a j) = midBlk x0 x1 x2 a j := by
  unfold out0_6; frame_out
  rw [← mid_at]
  pointwise [k0_pay3, k0_pay2]

theorem tile (a : Fin 256) (j : Fin 2048) : out0_7 x0 x1 x2 x3 x4 x5 (ix3 0 a j)
    = scaled (midBlk x0 x1 x2 a) (fun j => x3 (ix2 0 j)) (fun j => x4 (ix3 0 0 j)) (fun j => x5 (ix3 0 0 j)) j := by
  unfold out0_7; frame_out
  pointwise [k0_pay1, k0_pay4, k0_pay5]
  simp only [mid_at, lit_2048, lit_eps6]
  rfl

end Blocks

variable (m : (ℓ : Loc nD τ sig) → Buf (Elt Ideal) ℓ) (c : Dev nD) (t : Fin cfg0.N)

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 8, 0, 0] := (by decide +kernel : ∀ t : Fin grid0.N, _)
theorem idx5 : ∀ t : Fin cfg0.N, win0_5.index t = ![t.val / 8, 0, 0] := (by decide +kernel : ∀ t : Fin grid0.N, _)
theorem idx6 : ∀ t : Fin cfg0.N, win0_6.index t = ![t.val / 8, t.val % 8, 0] := (by decide +kernel : ∀ t : Fin grid0.N, _)
theorem idx7 : ∀ t : Fin cfg0.N, win0_7.index t = ![t.val / 8, t.val % 8, 0] := (by decide +kernel : ∀ t : Fin grid0.N, _)

/-- The sequence of a point, and the token of one of its rows. -/
abbrev seq : Fin 2 := ⟨t.val / 8, by have : t.val < 16 := t.isLt; omega⟩
abbrev tok (a : Fin 256) : Fin 2048 := ⟨256 * (t.val % 8) + a.val, by omega⟩

theorem read0 (a : Fin 256) (j : Fin 2048) : iblk m c 0 t (ix3 0 a j) = m ((c : Thread nD τ).loc main_arg0) (ix3 (seq t) (tok t a) j) := by
  blk_point [iblk, V, idx0 t]
theorem read1 (a : Fin 256) (j : Fin 2048) : iblk m c 1 t (ix3 0 a j) = m ((c : Thread nD τ).loc main_arg1) (ix3 (seq t) (tok t a) j) := by
  blk_point [iblk, V, idx1 t]
theorem read2 (j : Fin 2048) : iblk m c 2 t (ix3 0 0 j) = m ((c : Thread nD τ).loc main_arg2) (ix3 (seq t) 0 j) := by
  blk_point [iblk, V, idx2 t]
theorem read3 (j : Fin 2048) : iblk m c 3 t (ix2 0 j) = m ((c : Thread nD τ).loc main_arg3) (ix2 0 j) := by
  blk_point [iblk, V, idx3 t]
theorem read4 (j : Fin 2048) : iblk m c 4 t (ix3 0 0 j) = m ((c : Thread nD τ).loc main_arg4) (ix3 (seq t) 0 j) := by
  blk_point [iblk, V, idx4 t]
theorem read5 (j : Fin 2048) : iblk m c 5 t (ix3 0 0 j) = m ((c : Thread nD τ).loc main_arg5) (ix3 (seq t) 0 j) := by
  blk_point [iblk, V, idx5 t]

/-- The array a token's row of `f` makes up. -/
def arr (f : Fin 2 → Fin 2048 → Fin 2048 → EReal) : S2x2048x2048.Idx → EReal := fun i => f (i 0) (i 1) (i 2)

theorem arr_ext {x : S2x2048x2048.Idx → EReal} {f : Fin 2 → Fin 2048 → Fin 2048 → EReal} (h : ∀ q s j, x (ix3 q s j) = f q s j) : x = arr f := by
  funext i
  rw [show i = ix3 (i 0) (i 1) (i 2) from by funext k; fin_cases k <;> rfl]
  exact h _ _ _

theorem blk_eta (y : S1x256x2048.Idx) : y = ix3 0 (y 1) (y 2) := by
  funext a; fin_cases a
  · exact Subsingleton.elim (α := Fin 1) _ _
  · rfl
  · rfl

theorem midBlk_at (a : Fin 256) : midBlk (iblk m c 0 t) (iblk m c 1 t) (iblk m c 2 t) a
    = mid (m ((c : Thread nD τ).loc main_arg0)) (m ((c : Thread nD τ).loc main_arg1)) (m ((c : Thread nD τ).loc main_arg2)) (seq t) (tok t a) := by
  simp only [midBlk, mid, read0, read1, read2]

theorem at_point (a : Fin 256) (j : Fin 2048) :
    out0_7 (iblk m c 0 t) (iblk m c 1 t) (iblk m c 2 t) (iblk m c 3 t) (iblk m c 4 t) (iblk m c 5 t) (ix3 0 a j)
      = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (seq t) (tok t a) j := by
  rw [tile, midBlk_at]
  simp only [out, read3, read4, read5]

theorem final_mid : (dats m 0 c).arrAt 6 cfg0.N = arr (mid (m ((c : Thread nD τ).loc main_arg0)) (m ((c : Thread nD τ).loc main_arg1))
    (m ((c : Thread nD τ).loc main_arg2))) := by
  refine (dats m 0 c).arrAt_eq_of_covers 6 _ (by decide +kernel) fun t _ y => ?_
  blk_simp
  rw [after0_6]
  refine (congrArg (out0_6 _ _ _ _ _ _) (blk_eta y)).trans ((tile_mid _ _ _ _ _ _ _ _).trans ((congrFun (midBlk_at m c t (y 1)) (y 2)).trans ?_))
  refine congr (congrArg₂ (mid _ _ _) (Fin.ext ?_) (Fin.ext ?_)) (Fin.ext ?_)
  · show _ = win0_6.index t 0 * 1 + 1 * (y 0).val
    have : (y 0).val < 1 := (y 0).isLt
    rw [idx6 t]; show t.val / 8 = t.val / 8 * 1 + 1 * (y 0).val; omega
  · show _ = win0_6.index t 1 * 256 + 1 * (y 1).val
    rw [idx6 t]; show 256 * (t.val % 8) + (y 1).val = t.val % 8 * 256 + 1 * (y 1).val; omega
  · show _ = win0_6.index t 2 * 2048 + 1 * (y 2).val
    rw [idx6 t]; show (y 2).val = 0 * 2048 + 1 * (y 2).val; omega

theorem final : (dats m 0 c).arrAt 7 cfg0.N = arr (out (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))) := by
  refine (dats m 0 c).arrAt_eq_of_covers 7 _ (by decide +kernel) fun t _ y => ?_
  blk_simp
  rw [after0_7]
  refine (congrArg (out0_7 _ _ _ _ _ _) (blk_eta y)).trans ((at_point m c t (y 1) (y 2)).trans ?_)
  refine congr (congrArg₂ (out _ _ _ _ _ _) (Fin.ext ?_) (Fin.ext ?_)) (Fin.ext ?_)
  · show _ = win0_7.index t 0 * 1 + 1 * (y 0).val
    have : (y 0).val < 1 := (y 0).isLt
    rw [idx7 t]; show t.val / 8 = t.val / 8 * 1 + 1 * (y 0).val; omega
  · show _ = win0_7.index t 1 * 256 + 1 * (y 1).val
    rw [idx7 t]; show 256 * (t.val % 8) + (y 1).val = t.val % 8 * 256 + 1 * (y 1).val; omega
  · show _ = win0_7.index t 2 * 2048 + 1 * (y 2).val
    rw [idx7 t]; show (y 2).val = 0 * 2048 + 1 * (y 2).val; omega

end Cert.Kernel17Ideal.Fwd

namespace Cert.Reference17Ideal.Fwd

open Idealize.ShloMosaic Cert.Reference17Ideal Cert.Reference17Ideal.Read Cert.Norm Cert.Lift Cert.Kernel17Ideal.Fwd
open Idealize.ShloMosaic.TcCoe Idealize.SL.Sem

variable (x0 x1 : S2x2048x2048.Idx → EReal) (x2 : S2x1x2048.Idx → EReal) (x3 : S1x2048.Idx → EReal) (x4 x5 : S2x1x2048.Idx → EReal)

theorem mid_at (q : Fin 2) (s j : Fin 2048) : val_main_v2 (F := Ideal) x0 x1 x2 (ix3 q s j) = mid x0 x1 x2 q s j := by
  pointwise [val_main_v2, val_main_v1, val_main_v0]
  rfl

theorem out_at (q : Fin 2) (s j : Fin 2048) : val_main_v22 (F := Ideal) x0 x1 x2 x3 x4 x5 (ix3 q s j) = out x0 x1 x2 x3 x4 x5 q s j := by
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4,
    val_main_v3, val_main_cst, val_main_cst_0, val_main_cst_1, val_main_cst_2]
  simp only [mid_at, lit_2048, lit_eps6]
  rfl

theorem frame : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

theorem algebraic : Cert.algebraic_Kernel17Ideal_Reference17Ideal := by
  intro m g m' g' _ hagree
  refine ⟨_, _, Cert.Kernel17Ideal.Value.run_blocks m g, ?_⟩
  refine (θ_run Cert.Reference17Ideal.defs _ _).mono (fun r h c => ?_) (Cert.Reference17Ideal.Value.run (F := Ideal) m' g')
  obtain ⟨h0, h1, hargs⟩ := h c
  obtain ⟨a0, a1, a2, a3, a4, a5⟩ := hagree c
  refine ⟨h0.trans ?_, h1.trans ?_, hargs⟩
  · rw [val_main_v2_eq]
    simp only [a0, a1, a2]
    exact (arr_ext (mid_at _ _ _)).trans (final_mid m c).symm
  · rw [val_main_v22_eq]
    simp only [a0, a1, a2, a3, a4, a5]
    exact (arr_ext (out_at _ _ _ _ _ _)).trans (final m c).symm

end Cert.Reference17Ideal.Fwd
end
-- ==== Proof.NormFirst.lean ====
/- The norm before the mixer of the first layer: the call norms, scales and shifts the step's input, 256 tokens at a point; it and the
   reference run safely and end with the same array. -/
module

public import proofs.«01_k».proof.Proof.NormFwd
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384
set_option maxHeartbeats 1000000

noncomputable section

namespace Cert.Kernel18Ideal.First

open Idealize.ShloMosaic Cert.Kernel18Ideal Cert.Kernel18Ideal.Gen Cert.Norm Cert.Lift
open Idealize.ShloMosaic.TcCoe Idealize.SL.Sem
open Cert.Kernel17Ideal.Fwd (arr arr_ext blk_eta)

/-- The normed input, scaled and shifted, at a token and a channel. -/
def out (x : S2x2048x2048.Idx → EReal) (g : S1x2048.Idx → EReal) (sc sh : S2x1x2048.Idx → EReal) (q : Fin 2) (s : Fin 2048) : Fin 2048 → EReal :=
  scaled (fun j => x (ix3 q s j)) (fun j => g (ix2 0 j)) (fun j => sc (ix3 q 0 j)) (fun j => sh (ix3 q 0 j))

theorem tile (x0 : Vec Ideal S1x256x2048 .f32) (x1 : Vec Ideal S1x2048 .f32) (x2 x3 : Vec Ideal S1x1x2048 .f32) (a : Fin 256) (j : Fin 2048) :
    out0_4 x0 x1 x2 x3 (ix3 0 a j)
      = scaled (fun j => x0 (ix3 0 a j)) (fun j => x1 (ix2 0 j)) (fun j => x2 (ix3 0 0 j)) (fun j => x3 (ix3 0 0 j)) j := by
  unfold out0_4; frame_out
  pointwise [k0_pay1]
  simp only [lit_2048, lit_eps6]
  rfl

variable (m : (ℓ : Loc nD τ sig) → Buf (Elt Ideal) ℓ) (c : Dev nD) (t : Fin cfg0.N)

theorem idx0 : ∀ t : Fin cfg0.N, win0_0.index t = ![t.val / 8, t.val % 8, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val / 8, 0, 0] := (by decide +kernel : ∀ t : Fin grid0.N, _)
theorem idx4 : ∀ t : Fin cfg0.N, win0_4.index t = ![t.val / 8, t.val % 8, 0] := (by decide +kernel : ∀ t : Fin grid0.N, _)

/-- The sequence of a point, and the token of one of its rows. -/
abbrev seq : Fin 2 := ⟨t.val / 8, by have : t.val < 16 := t.isLt; omega⟩
abbrev tok (a : Fin 256) : Fin 2048 := ⟨256 * (t.val % 8) + a.val, by omega⟩

theorem read0 (a : Fin 256) (j : Fin 2048) : iblk m c 0 t (ix3 0 a j) = m ((c : Thread nD τ).loc main_arg0) (ix3 (seq t) (tok t a) j) := by
  blk_point [iblk, V, idx0 t]
theorem read1 (j : Fin 2048) : iblk m c 1 t (ix2 0 j) = m ((c : Thread nD τ).loc main_arg1) (ix2 0 j) := by
  blk_point [iblk, V, idx1 t]
theorem read2 (j : Fin 2048) : iblk m c 2 t (ix3 0 0 j) = m ((c : Thread nD τ).loc main_arg2) (ix3 (seq t) 0 j) := by
  blk_point [iblk, V, idx2 t]
theorem read3 (j : Fin 2048) : iblk m c 3 t (ix3 0 0 j) = m ((c : Thread nD τ).loc main_arg3) (ix3 (seq t) 0 j) := by
  blk_point [iblk, V, idx3 t]

theorem at_point (a : Fin 256) (j : Fin 2048) : out0_4 (iblk m c 0 t) (iblk m c 1 t) (iblk m c 2 t) (iblk m c 3 t) (ix3 0 a j)
    = out (m ((c : Thread nD τ).loc main_arg0)) (m ((c : Thread nD τ).loc main_arg1)) (m ((c : Thread nD τ).loc main_arg2))
      (m ((c : Thread nD τ).loc main_arg3)) (seq t) (tok t a) j := by
  rw [tile]
  simp only [out, read0, read1, read2, read3]

theorem final : (dats m 0 c).arrAt 4 cfg0.N = arr (out (m ((c : Thread nD τ).loc main_arg0)) (m ((c : Thread nD τ).loc main_arg1))
    (m ((c : Thread nD τ).loc main_arg2)) (m ((c : Thread nD τ).loc main_arg3))) := by
  refine (dats m 0 c).arrAt_eq_of_covers 4 _ (by decide +kernel) fun t _ y => ?_
  blk_simp
  rw [after0_4]
  refine (congrArg (out0_4 _ _ _ _) (blk_eta y)).trans ((at_point m c t (y 1) (y 2)).trans ?_)
  refine congr (congrArg₂ (out _ _ _ _) (Fin.ext ?_) (Fin.ext ?_)) (Fin.ext ?_)
  · show _ = win0_4.index t 0 * 1 + 1 * (y 0).val
    have : (y 0).val < 1 := (y 0).isLt
    rw [idx4 t]; show t.val / 8 = t.val / 8 * 1 + 1 * (y 0).val; omega
  · show _ = win0_4.index t 1 * 256 + 1 * (y 1).val
    rw [idx4 t]; show 256 * (t.val % 8) + (y 1).val = t.val % 8 * 256 + 1 * (y 1).val; omega
  · show _ = win0_4.index t 2 * 2048 + 1 * (y 2).val
    rw [idx4 t]; show (y 2).val = 0 * 2048 + 1 * (y 2).val; omega

end Cert.Kernel18Ideal.First

namespace Cert.Reference18Ideal.First

open Idealize.ShloMosaic Cert.Reference18Ideal Cert.Reference18Ideal.Read Cert.Norm Cert.Lift Cert.Kernel18Ideal.First
open Idealize.ShloMosaic.TcCoe Idealize.SL.Sem
open Cert.Kernel17Ideal.Fwd (arr arr_ext)

theorem out_at (x0 : S2x2048x2048.Idx → EReal) (x1 : S1x2048.Idx → EReal) (x2 x3 : S2x1x2048.Idx → EReal) (q : Fin 2) (s j : Fin 2048) :
    val_main_v19 (F := Ideal) x0 x1 x2 x3 (ix3 q s j) = out x0 x1 x2 x3 q s j := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, val_main_cst_2]
  simp only [lit_2048, lit_eps6]
  rfl

theorem frame : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic : Cert.algebraic_Kernel18Ideal_Reference18Ideal := by
  intro m g m' g' _ hagree
  refine ⟨_, Cert.Kernel18Ideal.Value.run_blocks m g, ?_⟩
  refine (θ_run Cert.Reference18Ideal.defs _ _).mono (fun r h c => ?_) (Cert.Reference18Ideal.Value.run (F := Ideal) m' g')
  obtain ⟨h0, hargs⟩ := h c
  obtain ⟨a0, a1, a2, a3⟩ := hagree c
  refine ⟨h0.trans ?_, hargs⟩
  rw [val_main_v19_eq]
  simp only [a0, a1, a2, a3]
  exact (arr_ext (out_at _ _ _ _)).trans (final m c).symm

end Cert.Reference18Ideal.First
end
-- ==== Proof.ProjIn.lean ====
/- The input projection: each tile of the kernel is the product of a block of 1024 rows with a block of 1536 columns of the weights,
   and so the array it leaves is the product that the reference computes. -/
module

public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Mat
public import proofs.«01_k».proof.Defs

@[expose] public section

set_option maxRecDepth 16384

noncomputable section

namespace Cert.Kernel6Ideal.Prod

open Idealize.ShloMosaic Cert.Kernel6Ideal Cert.Kernel6Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

theorem read_x (a : Fin 1024) (k : Fin 2048) (i : Fin 4096) (h : i.val = 1024 * (t.val / 3) + a.val) :
    iblk m c 0 t (ix2 a k) = m ((c : Thread nD τ).loc main_arg0) (ix2 i k) := by
  obtain ⟨i, hi⟩ := i
  obtain rfl : i = _ := h
  blk_point [iblk, V, idx0 t]

theorem read_w (k : Fin 2048) (b : Fin 1536) (j : Fin 4608) (h : j.val = 1536 * (t.val % 3) + b.val) :
    iblk m c 1 t (ix2 k b) = m ((c : Thread nD τ).loc main_arg1) (ix2 k j) := by
  obtain ⟨j, hj⟩ := j
  obtain rfl : j = _ := h
  blk_point [iblk, V, idx1 t]

theorem tile (x0 : Vec Ideal S1024x2048 .bf16) (x1 : Vec Ideal S2048x1536 .bf16) (a : Fin 1024) (b : Fin 1536) :
    out0_2 x0 x1 (ix2 a b) = Mat.nn (x0 : _ → EReal) x1 a b := by
  unfold out0_2; frame_out
  pointwise [k0_pay1]
  rfl

/-- What point `t` computes is its tile of the product. -/
theorem at_point (a : Fin 1024) (b : Fin 1536) (i : S4096x4608.Idx) (h0 : (i 0).val = 1024 * (t.val / 3) + a.val)
    (h1 : (i 1).val = 1536 * (t.val % 3) + b.val) : out0_2 (iblk m c 0 t) (iblk m c 1 t) (ix2 a b)
      = Mat.of (Mat.nn (m ((c : Thread nD τ).loc main_arg0)) (m ((c : Thread nD τ).loc main_arg1))) i := by
  rw [tile]
  exact Finset.sum_congr rfl fun k _ => congrArg₂ (fun p q : EReal => p * q) (read_x m c t a k _ h0) (read_w m c t k b _ h1)

theorem final : (dats m 0 c).arrAt 2 cfg0.N
    = Mat.of (Mat.nn (m ((c : Thread nD τ).loc main_arg0)) (m ((c : Thread nD τ).loc main_arg1))) := by
  refine (dats m 0 c).arrAt_eq_of_covers 2 _ (by decide +kernel) fun t _ y => ?_
  blk_simp
  rw [after0_2]
  refine (congrArg (out0_2 _ _) (Mat.eta y)).trans (at_point m c t _ _ _ ?_ ?_)
  · show win0_2.index t 0 * 1024 + 1 * (y 0).val = _
    rw [idx2 t]; show t.val / 3 * 1024 + 1 * (y 0).val = _; omega
  · show win0_2.index t 1 * 1536 + 1 * (y 1).val = _
    rw [idx2 t]; show t.val % 3 * 1536 + 1 * (y 1).val = _; omega

end Cert.Kernel6Ideal.Prod

namespace Cert.Reference6Ideal.Prod

open Idealize.ShloMosaic Cert.Reference6Ideal Cert.Reference6Ideal.Gen Cert.Reference6Ideal.Read
open Idealize.ShloMosaic.TcCoe Idealize.SL.Sem

theorem res (x : S4096x2048.Idx → EReal) (w : S2048x4608.Idx → EReal) :
    val_main_v2 (F := Ideal) x w = Mat.of (Mat.nn x w) := Mat.ext fun i j => by
  pointwise [val_main_v2, val_main_v1, val_main_v0]
  rfl

theorem frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m g m' g' _ hagree
  refine ⟨_, Cert.Kernel6Ideal.Value.run_blocks m g, ?_⟩
  refine (θ_run Cert.Reference6Ideal.defs _ _).mono (fun r h c => ?_) (Cert.Reference6Ideal.Value.run (F := Ideal) m' g')
  obtain ⟨h0, hargs⟩ := h c
  obtain ⟨a0, a1⟩ := hagree c
  refine ⟨h0.trans ?_, hargs⟩
  rw [Cert.Reference6Ideal.Read.val_main_v2_eq]
  simp only [StableHlo.launchContents_devRef, a0, a1]
  rw [Cert.Kernel6Ideal.Prod.final]
  exact res _ _

end Cert.Reference6Ideal.Prod

end
-- ==== Proof.ProjInDx.lean ====
/- The gradient of the input projection's input: as for the output projection, over all 4608 columns of the projection. -/
module

public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Mat
public import proofs.«01_k».proof.Defs

@[expose] public section

set_option maxRecDepth 16384

noncomputable section

namespace Cert.Kernel11Ideal.Prod

open Idealize.ShloMosaic Cert.Kernel11Ideal Cert.Kernel11Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem read_x (a : Fin 1024) (k : Fin 4608) (i : Fin 4096) (h : i.val = 1024 * (t.val / 2) + a.val) :
    iblk m c 0 t (ix2 a k) = m ((c : Thread nD τ).loc main_arg0) (ix2 i k) := by
  obtain ⟨i, hi⟩ := i
  obtain rfl : i = _ := h
  blk_point [iblk, V, idx0 t]

theorem read_w (b : Fin 1024) (k : Fin 4608) (j : Fin 2048) (h : j.val = 1024 * (t.val % 2) + b.val) :
    iblk m c 1 t (ix2 b k) = m ((c : Thread nD τ).loc main_arg1) (ix2 j k) := by
  obtain ⟨j, hj⟩ := j
  obtain rfl : j = _ := h
  blk_point [iblk, V, idx1 t]

theorem tile (x0 : Vec Ideal S1024x4608 .bf16) (x1 : Vec Ideal S1024x4608 .bf16) (a b : Fin 1024) :
    out0_2 x0 x1 (ix2 a b) = Mat.nt (x0 : _ → EReal) x1 a b := by
  unfold out0_2; frame_out
  pointwise [k0_pay1]
  rfl

/-- What point `t` computes is its tile of the product. -/
theorem at_point (a b : Fin 1024) (i : S4096x2048.Idx) (h0 : (i 0).val = 1024 * (t.val / 2) + a.val)
    (h1 : (i 1).val = 1024 * (t.val % 2) + b.val) : out0_2 (iblk m c 0 t) (iblk m c 1 t) (ix2 a b)
      = Mat.of (Mat.nt (m ((c : Thread nD τ).loc main_arg0)) (m ((c : Thread nD τ).loc main_arg1))) i := by
  rw [tile]
  exact Finset.sum_congr rfl fun k _ => congrArg₂ (fun p q : EReal => p * q) (read_x m c t a k _ h0) (read_w m c t b k _ h1)

theorem final : (dats m 0 c).arrAt 2 cfg0.N
    = Mat.of (Mat.nt (m ((c : Thread nD τ).loc main_arg0)) (m ((c : Thread nD τ).loc main_arg1))) := by
  refine (dats m 0 c).arrAt_eq_of_covers 2 _ (by decide +kernel) fun t _ y => ?_
  blk_simp
  rw [after0_2]
  refine (congrArg (out0_2 _ _) (Mat.eta y)).trans (at_point m c t _ _ _ ?_ ?_)
  · show win0_2.index t 0 * 1024 + 1 * (y 0).val = _
    rw [idx2 t]; show t.val / 2 * 1024 + 1 * (y 0).val = _; omega
  · show win0_2.index t 1 * 1024 + 1 * (y 1).val = _
    rw [idx2 t]; show t.val % 2 * 1024 + 1 * (y 1).val = _; omega

end Cert.Kernel11Ideal.Prod

namespace Cert.Reference11Ideal.Prod

open Idealize.ShloMosaic Cert.Reference11Ideal Cert.Reference11Ideal.Gen Cert.Reference11Ideal.Read
open Idealize.ShloMosaic.TcCoe Idealize.SL.Sem

theorem res (x : S4096x4608.Idx → EReal) (w : S2048x4608.Idx → EReal) :
    val_main_v5 (F := Ideal) x w = Mat.of (Mat.nt x w) := Mat.ext fun i j => by
  pointwise [val_main_v5, val_main_v4, val_main_v3, val_main_v1, val_main_v0]
  rfl

theorem frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m g m' g' _ hagree
  refine ⟨_, Cert.Kernel11Ideal.Value.run_blocks m g, ?_⟩
  refine (θ_run Cert.Reference11Ideal.defs _ _).mono (fun r h c => ?_) (Cert.Reference11Ideal.Value.run (F := Ideal) m' g')
  obtain ⟨h0, hargs⟩ := h c
  obtain ⟨a0, a1⟩ := hagree c
  refine ⟨h0.trans ?_, hargs⟩
  rw [Cert.Reference11Ideal.Read.val_main_v5_eq]
  simp only [StableHlo.launchContents_devRef, a0, a1]
  rw [Cert.Kernel11Ideal.Prod.final]
  exact res _ _

end Cert.Reference11Ideal.Prod

end
-- ==== Proof.ProjInDw.lean ====
/- The gradient of the input projection's weights: each tile of the kernel is the product, over all 4096 tokens, of 1024 columns of
   the input with 1536 columns of the incoming gradient, and the array it leaves is the gradient that the reference computes. -/
module

public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Mat
public import proofs.«01_k».proof.Defs

@[expose] public section

set_option maxRecDepth 16384

noncomputable section

namespace Cert.Kernel10Ideal.Prod

open Idealize.ShloMosaic Cert.Kernel10Ideal Cert.Kernel10Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![0, t.val / 3] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

theorem read_x (k : Fin 4096) (a : Fin 1024) (i : Fin 2048) (h : i.val = 1024 * (t.val / 3) + a.val) :
    iblk m c 0 t (ix2 k a) = m ((c : Thread nD τ).loc main_arg0) (ix2 k i) := by
  obtain ⟨i, hi⟩ := i
  obtain rfl : i = _ := h
  blk_point [iblk, V, idx0 t]

theorem read_d (k : Fin 4096) (b : Fin 1536) (j : Fin 4608) (h : j.val = 1536 * (t.val % 3) + b.val) :
    iblk m c 1 t (ix2 k b) = m ((c : Thread nD τ).loc main_arg1) (ix2 k j) := by
  obtain ⟨j, hj⟩ := j
  obtain rfl : j = _ := h
  blk_point [iblk, V, idx1 t]

theorem tile (x0 : Vec Ideal S4096x1024 .bf16) (x1 : Vec Ideal S4096x1536 .bf16) (a : Fin 1024) (b : Fin 1536) :
    out0_2 x0 x1 (ix2 a b) = Mat.tn (x0 : _ → EReal) x1 a b := by
  unfold out0_2; frame_out
  pointwise [k0_pay1]
  rfl

/-- What point `t` computes is its tile of the product. -/
theorem at_point (a : Fin 1024) (b : Fin 1536) (i : S2048x4608.Idx) (h0 : (i 0).val = 1024 * (t.val / 3) + a.val)
    (h1 : (i 1).val = 1536 * (t.val % 3) + b.val) : out0_2 (iblk m c 0 t) (iblk m c 1 t) (ix2 a b)
      = Mat.of (Mat.tn (m ((c : Thread nD τ).loc main_arg0)) (m ((c : Thread nD τ).loc main_arg1))) i := by
  rw [tile]
  exact Finset.sum_congr rfl fun k _ => congrArg₂ (fun p q : EReal => p * q) (read_x m c t k a _ h0) (read_d m c t k b _ h1)

theorem final : (dats m 0 c).arrAt 2 cfg0.N
    = Mat.of (Mat.tn (m ((c : Thread nD τ).loc main_arg0)) (m ((c : Thread nD τ).loc main_arg1))) := by
  refine (dats m 0 c).arrAt_eq_of_covers 2 _ (by decide +kernel) fun t _ y => ?_
  blk_simp
  rw [after0_2]
  refine (congrArg (out0_2 _ _) (Mat.eta y)).trans (at_point m c t _ _ _ ?_ ?_)
  · show win0_2.index t 0 * 1024 + 1 * (y 0).val = _
    rw [idx2 t]; show t.val / 3 * 1024 + 1 * (y 0).val = _; omega
  · show win0_2.index t 1 * 1536 + 1 * (y 1).val = _
    rw [idx2 t]; show t.val % 3 * 1536 + 1 * (y 1).val = _; omega

end Cert.Kernel10Ideal.Prod

namespace Cert.Reference10Ideal.Prod

open Idealize.ShloMosaic Cert.Reference10Ideal Cert.Reference10Ideal.Gen Cert.Reference10Ideal.Read
open Idealize.ShloMosaic.TcCoe Idealize.SL.Sem

theorem res (x : S4096x2048.Idx → EReal) (d : S4096x4608.Idx → EReal) :
    val_main_v6 (F := Ideal) x d = Mat.of (Mat.tn x d) := Mat.ext fun i j => by
  pointwise [val_main_v6, val_main_v5, val_main_v4, val_main_v3, val_main_v1, val_main_v0]
  exact Finset.sum_congr rfl fun k _ => mul_comm _ _

theorem frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m g m' g' _ hagree
  refine ⟨_, Cert.Kernel10Ideal.Value.run_blocks m g, ?_⟩
  refine (θ_run Cert.Reference10Ideal.defs _ _).mono (fun r h c => ?_) (Cert.Reference10Ideal.Value.run (F := Ideal) m' g')
  obtain ⟨h0, hargs⟩ := h c
  obtain ⟨a0, a1⟩ := hagree c
  refine ⟨h0.trans ?_, hargs⟩
  rw [Cert.Reference10Ideal.Read.val_main_v6_eq]
  simp only [StableHlo.launchContents_devRef, a0, a1]
  rw [Cert.Kernel10Ideal.Prod.final]
  exact res _ _

end Cert.Reference10Ideal.Prod

end
-- ==== Proof.ProjOut.lean ====
/- The output projection of the mixers: each tile of the kernel is the product of a block of 1024 rows with a block of 1024 columns of
   the weights, and so the array it leaves is the product that the reference computes. -/
module

public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Mat
public import proofs.«01_k».proof.Defs

@[expose] public section

set_option maxRecDepth 16384

noncomputable section

namespace Cert.Kernel7Ideal.Prod

open Idealize.ShloMosaic Cert.Kernel7Ideal Cert.Kernel7Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem read_x (a : Fin 1024) (k : Fin 2048) (i : Fin 4096) (h : i.val = 1024 * (t.val / 2) + a.val) :
    iblk m c 0 t (ix2 a k) = m ((c : Thread nD τ).loc main_arg0) (ix2 i k) := by
  obtain ⟨i, hi⟩ := i
  obtain rfl : i = _ := h
  blk_point [iblk, V, idx0 t]

theorem read_w (k : Fin 2048) (b : Fin 1024) (j : Fin 2048) (h : j.val = 1024 * (t.val % 2) + b.val) :
    iblk m c 1 t (ix2 k b) = m ((c : Thread nD τ).loc main_arg1) (ix2 k j) := by
  obtain ⟨j, hj⟩ := j
  obtain rfl : j = _ := h
  blk_point [iblk, V, idx1 t]

theorem tile (x0 : Vec Ideal S1024x2048 .bf16) (x1 : Vec Ideal S2048x1024 .bf16) (a b : Fin 1024) :
    out0_2 x0 x1 (ix2 a b) = Mat.nn (x0 : _ → EReal) x1 a b := by
  unfold out0_2; frame_out
  pointwise [k0_pay1]
  rfl

/-- What point `t` computes is its tile of the product. -/
theorem at_point (a b : Fin 1024) (i : S4096x2048.Idx) (h0 : (i 0).val = 1024 * (t.val / 2) + a.val)
    (h1 : (i 1).val = 1024 * (t.val % 2) + b.val) : out0_2 (iblk m c 0 t) (iblk m c 1 t) (ix2 a b)
      = Mat.of (Mat.nn (m ((c : Thread nD τ).loc main_arg0)) (m ((c : Thread nD τ).loc main_arg1))) i := by
  rw [tile]
  exact Finset.sum_congr rfl fun k _ => congrArg₂ (fun p q : EReal => p * q) (read_x m c t a k _ h0) (read_w m c t k b _ h1)

theorem final : (dats m 0 c).arrAt 2 cfg0.N
    = Mat.of (Mat.nn (m ((c : Thread nD τ).loc main_arg0)) (m ((c : Thread nD τ).loc main_arg1))) := by
  refine (dats m 0 c).arrAt_eq_of_covers 2 _ (by decide +kernel) fun t _ y => ?_
  blk_simp
  rw [after0_2]
  refine (congrArg (out0_2 _ _) (Mat.eta y)).trans (at_point m c t _ _ _ ?_ ?_)
  · show win0_2.index t 0 * 1024 + 1 * (y 0).val = _
    rw [idx2 t]; show t.val / 2 * 1024 + 1 * (y 0).val = _; omega
  · show win0_2.index t 1 * 1024 + 1 * (y 1).val = _
    rw [idx2 t]; show t.val % 2 * 1024 + 1 * (y 1).val = _; omega

end Cert.Kernel7Ideal.Prod

namespace Cert.Reference7Ideal.Prod

open Idealize.ShloMosaic Cert.Reference7Ideal Cert.Reference7Ideal.Gen Cert.Reference7Ideal.Read
open Idealize.ShloMosaic.TcCoe Idealize.SL.Sem

theorem res (x : S4096x2048.Idx → EReal) (w : S2048x2048.Idx → EReal) :
    val_main_v2 (F := Ideal) x w = Mat.of (Mat.nn x w) := Mat.ext fun i j => by
  pointwise [val_main_v2, val_main_v1, val_main_v0]
  rfl

theorem frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m g m' g' _ hagree
  refine ⟨_, Cert.Kernel7Ideal.Value.run_blocks m g, ?_⟩
  refine (θ_run Cert.Reference7Ideal.defs _ _).mono (fun r h c => ?_) (Cert.Reference7Ideal.Value.run (F := Ideal) m' g')
  obtain ⟨h0, hargs⟩ := h c
  obtain ⟨a0, a1⟩ := hagree c
  refine ⟨h0.trans ?_, hargs⟩
  rw [Cert.Reference7Ideal.Read.val_main_v2_eq]
  simp only [StableHlo.launchContents_devRef, a0, a1]
  rw [Cert.Kernel7Ideal.Prod.final]
  exact res _ _

end Cert.Reference7Ideal.Prod

end
-- ==== Proof.ProjOutDx.lean ====
/- The gradient of the mixers' concatenated output: each tile of the kernel is the product of a block of 1024 rows of the incoming
   gradient with a block of 1024 rows of the weights, and the array it leaves is the gradient that the reference computes. -/
module

public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Mat
public import proofs.«01_k».proof.Defs

@[expose] public section

set_option maxRecDepth 16384

noncomputable section

namespace Cert.Kernel8Ideal.Prod

open Idealize.ShloMosaic Cert.Kernel8Ideal Cert.Kernel8Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem read_x (a : Fin 1024) (k : Fin 2048) (i : Fin 4096) (h : i.val = 1024 * (t.val / 2) + a.val) :
    iblk m c 0 t (ix2 a k) = m ((c : Thread nD τ).loc main_arg0) (ix2 i k) := by
  obtain ⟨i, hi⟩ := i
  obtain rfl : i = _ := h
  blk_point [iblk, V, idx0 t]

theorem read_w (b : Fin 1024) (k : Fin 2048) (j : Fin 2048) (h : j.val = 1024 * (t.val % 2) + b.val) :
    iblk m c 1 t (ix2 b k) = m ((c : Thread nD τ).loc main_arg1) (ix2 j k) := by
  obtain ⟨j, hj⟩ := j
  obtain rfl : j = _ := h
  blk_point [iblk, V, idx1 t]

theorem tile (x0 : Vec Ideal S1024x2048 .bf16) (x1 : Vec Ideal S1024x2048 .bf16) (a b : Fin 1024) :
    out0_2 x0 x1 (ix2 a b) = Mat.nt (x0 : _ → EReal) x1 a b := by
  unfold out0_2; frame_out
  pointwise [k0_pay1]
  rfl

/-- What point `t` computes is its tile of the product. -/
theorem at_point (a b : Fin 1024) (i : S4096x2048.Idx) (h0 : (i 0).val = 1024 * (t.val / 2) + a.val)
    (h1 : (i 1).val = 1024 * (t.val % 2) + b.val) : out0_2 (iblk m c 0 t) (iblk m c 1 t) (ix2 a b)
      = Mat.of (Mat.nt (m ((c : Thread nD τ).loc main_arg0)) (m ((c : Thread nD τ).loc main_arg1))) i := by
  rw [tile]
  exact Finset.sum_congr rfl fun k _ => congrArg₂ (fun p q : EReal => p * q) (read_x m c t a k _ h0) (read_w m c t b k _ h1)

theorem final : (dats m 0 c).arrAt 2 cfg0.N
    = Mat.of (Mat.nt (m ((c : Thread nD τ).loc main_arg0)) (m ((c : Thread nD τ).loc main_arg1))) := by
  refine (dats m 0 c).arrAt_eq_of_covers 2 _ (by decide +kernel) fun t _ y => ?_
  blk_simp
  rw [after0_2]
  refine (congrArg (out0_2 _ _) (Mat.eta y)).trans (at_point m c t _ _ _ ?_ ?_)
  · show win0_2.index t 0 * 1024 + 1 * (y 0).val = _
    rw [idx2 t]; show t.val / 2 * 1024 + 1 * (y 0).val = _; omega
  · show win0_2.index t 1 * 1024 + 1 * (y 1).val = _
    rw [idx2 t]; show t.val % 2 * 1024 + 1 * (y 1).val = _; omega

end Cert.Kernel8Ideal.Prod

namespace Cert.Reference8Ideal.Prod

open Idealize.ShloMosaic Cert.Reference8Ideal Cert.Reference8Ideal.Gen Cert.Reference8Ideal.Read
open Idealize.ShloMosaic.TcCoe Idealize.SL.Sem

theorem res (x : S4096x2048.Idx → EReal) (w : S2048x2048.Idx → EReal) :
    val_main_v5 (F := Ideal) x w = Mat.of (Mat.nt x w) := Mat.ext fun i j => by
  pointwise [val_main_v5, val_main_v4, val_main_v3, val_main_v1, val_main_v0]
  rfl

theorem frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m g m' g' _ hagree
  refine ⟨_, Cert.Kernel8Ideal.Value.run_blocks m g, ?_⟩
  refine (θ_run Cert.Reference8Ideal.defs _ _).mono (fun r h c => ?_) (Cert.Reference8Ideal.Value.run (F := Ideal) m' g')
  obtain ⟨h0, hargs⟩ := h c
  obtain ⟨a0, a1⟩ := hagree c
  refine ⟨h0.trans ?_, hargs⟩
  rw [Cert.Reference8Ideal.Read.val_main_v5_eq]
  simp only [StableHlo.launchContents_devRef, a0, a1]
  rw [Cert.Kernel8Ideal.Prod.final]
  exact res _ _

end Cert.Reference8Ideal.Prod

end
-- ==== Proof.ProjOutDw.lean ====
/- The gradient of the output projection's weights: each tile of the kernel is the product, over all 4096 tokens, of 1024 columns of
   the mixers' output with 1024 columns of the incoming gradient, and the array it leaves is the gradient that the reference computes. -/
module

public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Mat
public import proofs.«01_k».proof.Defs

@[expose] public section

set_option maxRecDepth 16384

noncomputable section

namespace Cert.Kernel9Ideal.Prod

open Idealize.ShloMosaic Cert.Kernel9Ideal Cert.Kernel9Ideal.Gen
open Idealize.ShloMosaic.TcCoe Idealize.SL.Sem

variable (m : (ℓ : Loc nD τ sig) → Buf (Elt Ideal) ℓ) (c : Dev nD) (t : Fin cfg0.N)

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

theorem read_x (k : Fin 4096) (a : Fin 1024) (i : Fin 2048) (h : i.val = 1024 * (t.val / 2) + a.val) :
    iblk m c 0 t (ix2 k a) = m ((c : Thread nD τ).loc main_arg0) (ix2 k i) := by
  obtain ⟨i, hi⟩ := i
  obtain rfl : i = _ := h
  blk_point [iblk, V, idx0 t]

theorem read_d (k : Fin 4096) (b : Fin 1024) (j : Fin 2048) (h : j.val = 1024 * (t.val % 2) + b.val) :
    iblk m c 1 t (ix2 k b) = m ((c : Thread nD τ).loc main_arg1) (ix2 k j) := by
  obtain ⟨j, hj⟩ := j
  obtain rfl : j = _ := h
  blk_point [iblk, V, idx1 t]

theorem tile (x0 x1 : Vec Ideal S4096x1024 .bf16) (a b : Fin 1024) :
    out0_2 x0 x1 (ix2 a b) = Mat.tn (x0 : _ → EReal) x1 a b := by
  unfold out0_2; frame_out
  pointwise [k0_pay1]
  rfl

/-- What point `t` computes is its tile of the product. -/
theorem at_point (a b : Fin 1024) (i : S2048x2048.Idx) (h0 : (i 0).val = 1024 * (t.val / 2) + a.val)
    (h1 : (i 1).val = 1024 * (t.val % 2) + b.val) : out0_2 (iblk m c 0 t) (iblk m c 1 t) (ix2 a b)
      = Mat.of (Mat.tn (m ((c : Thread nD τ).loc main_arg0)) (m ((c : Thread nD τ).loc main_arg1))) i := by
  rw [tile]
  exact Finset.sum_congr rfl fun k _ => congrArg₂ (fun p q : EReal => p * q) (read_x m c t k a _ h0) (read_d m c t k b _ h1)

theorem final : (dats m 0 c).arrAt 2 cfg0.N
    = Mat.of (Mat.tn (m ((c : Thread nD τ).loc main_arg0)) (m ((c : Thread nD τ).loc main_arg1))) := by
  refine (dats m 0 c).arrAt_eq_of_covers 2 _ (by decide +kernel) fun t _ y => ?_
  blk_simp
  rw [after0_2]
  refine (congrArg (out0_2 _ _) (Mat.eta y)).trans (at_point m c t _ _ _ ?_ ?_)
  · show win0_2.index t 0 * 1024 + 1 * (y 0).val = _
    rw [idx2 t]; show t.val / 2 * 1024 + 1 * (y 0).val = _; omega
  · show win0_2.index t 1 * 1024 + 1 * (y 1).val = _
    rw [idx2 t]; show t.val % 2 * 1024 + 1 * (y 1).val = _; omega

end Cert.Kernel9Ideal.Prod

namespace Cert.Reference9Ideal.Prod

open Idealize.ShloMosaic Cert.Reference9Ideal Cert.Reference9Ideal.Gen Cert.Reference9Ideal.Read
open Idealize.ShloMosaic.TcCoe Idealize.SL.Sem

theorem res (x : S4096x2048.Idx → EReal) (d : S4096x2048.Idx → EReal) :
    val_main_v6 (F := Ideal) x d = Mat.of (Mat.tn x d) := Mat.ext fun i j => by
  pointwise [val_main_v6, val_main_v5, val_main_v4, val_main_v3, val_main_v1, val_main_v0]
  exact Finset.sum_congr rfl fun k _ => mul_comm _ _

theorem frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m g m' g' _ hagree
  refine ⟨_, Cert.Kernel9Ideal.Value.run_blocks m g, ?_⟩
  refine (θ_run Cert.Reference9Ideal.defs _ _).mono (fun r h c => ?_) (Cert.Reference9Ideal.Value.run (F := Ideal) m' g')
  obtain ⟨h0, hargs⟩ := h c
  obtain ⟨a0, a1⟩ := hagree c
  refine ⟨h0.trans ?_, hargs⟩
  rw [Cert.Reference9Ideal.Read.val_main_v6_eq]
  simp only [StableHlo.launchContents_devRef, a0, a1]
  rw [Cert.Kernel9Ideal.Prod.final]
  exact res _ _

end Cert.Reference9Ideal.Prod

end
-- ==== Proof.lean ====
module

public import proofs.«01_k».proof.Proof.Last
public import proofs.«01_k».proof.Proof.RefSum
public import proofs.«01_k».proof.Proof.Finite
public import proofs.«01_k».proof.Proof.Gen.ReferenceIdeal.Run
public import proofs.«01_k».proof.Proof.Gen.ReferenceIdeal.Read
public import proofs.«01_k».proof.Proof.MlpDa
public import proofs.«01_k».proof.Proof.MlpDh
public import proofs.«01_k».proof.Proof.MlpDownDwOwn
public import proofs.«01_k».proof.Proof.MlpDownDwSib
public import proofs.«01_k».proof.Proof.MlpUpDwOwn
public import proofs.«01_k».proof.Proof.MlpUpDwSib
public import proofs.«01_k».proof.Proof.MlpUp
public import proofs.«01_k».proof.Proof.MlpDown
public import proofs.«01_k».proof.Proof.Loss
public import proofs.«01_k».proof.Proof.Norm
public import proofs.«01_k».proof.Proof.NormFirst
public import proofs.«01_k».proof.Proof.NormFwd
public import proofs.«01_k».proof.Proof.ProjIn
public import proofs.«01_k».proof.Proof.ProjInDx
public import proofs.«01_k».proof.Proof.ProjInDw
public import proofs.«01_k».proof.Proof.ProjOut
public import proofs.«01_k».proof.Proof.ProjOutDx
public import proofs.«01_k».proof.Proof.ProjOutDw
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- Two arrays over the same indices that hold the same reals at every pair of coordinates. -/
theorem ext2 {a b : ℕ} {x y : (⟨2, ![a, b]⟩ : Shape).Idx → EReal} (h : ∀ i j, x (ix2 i j) = y (ix2 i j)) : x = y := by
  funext i
  rw [show i = ix2 (i 0) (i 1) from by funext k; fin_cases k <;> rfl]
  exact h _ _

theorem ext3 {a b c : ℕ} {x y : (⟨3, ![a, b, c]⟩ : Shape).Idx → EReal} (h : ∀ i j k, x (ix3 i j k) = y (ix3 i j k)) : x = y := by
  funext i
  rw [show i = ix3 (i 0) (i 1) (i 2) from by funext k; fin_cases k <;> rfl]
  exact h _ _ _

theorem algebraic : Cert.algebraic_KernelIdeal_ReferenceIdeal_pre_finite_inputs := by
  intro m g m' g' hpre hagree
  refine ⟨_, _, _, _, _, _, _, Cert.KernelIdeal.Value.run_blocks m g, ?_⟩
  refine (θ_run Cert.ReferenceIdeal.defs _ _).mono (fun r h c => ?_) (Cert.ReferenceIdeal.Value.run (F := Ideal) m' g')
  obtain ⟨h0, h1, h2, h3, h4, h5, h6, hargs⟩ := h c
  obtain ⟨a0, a1, a2, a3, a4, a5, a6⟩ := hagree c
  have H := Cert.Finite.holds _ _ _ _ _ _ _ (hpre c)
  have HR : Cert.ReferenceIdeal.Ref.RHolds _ _ _ _ _ _ _ _ := H
  refine ⟨h0.trans ?_, h1.trans ?_, h2.trans ?_, h3.trans ?_, h4.trans ?_, h5.trans ?_, h6.trans ?_, hargs⟩
  · rw [Cert.ReferenceIdeal.Read.val_main_v194_eq]
    simp only [StableHlo.launchContents_devRef, a0, a1, a2, a3, a4, a5, a6]
    exact ext3 fun q s j => (Cert.ReferenceIdeal.Ref.du_at HR q s j).trans (Cert.KernelIdeal.Blk.final_du H q s j).symm
  · rw [Cert.ReferenceIdeal.Read.val_main_v195_eq]
    simp only [StableHlo.launchContents_devRef, a0, a1, a2, a3, a4, a5, a6]
    exact ext3 fun q s j => (Cert.ReferenceIdeal.Ref.dv_at HR q s j).trans (Cert.KernelIdeal.Blk.final_dv H q s j).symm
  · rw [Cert.ReferenceIdeal.Read.val_main_v196_eq]
    simp only [StableHlo.launchContents_devRef, a0, a1, a2, a3, a4, a5, a6]
    refine ext2 fun i j => ?_
    obtain rfl : i = 0 := Subsingleton.elim _ _
    revert j
    exact Cert.KernelIdeal.Blk.by_ch fun h e => (Cert.ReferenceIdeal.Ref.dlng_res HR _).trans (Cert.KernelIdeal.Blk.final_dlng H h e).symm
  · rw [Cert.ReferenceIdeal.Read.val_main_v197_eq]
    simp only [StableHlo.launchContents_devRef, a0, a1, a2, a3, a4, a5, a6]
    refine ext2 fun i j => ?_
    obtain rfl : i = 0 := Subsingleton.elim _ _
    revert j
    exact Cert.KernelIdeal.Blk.by_ch fun h e => (Cert.ReferenceIdeal.Ref.dlnb_res HR _).trans (Cert.KernelIdeal.Blk.final_dlnb H h e).symm
  · rw [Cert.ReferenceIdeal.Read.val_main_v135_eq]
    simp only [StableHlo.launchContents_devRef, a0, a1, a2, a3, a4, a5, a6]
    exact ext3 fun k a e => (Cert.ReferenceIdeal.Ref.dws_at HR k a e).trans (Cert.KernelIdeal.Blk.final_dws H k a e).symm
  · rw [Cert.ReferenceIdeal.Read.val_main_v130_eq]
    simp only [StableHlo.launchContents_devRef, a0, a1, a2, a3, a4, a5, a6]
    refine ext2 fun a => Cert.KernelIdeal.Blk.by_ch fun h e => ?_
    exact (Cert.ReferenceIdeal.Ref.dbs_res HR a _).trans (Cert.KernelIdeal.Blk.final_dbs H h a e).symm
  · rw [Cert.ReferenceIdeal.Read.val_main_v198_eq]
    simp only [StableHlo.launchContents_devRef, a0, a1, a2, a3, a4, a5, a6]
    refine ext2 fun i j => ?_
    obtain rfl : i = 0 := Subsingleton.elim _ _
    exact (Cert.ReferenceIdeal.Ref.dog_at HR j).trans (Cert.KernelIdeal.Blk.final_dog H j).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Finite.facts, Cert.Reference12Ideal.Half.facts, Cert.Reference13Ideal.Half.facts, Cert.Reference14Ideal.Half.facts, Cert.Reference15Ideal.Half.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.Reference2Ideal.Mlp.frame,
    fun m ρ _ => Cert.Kernel3.Gen.frame m ρ, fun m ρ _ => Cert.Kernel3Ideal.Gen.frame m ρ, Cert.Reference3Ideal.Mlp.frame,
    fun m ρ _ => Cert.Kernel4.Gen.frame m ρ, fun m ρ _ => Cert.Kernel4Ideal.Gen.frame m ρ, Cert.Reference4Ideal.Prod.frame,
    fun m ρ _ => Cert.Kernel5.Gen.frame m ρ, fun m ρ _ => Cert.Kernel5Ideal.Gen.frame m ρ, Cert.Reference5Ideal.Prod.frame,
    fun m ρ _ => Cert.Kernel6.Gen.frame m ρ, fun m ρ _ => Cert.Kernel6Ideal.Gen.frame m ρ, Cert.Reference6Ideal.Prod.frame,
    fun m ρ _ => Cert.Kernel7.Gen.frame m ρ, fun m ρ _ => Cert.Kernel7Ideal.Gen.frame m ρ, Cert.Reference7Ideal.Prod.frame,
    fun m ρ _ => Cert.Kernel8.Gen.frame m ρ, fun m ρ _ => Cert.Kernel8Ideal.Gen.frame m ρ, Cert.Reference8Ideal.Prod.frame,
    fun m ρ _ => Cert.Kernel9.Gen.frame m ρ, fun m ρ _ => Cert.Kernel9Ideal.Gen.frame m ρ, Cert.Reference9Ideal.Prod.frame,
    fun m ρ _ => Cert.Kernel10.Gen.frame m ρ, fun m ρ _ => Cert.Kernel10Ideal.Gen.frame m ρ, Cert.Reference10Ideal.Prod.frame,
    fun m ρ _ => Cert.Kernel11.Gen.frame m ρ, fun m ρ _ => Cert.Kernel11Ideal.Gen.frame m ρ, Cert.Reference11Ideal.Prod.frame,
    Cert.Reference12Ideal.Half.frame_kernel, Cert.Reference12Ideal.Half.frame_ideal, Cert.Reference12Ideal.Half.frame, fun m ρ _ => Cert.Reference12Ideal.Half.frame m ρ trivial,
    Cert.Reference13Ideal.Half.frame_kernel, Cert.Reference13Ideal.Half.frame_ideal, Cert.Reference13Ideal.Half.frame, fun m ρ _ => Cert.Reference13Ideal.Half.frame m ρ trivial,
    Cert.Reference14Ideal.Half.frame_kernel, Cert.Reference14Ideal.Half.frame_ideal, Cert.Reference14Ideal.Half.frame, fun m ρ _ => Cert.Reference14Ideal.Half.frame m ρ trivial,
    Cert.Reference15Ideal.Half.frame_kernel, Cert.Reference15Ideal.Half.frame_ideal, Cert.Reference15Ideal.Half.frame, fun m ρ _ => Cert.Reference15Ideal.Half.frame m ρ trivial,
    fun m ρ _ => Cert.Kernel16.Gen.frame m ρ, fun m ρ _ => Cert.Kernel16Ideal.Gen.frame m ρ, Cert.Norm.frame,
    fun m ρ _ => Cert.Kernel17.Gen.frame m ρ, fun m ρ _ => Cert.Kernel17Ideal.Gen.frame m ρ, Cert.Reference17Ideal.Fwd.frame,
    fun m ρ _ => Cert.Kernel18.Gen.frame m ρ, fun m ρ _ => Cert.Kernel18Ideal.Gen.frame m ρ, Cert.Reference18Ideal.First.frame,
    fun m ρ _ => Cert.Kernel19.Gen.frame m ρ, fun m ρ _ => Cert.Kernel19Ideal.Gen.frame m ρ, Cert.Loss.frame,
    ⟨IdealRules.named_const.statement Cert.KernelIdeal.κ "gelu_c" .f32 0x3D372713#32 _ rfl,
      IdealRules.named_const.statement Cert.KernelIdeal.κ "gelu_3c" .f32 0x3E095D4F#32 _ rfl⟩,
    algebraic,
    trivial, Cert.Reference2Ideal.Mlp.algebraic,
    trivial, Cert.Reference3Ideal.Mlp.algebraic,
    trivial, Cert.Reference4Ideal.Prod.algebraic,
    trivial, Cert.Reference5Ideal.Prod.algebraic,
    trivial, Cert.Reference6Ideal.Prod.algebraic,
    trivial, Cert.Reference7Ideal.Prod.algebraic,
    trivial, Cert.Reference8Ideal.Prod.algebraic,
    trivial, Cert.Reference9Ideal.Prod.algebraic,
    trivial, Cert.Reference10Ideal.Prod.algebraic,
    trivial, Cert.Reference11Ideal.Prod.algebraic,
    trivial, Cert.Reference12Ideal.Half.algebraic,
    trivial, Cert.Reference13Ideal.Half.algebraic,
    trivial, Cert.Reference14Ideal.Half.algebraic,
    trivial, Cert.Reference15Ideal.Half.algebraic,
    trivial, Cert.Norm.algebraic,
    trivial, Cert.Reference17Ideal.Fwd.algebraic,
    trivial, Cert.Reference18Ideal.First.algebraic,
    trivial, Cert.Loss.algebraic⟩

end Cert.Proof

end
